-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_scores_finite [hPre_scores_finite : Cert.Pre_scores_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_scores_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_scores_finite [hPre_scores_finite : Cert.Pre_scores_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_scores_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_scores_finite [hKernel5Ideal : Cert.Kernel5Ideal.Facts] [hPre_scores_finite : Cert.Pre_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_scores_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_scores_finite [hReference5Ideal : Cert.Reference5Ideal.Facts] [hPre_scores_finite : Cert.Pre_scores_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_scores_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.bf16_pair.BufferStatement Cert.KernelIdeal.S128x16x8x2x128 Cert.KernelIdeal.S128x16x8x1x128
  ∧ IdealRules.bf16_pair.Statement Cert.KernelIdeal.S16x2x128 Cert.KernelIdeal.S16x1x128
  ∧ IdealRules.bf16_pair.Statement Cert.KernelIdeal.S128x1x8x2x128 Cert.KernelIdeal.S128x1x8x1x128
  ∧ IdealRules.bf16_pair.Statement Cert.KernelIdeal.S2048x2048 Cert.KernelIdeal.S1024x2048

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "inv_sqrt_width" .f32 0x3D93CD3A#32 (((Real.sqrt 192)⁻¹ : ℝ) : EReal)
  ∧ IdealRules.named_const.Statement Cert.Kernel5Ideal.κ "neg_inf" .f32 0xF149F2CA#32 ⊥

def algebraic_Kernel5Ideal_Reference5Ideal_pre_scores_finite [hKernel5Ideal : Cert.Kernel5Ideal.Facts] [hReference5Ideal : Cert.Reference5Ideal.Facts] [hPre_scores_finite : Cert.Pre_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_scores_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_exist : Cert.Pre_experts_exist.Facts) (hPre_scores_finite : Cert.Pre_scores_finite.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal) (hPre_experts_exist := hPre_experts_exist)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_scores_finite (hKernel5Ideal := hKernel5Ideal) (hPre_scores_finite := hPre_scores_finite)
    ∧ quiescent_Reference5Ideal (hReference5Ideal := hReference5Ideal)
    ∧ quiescent_Reference5Ideal_pre_scores_finite (hReference5Ideal := hReference5Ideal) (hPre_scores_finite := hPre_scores_finite)
    ∧ preserves_Kernel_KernelIdeal
    ∧ algebraic_KernelIdeal_ReferenceIdeal (hKernelIdeal := hKernelIdeal) (hReferenceIdeal := hReferenceIdeal) (hPre_experts_exist := hPre_experts_exist)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_scores_finite (hKernel5Ideal := hKernel5Ideal) (hReference5Ideal := hReference5Ideal) (hPre_scores_finite := hPre_scores_finite)
-- ==== Pre_experts_exist.lean ====
abbrev S16384x128 : Shape := ⟨2, ![16384, 128]⟩
abbrev S16384x2048 : Shape := ⟨2, ![16384, 2048]⟩
abbrev S2048 : Shape := ⟨1, ![2048]⟩
abbrev S1x16384x2048 : Shape := ⟨3, ![1, 16384, 2048]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : IVec S16384x128 32) (main_arg1 : FVec F S16384x128 .f32) (main_arg2 : FVec F S16384x2048 .bf16) (main_arg3 : FVec F S16384x2048 .f32) (main_arg4 : FVec F S2048 .f32) (main_arg5 : FVec F S1x16384x2048 .f32) (main_arg6 : FVec F S1x16384x2048 .f32) : IVec S16384x128 1 :=
  let main_c : IVec S_ 32 := constantI S_ 32 0#32
  let main_v0 : IVec S16384x128 32 := broadcastInDim S16384x128 ![] bcast_S_S16384x128 main_c
  let main_v1 : IVec S16384x128 1 := cmpi .sge main_arg0 main_v0
  let main_c_0 : IVec S_ 32 := constantI S_ 32 16383#32
  let main_v2 : IVec S16384x128 32 := broadcastInDim S16384x128 ![] bcast_S_S16384x128 main_c_0
  let main_v3 : IVec S16384x128 1 := cmpi .sle main_arg0 main_v2
  let main_v4 : IVec S16384x128 1 := andi main_v1 main_v3
  main_v4
-- ==== Pre_scores_finite.lean ====
abbrev S16384x2048 : Shape := ⟨2, ![16384, 2048]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x2048 .bf16) (main_arg1 : FVec F S16384x2048 .bf16) (main_arg2 : FVec F S16384x1024 .bf16) : IVec S16384x2048 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_v8 : IVec S16384x2048 1 := andi main_v3 main_v7
  main_v8
-- ==== Kernel.lean ====
abbrev S16384x128 : Shape := ⟨2, ![16384, 128]⟩
abbrev S16384x2048 : Shape := ⟨2, ![16384, 2048]⟩
abbrev S2048 : Shape := ⟨1, ![2048]⟩
abbrev S1x16384x2048 : Shape := ⟨3, ![1, 16384, 2048]⟩
abbrev S16384x16x1x128 : Shape := ⟨4, ![16384, 16, 1, 128]⟩
abbrev S16384x16x2x128 : Shape := ⟨4, ![16384, 16, 2, 128]⟩
abbrev S1x2048 : Shape := ⟨2, ![1, 2048]⟩
abbrev S16x128 : Shape := ⟨2, ![16, 128]⟩
abbrev S16x2048 : Shape := ⟨2, ![16, 2048]⟩
abbrev S128x16x8x128 : Shape := ⟨4, ![128, 16, 8, 128]⟩
abbrev S2 : Shape := ⟨1, ![2]⟩
abbrev S1x1 : Shape := ⟨2, ![1, 1]⟩
abbrev S1 : Shape := ⟨1, ![1]⟩
abbrev S_ : Shape := ⟨0, ![]⟩
abbrev S1x16x1x128 : Shape := ⟨4, ![1, 16, 1, 128]⟩
abbrev S16x1x128 : Shape := ⟨3, ![16, 1, 128]⟩
abbrev S1x16x2x128 : Shape := ⟨4, ![1, 16, 2, 128]⟩
abbrev S16x2x128 : Shape := ⟨3, ![16, 2, 128]⟩
abbrev S8x128 : Shape := ⟨2, ![8, 128]⟩
abbrev S8x2048 : Shape := ⟨2, ![8, 2048]⟩
abbrev S128x1x8x128 : Shape := ⟨4, ![128, 1, 8, 128]⟩
abbrev S128x8x128 : Shape := ⟨3, ![128, 8, 128]⟩
abbrev S1024x128 : Shape := ⟨2, ![1024, 128]⟩
abbrev S1024x2048 : Shape := ⟨2, ![1024, 2048]⟩
abbrev S8x1024 : Shape := ⟨2, ![8, 1024]⟩
abbrev S8 : Shape := ⟨1, ![8]⟩
abbrev S8x1 : Shape := ⟨2, ![8, 1]⟩

abbrev nBuf : Space → Nat
  | .hbm => 16
  | .vmem => 11
  | .smem => 4
  | _ => 0

abbrev bufTy : (tb : Table) → Fin (tcTables nBuf tb) → BufTy
  | .hbm, ⟨0, _⟩ => ⟨S16384x128, .i32⟩
  | .hbm, ⟨1, _⟩ => ⟨S16384x128, .f32⟩
  | .hbm, ⟨2, _⟩ => ⟨S16384x2048, .bf16⟩
  | .hbm, ⟨3, _⟩ => ⟨S16384x2048, .f32⟩
  | .hbm, ⟨4, _⟩ => ⟨S2048, .f32⟩
  | .hbm, ⟨5, _⟩ => ⟨S1x16384x2048, .f32⟩
  | .hbm, ⟨6, _⟩ => ⟨S1x16384x2048, .f32⟩
  | .hbm, ⟨7, _⟩ => ⟨S16384x2048, .f32⟩
  | .hbm, ⟨8, _⟩ => ⟨S16384x2048, .bf16⟩
  | .hbm, ⟨9, _⟩ => ⟨S16384x16x1x128, .bf16⟩
  | .hbm, ⟨10, _⟩ => ⟨S16384x2048, .f32⟩
  | .hbm, ⟨11, _⟩ => ⟨S16384x2048, .bf16⟩
  | .hbm, ⟨12, _⟩ => ⟨S16384x16x1x128, .bf16⟩
  | .hbm, ⟨13, _⟩ => ⟨S16384x16x2x128, .bf16⟩
  | .hbm, ⟨14, _⟩ => ⟨S1x2048, .f32⟩
  | .hbm, ⟨15, _⟩ => ⟨S16384x2048, .f32⟩
  | .local _ .vmem, ⟨0, _⟩ => ⟨S16x128, .f32⟩
  | .local _ .vmem, ⟨1, _⟩ => ⟨S16x128, .f32⟩
  | .local _ .vmem, ⟨2, _⟩ => ⟨S16x2048, .bf16⟩
  | .local _ .vmem, ⟨3, _⟩ => ⟨S16x2048, .bf16⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | .local _ .vmem, ⟨9, _⟩ => ⟨S128x16x8x128, .i32⟩
  | .local _ .vmem, ⟨10, _⟩ => ⟨S128x16x8x128, .i32⟩
  | .local _ .smem, ⟨0, _⟩ => ⟨S16x128, .i32⟩
  | .local _ .smem, ⟨1, _⟩ => ⟨S16x128, .i32⟩
  | .local _ .smem, ⟨2, _⟩ => ⟨S16x128, .i32⟩
  | .local _ .smem, ⟨3, _⟩ => ⟨S16x128, .i32⟩
  | _, _ => ⟨S16384x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![1024], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_196 : BitVec 32 := 0#32
  let c512_i32 : BitVec 32 := 512#32
  let v282 : BitVec 32 := Scalar.addi c0_i32_196 c512_i32
  let c1_i32_197 : BitVec 32 := 1#32
  ⟨c0_i32_196, v282, c1_i32_197⟩
def k0_off1 (k0_t1 : Fin k0_t1_loop.trips) : Fin 2 → Nat :=
  let c0_i32_200 : BitVec 32 := 0#32
  let c2_i32 : BitVec 32 := 2#32
  let c0_i32_196 : BitVec 32 := 0#32
  let c1_i32_197 : BitVec 32 := 1#32
  let arg12 : BitVec 32 := Scf.iv c0_i32_196 c1_i32_197 k0_t1
  let v283 : BitVec 32 := Scalar.muli c2_i32 arg12
  let c0_i32_199 : BitVec 32 := 0#32
  let v284 : BitVec 32 := Scalar.addi v283 c0_i32_199
  let c7_i32 : BitVec 32 := 7#32
  let v285 : BitVec 32 := Scalar.shrsi v284 c7_i32
  let v286 : BitVec 32 := Scalar.addi c0_i32_200 v285
  let v288 : Index := Scalar.indexCast v286
  let c128_i32_201 : BitVec 32 := 128#32
  let v287 : BitVec 32 := Scalar.remsi v284 c128_i32_201
  let v289 : Index := Scalar.indexCast v287
  ![v288.toNat, v289.toNat]
def k0_off2 (k0_t1 : Fin k0_t1_loop.trips) : Fin 4 → Nat :=
  let c2_i32 : BitVec 32 := 2#32
  let c0_i32_196 : BitVec 32 := 0#32
  let c1_i32_197 : BitVec 32 := 1#32
  let arg12 : BitVec 32 := Scf.iv c0_i32_196 c1_i32_197 k0_t1
  let v283 : BitVec 32 := Scalar.muli c2_i32 arg12
  let c0_i32_199 : BitVec 32 := 0#32
  let v284 : BitVec 32 := Scalar.addi v283 c0_i32_199
  let c3_i32 : BitVec 32 := 3#32
  let v291 : BitVec 32 := Scalar.shrsi v284 c3_i32
  let c0_i32_202 : BitVec 32 := 0#32
  let c8_i32 : BitVec 32 := 8#32
  let v292 : BitVec 32 := Scalar.remsi v284 c8_i32
  let c0_i32_203 : BitVec 32 := 0#32
  ![v291.toNat, 0, v292.toNat, 0]
def k0_off3 (v290 : BitVec 32) : Fin 4 → Nat :=
  let c0_i32_204 : BitVec 32 := 0#32
  let c0_i32_206 : BitVec 32 := 0#32
  ![v290.toNat, 0, 0, 0]

def k0_chk1 (i : grid0.Coords) (v290 : BitVec 32) : Prop :=
  (∀ (k0_h1 : k0_cond1 i = 1#1), ∀ a, (k0_off3 v290) a + S1x16x2x128.size a ≤ S16384x16x2x128.size a) ∧
  (∀ (k0_h1 : k0_cond1 i = 1#1), ∀ (hinb : ∀ a, (k0_off3 v290) a + S1x16x2x128.size a ≤ S16384x16x2x128.size a), (Rect.unit (s := S16384x16x2x128) (k0_off3 v290) S1x16x2x128.size hinb).WholeWords (EltTy.packing .bf16))
theorem k0_off3_inb : ∀ (i : grid0.Coords) (v290 : BitVec 32) (k0_hw1 : k0_chk1 i v290), ∀ (k0_h1 : k0_cond1 i = 1#1), ∀ a, (k0_off3 v290) a + S1x16x2x128.size a ≤ S16384x16x2x128.size a := fun i v290 k0_hw1 k0_h1 => k0_hw1.1 k0_h1
theorem k0_off3_wordsbf16 : ∀ (i : grid0.Coords) (v290 : BitVec 32) (k0_hw1 : k0_chk1 i v290), ∀ (k0_h1 : k0_cond1 i = 1#1), (Rect.unit (s := S16384x16x2x128) (k0_off3 v290) S1x16x2x128.size (k0_off3_inb i v290 k0_hw1 k0_h1)).WholeWords (EltTy.packing .bf16) := fun i v290 k0_hw1 k0_h1 => k0_hw1.2 k0_h1 (k0_off3_inb i v290 k0_hw1 k0_h1)

def k0_off4 (k0_t1 : Fin k0_t1_loop.trips) : Fin 2 → Nat :=
  let c0_i32_210 : BitVec 32 := 0#32
  let c2_i32_207 : BitVec 32 := 2#32
  let c0_i32_196 : BitVec 32 := 0#32
  let c1_i32_197 : BitVec 32 := 1#32
  let arg12 : BitVec 32 := Scf.iv c0_i32_196 c1_i32_197 k0_t1
  let v300 : BitVec 32 := Scalar.muli c2_i32_207 arg12
  let c1_i32_208 : BitVec 32 := 1#32
  let v301 : BitVec 32 := Scalar.addi v300 c1_i32_208
  let c7_i32_209 : BitVec 32 := 7#32
  let v302 : BitVec 32 := Scalar.shrsi v301 c7_i32_209
  let v303 : BitVec 32 := Scalar.addi c0_i32_210 v302
  let v305 : Index := Scalar.indexCast v303
  let c128_i32_211 : BitVec 32 := 128#32
  let v304 : BitVec 32 := Scalar.remsi v301 c128_i32_211
  let v306 : Index := Scalar.indexCast v304
  ![v305.toNat, v306.toNat]
def k0_off5 (k0_t1 : Fin k0_t1_loop.trips) : Fin 4 → Nat :=
  let c2_i32_207 : BitVec 32 := 2#32
  let c0_i32_196 : BitVec 32 := 0#32
  let c1_i32_197 : BitVec 32 := 1#32
  let arg12 : BitVec 32 := Scf.iv c0_i32_196 c1_i32_197 k0_t1
  let v300 : BitVec 32 := Scalar.muli c2_i32_207 arg12
  let c1_i32_208 : BitVec 32 := 1#32
  let v301 : BitVec 32 := Scalar.addi v300 c1_i32_208
  let c3_i32_212 : BitVec 32 := 3#32
  let v308 : BitVec 32 := Scalar.shrsi v301 c3_i32_212
  let c0_i32_214 : BitVec 32 := 0#32
  let c8_i32_213 : BitVec 32 := 8#32
  let v309 : BitVec 32 := Scalar.remsi v301 c8_i32_213
  let c0_i32_215 : BitVec 32 := 0#32
  ![v308.toNat, 0, v309.toNat, 0]
def k0_off6 (v307 : BitVec 32) : Fin 4 → Nat :=
  let c0_i32_216 : BitVec 32 := 0#32
  let c0_i32_218 : BitVec 32 := 0#32
  ![v307.toNat, 0, 0, 0]

def k0_chk2 (i : grid0.Coords) (v307 : BitVec 32) : Prop :=
  (∀ (k0_h1 : k0_cond1 i = 1#1), ∀ a, (k0_off6 v307) a + S1x16x2x128.size a ≤ S16384x16x2x128.size a) ∧
  (∀ (k0_h1 : k0_cond1 i = 1#1), ∀ (hinb : ∀ a, (k0_off6 v307) a + S1x16x2x128.size a ≤ S16384x16x2x128.size a), (Rect.unit (s := S16384x16x2x128) (k0_off6 v307) S1x16x2x128.size hinb).WholeWords (EltTy.packing .bf16))
theorem k0_off6_inb : ∀ (i : grid0.Coords) (v307 : BitVec 32) (k0_hw2 : k0_chk2 i v307), ∀ (k0_h1 : k0_cond1 i = 1#1), ∀ a, (k0_off6 v307) a + S1x16x2x128.size a ≤ S16384x16x2x128.size a := fun i v307 k0_hw2 k0_h1 => k0_hw2.1 k0_h1
theorem k0_off6_wordsbf16 : ∀ (i : grid0.Coords) (v307 : BitVec 32) (k0_hw2 : k0_chk2 i v307), ∀ (k0_h1 : k0_cond1 i = 1#1), (Rect.unit (s := S16384x16x2x128) (k0_off6 v307) S1x16x2x128.size (k0_off6_inb i v307 k0_hw2 k0_h1)).WholeWords (EltTy.packing .bf16) := fun i v307 k0_hw2 k0_h1 => k0_hw2.2 k0_h1 (k0_off6_inb i v307 k0_hw2 k0_h1)

@[reducible] def k0_t2_loop : Scf.Loop 32 :=
  let c0_i32_1 : BitVec 32 := 0#32
  let c256_i32 : BitVec 32 := 256#32
  let v3 : BitVec 32 := Scalar.addi c0_i32_1 c256_i32
  let c1_i32_2 : BitVec 32 := 1#32
  ⟨c0_i32_1, v3, c1_i32_2⟩
def k0_off7 (k0_t2 : Fin k0_t2_loop.trips) : Fin 2 → Nat :=
  let c8_i32 : BitVec 32 := 8#32
  let c2_i32 : BitVec 32 := 2#32
  let c0_i32_1 : BitVec 32 := 0#32
  let c1_i32_2 : BitVec 32 := 1#32
  let arg12 : BitVec 32 := Scf.iv c0_i32_1 c1_i32_2 k0_t2
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c8_i32 v284
  let v287 : Index := Scalar.indexCast v285
  let c128_i32_196 : BitVec 32 := 128#32
  let v286 : BitVec 32 := Scalar.remsi v283 c128_i32_196
  let v288 : Index := Scalar.indexCast v286
  ![v287.toNat, v288.toNat]
def k0_off8 (k0_t2 : Fin k0_t2_loop.trips) : Fin 4 → Nat :=
  let c2_i32 : BitVec 32 := 2#32
  let c0_i32_1 : BitVec 32 := 0#32
  let c1_i32_2 : BitVec 32 := 1#32
  let arg12 : BitVec 32 := Scf.iv c0_i32_1 c1_i32_2 k0_t2
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32_197 : BitVec 32 := 8#32
  let v291 : BitVec 32 := Scalar.remsi v283 c8_i32_197
  let c0_i32_199 : BitVec 32 := 0#32
  ![v290.toNat, 0, v291.toNat, 0]
def k0_off9 (v289 : BitVec 32) : Fin 4 → Nat :=
  let c0_i32_200 : BitVec 32 := 0#32
  let c0_i32_202 : BitVec 32 := 0#32
  ![v289.toNat, 0, 0, 0]

def k0_chk3 (v289 : BitVec 32) : Prop :=
  (∀ a, (k0_off9 v289) a + S1x16x2x128.size a ≤ S16384x16x2x128.size a) ∧
  (∀ (hinb : ∀ a, (k0_off9 v289) a + S1x16x2x128.size a ≤ S16384x16x2x128.size a), (Rect.unit (s := S16384x16x2x128) (k0_off9 v289) S1x16x2x128.size hinb).WholeWords (EltTy.packing .bf16))
theorem k0_off9_inb : ∀ (v289 : BitVec 32) (k0_hw3 : k0_chk3 v289), ∀ a, (k0_off9 v289) a + S1x16x2x128.size a ≤ S16384x16x2x128.size a := fun v289 k0_hw3 => k0_hw3.1
theorem k0_off9_wordsbf16 : ∀ (v289 : BitVec 32) (k0_hw3 : k0_chk3 v289), (Rect.unit (s := S16384x16x2x128) (k0_off9 v289) S1x16x2x128.size (k0_off9_inb v289 k0_hw3)).WholeWords (EltTy.packing .bf16) := fun v289 k0_hw3 => k0_hw3.2 (k0_off9_inb v289 k0_hw3)

def k0_off10 (k0_t2 : Fin k0_t2_loop.trips) : Fin 2 → Nat :=
  let c8_i32_206 : BitVec 32 := 8#32
  let c2_i32_203 : BitVec 32 := 2#32
  let c0_i32_1 : BitVec 32 := 0#32
  let c1_i32_2 : BitVec 32 := 1#32
  let arg12 : BitVec 32 := Scf.iv c0_i32_1 c1_i32_2 k0_t2
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c8_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off11 (k0_t2 : Fin k0_t2_loop.trips) : Fin 4 → Nat :=
  let c2_i32_203 : BitVec 32 := 2#32
  let c0_i32_1 : BitVec 32 := 0#32
  let c1_i32_2 : BitVec 32 := 1#32
  let arg12 : BitVec 32 := Scf.iv c0_i32_1 c1_i32_2 k0_t2
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0]
def k0_off12 (v306 : BitVec 32) : Fin 4 → Nat :=
  let c0_i32_212 : BitVec 32 := 0#32
  let c0_i32_214 : BitVec 32 := 0#32
  ![v306.toNat, 0, 0, 0]

def k0_chk4 (v306 : BitVec 32) : Prop :=
  (∀ a, (k0_off12 v306) a + S1x16x2x128.size a ≤ S16384x16x2x128.size a) ∧
  (∀ (hinb : ∀ a, (k0_off12 v306) a + S1x16x2x128.size a ≤ S16384x16x2x128.size a), (Rect.unit (s := S16384x16x2x128) (k0_off12 v306) S1x16x2x128.size hinb).WholeWords (EltTy.packing .bf16))
theorem k0_off12_inb : ∀ (v306 : BitVec 32) (k0_hw4 : k0_chk4 v306), ∀ a, (k0_off12 v306) a + S1x16x2x128.size a ≤ S16384x16x2x128.size a := fun v306 k0_hw4 => k0_hw4.1
theorem k0_off12_wordsbf16 : ∀ (v306 : BitVec 32) (k0_hw4 : k0_chk4 v306), (Rect.unit (s := S16384x16x2x128) (k0_off12 v306) S1x16x2x128.size (k0_off12_inb v306 k0_hw4)).WholeWords (EltTy.packing .bf16) := fun v306 k0_hw4 => k0_hw4.2 (k0_off12_inb v306 k0_hw4)

@[reducible] def k0_t3_loop : Scf.Loop 32 :=
  let c0_i32_5 : BitVec 32 := 0#32
  let c1024_i32 : BitVec 32 := 1024#32
  let v4 : BitVec 32 := Scalar.addi c0_i32_5 c1024_i32
  let c1_i32_6 : BitVec 32 := 1#32
  ⟨c0_i32_5, v4, c1_i32_6⟩
def k0_off13 (k0_t3 : Fin k0_t3_loop.trips) : Fin 4 → Nat :=
  let c0_i32_5 : BitVec 32 := 0#32
  let c1_i32_6 : BitVec 32 := 1#32
  let arg12 : BitVec 32 := Scf.iv c0_i32_5 c1_i32_6 k0_t3
  let c3_i32 : BitVec 32 := 3#32
  let v282 : BitVec 32 := Scalar.shrsi arg12 c3_i32
  let c0_i32_196 : BitVec 32 := 0#32
  let c8_i32 : BitVec 32 := 8#32
  let v283 : BitVec 32 := Scalar.remsi arg12 c8_i32
  let c0_i32_197 : BitVec 32 := 0#32
  ![v282.toNat, 0, v283.toNat, 0]
@[reducible] def k0_t4_loop : Scf.Loop 32 :=
  let c256_i32_9 : BitVec 32 := 256#32
  let c256_i32_10 : BitVec 32 := 256#32
  let v5 : BitVec 32 := Scalar.addi c256_i32_9 c256_i32_10
  let c1_i32_11 : BitVec 32 := 1#32
  ⟨c256_i32_9, v5, c1_i32_11⟩
def k0_off14 (k0_t4 : Fin k0_t4_loop.trips) : Fin 2 → Nat :=
  let c8_i32 : BitVec 32 := 8#32
  let c2_i32 : BitVec 32 := 2#32
  let c256_i32_9 : BitVec 32 := 256#32
  let c1_i32_11 : BitVec 32 := 1#32
  let arg12 : BitVec 32 := Scf.iv c256_i32_9 c1_i32_11 k0_t4
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c8_i32 v284
  let v287 : Index := Scalar.indexCast v285
  let c128_i32_196 : BitVec 32 := 128#32
  let v286 : BitVec 32 := Scalar.remsi v283 c128_i32_196
  let v288 : Index := Scalar.indexCast v286
  ![v287.toNat, v288.toNat]
def k0_off15 (k0_t4 : Fin k0_t4_loop.trips) : Fin 4 → Nat :=
  let c2_i32 : BitVec 32 := 2#32
  let c256_i32_9 : BitVec 32 := 256#32
  let c1_i32_11 : BitVec 32 := 1#32
  let arg12 : BitVec 32 := Scf.iv c256_i32_9 c1_i32_11 k0_t4
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32_197 : BitVec 32 := 8#32
  let v291 : BitVec 32 := Scalar.remsi v283 c8_i32_197
  let c0_i32_199 : BitVec 32 := 0#32
  ![v290.toNat, 0, v291.toNat, 0]
def k0_off16 (v289 : BitVec 32) : Fin 4 → Nat :=
  let c0_i32_200 : BitVec 32 := 0#32
  let c0_i32_202 : BitVec 32 := 0#32
  ![v289.toNat, 0, 0, 0]

def k0_chk5 (v289 : BitVec 32) : Prop :=
  (∀ a, (k0_off16 v289) a + S1x16x2x128.size a ≤ S16384x16x2x128.size a) ∧
  (∀ (hinb : ∀ a, (k0_off16 v289) a + S1x16x2x128.size a ≤ S16384x16x2x128.size a), (Rect.unit (s := S16384x16x2x128) (k0_off16 v289) S1x16x2x128.size hinb).WholeWords (EltTy.packing .bf16))
theorem k0_off16_inb : ∀ (v289 : BitVec 32) (k0_hw5 : k0_chk5 v289), ∀ a, (k0_off16 v289) a + S1x16x2x128.size a ≤ S16384x16x2x128.size a := fun v289 k0_hw5 => k0_hw5.1
theorem k0_off16_wordsbf16 : ∀ (v289 : BitVec 32) (k0_hw5 : k0_chk5 v289), (Rect.unit (s := S16384x16x2x128) (k0_off16 v289) S1x16x2x128.size (k0_off16_inb v289 k0_hw5)).WholeWords (EltTy.packing .bf16) := fun v289 k0_hw5 => k0_hw5.2 (k0_off16_inb v289 k0_hw5)

def k0_off17 (k0_t4 : Fin k0_t4_loop.trips) : Fin 2 → Nat :=
  let c8_i32_206 : BitVec 32 := 8#32
  let c2_i32_203 : BitVec 32 := 2#32
  let c256_i32_9 : BitVec 32 := 256#32
  let c1_i32_11 : BitVec 32 := 1#32
  let arg12 : BitVec 32 := Scf.iv c256_i32_9 c1_i32_11 k0_t4
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c8_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off18 (k0_t4 : Fin k0_t4_loop.trips) : Fin 4 → Nat :=
  let c2_i32_203 : BitVec 32 := 2#32
  let c256_i32_9 : BitVec 32 := 256#32
  let c1_i32_11 : BitVec 32 := 1#32
  let arg12 : BitVec 32 := Scf.iv c256_i32_9 c1_i32_11 k0_t4
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0]
def k0_off19 (v306 : BitVec 32) : Fin 4 → Nat :=
  let c0_i32_212 : BitVec 32 := 0#32
  let c0_i32_214 : BitVec 32 := 0#32
  ![v306.toNat, 0, 0, 0]

def k0_chk6 (v306 : BitVec 32) : Prop :=
  (∀ a, (k0_off19 v306) a + S1x16x2x128.size a ≤ S16384x16x2x128.size a) ∧
  (∀ (hinb : ∀ a, (k0_off19 v306) a + S1x16x2x128.size a ≤ S16384x16x2x128.size a), (Rect.unit (s := S16384x16x2x128) (k0_off19 v306) S1x16x2x128.size hinb).WholeWords (EltTy.packing .bf16))
theorem k0_off19_inb : ∀ (v306 : BitVec 32) (k0_hw6 : k0_chk6 v306), ∀ a, (k0_off19 v306) a + S1x16x2x128.size a ≤ S16384x16x2x128.size a := fun v306 k0_hw6 => k0_hw6.1
theorem k0_off19_wordsbf16 : ∀ (v306 : BitVec 32) (k0_hw6 : k0_chk6 v306), (Rect.unit (s := S16384x16x2x128) (k0_off19 v306) S1x16x2x128.size (k0_off19_inb v306 k0_hw6)).WholeWords (EltTy.packing .bf16) := fun v306 k0_hw6 => k0_hw6.2 (k0_off19_inb v306 k0_hw6)

@[reducible] def k0_t5_loop : Scf.Loop 32 :=
  let c0_i32_87 : BitVec 32 := 0#32
  let c256_i32_88 : BitVec 32 := 256#32
  let v141 : BitVec 32 := Scalar.addi c0_i32_87 c256_i32_88
  let c1_i32_89 : BitVec 32 := 1#32
  ⟨c0_i32_87, v141, c1_i32_89⟩
def k0_off20 (k0_t5 : Fin k0_t5_loop.trips) : Fin 2 → Nat :=
  let c0_i32_196 : BitVec 32 := 0#32
  let c2_i32 : BitVec 32 := 2#32
  let c0_i32_87 : BitVec 32 := 0#32
  let c1_i32_89 : BitVec 32 := 1#32
  let arg12 : BitVec 32 := Scf.iv c0_i32_87 c1_i32_89 k0_t5
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c0_i32_196 v284
  let v287 : Index := Scalar.indexCast v285
  let c128_i32_197 : BitVec 32 := 128#32
  let v286 : BitVec 32 := Scalar.remsi v283 c128_i32_197
  let v288 : Index := Scalar.indexCast v286
  ![v287.toNat, v288.toNat]
def k0_off21 (k0_t5 : Fin k0_t5_loop.trips) : Fin 4 → Nat :=
  let c2_i32 : BitVec 32 := 2#32
  let c0_i32_87 : BitVec 32 := 0#32
  let c1_i32_89 : BitVec 32 := 1#32
  let arg12 : BitVec 32 := Scf.iv c0_i32_87 c1_i32_89 k0_t5
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32 : BitVec 32 := 8#32
  let v291 : BitVec 32 := Scalar.remsi v283 c8_i32
  let c0_i32_199 : BitVec 32 := 0#32
  ![v290.toNat, 0, v291.toNat, 0]
def k0_off22 (v289 : BitVec 32) : Fin 4 → Nat :=
  let c0_i32_200 : BitVec 32 := 0#32
  let c0_i32_202 : BitVec 32 := 0#32
  ![v289.toNat, 0, 0, 0]

def k0_chk7 (v289 : BitVec 32) : Prop :=
  (∀ a, (k0_off22 v289) a + S1x16x2x128.size a ≤ S16384x16x2x128.size a) ∧
  (∀ (hinb : ∀ a, (k0_off22 v289) a + S1x16x2x128.size a ≤ S16384x16x2x128.size a), (Rect.unit (s := S16384x16x2x128) (k0_off22 v289) S1x16x2x128.size hinb).WholeWords (EltTy.packing .bf16))
theorem k0_off22_inb : ∀ (v289 : BitVec 32) (k0_hw7 : k0_chk7 v289), ∀ a, (k0_off22 v289) a + S1x16x2x128.size a ≤ S16384x16x2x128.size a := fun v289 k0_hw7 => k0_hw7.1
theorem k0_off22_wordsbf16 : ∀ (v289 : BitVec 32) (k0_hw7 : k0_chk7 v289), (Rect.unit (s := S16384x16x2x128) (k0_off22 v289) S1x16x2x128.size (k0_off22_inb v289 k0_hw7)).WholeWords (EltTy.packing .bf16) := fun v289 k0_hw7 => k0_hw7.2 (k0_off22_inb v289 k0_hw7)

def k0_off23 (k0_t5 : Fin k0_t5_loop.trips) : Fin 2 → Nat :=
  let c0_i32_206 : BitVec 32 := 0#32
  let c2_i32_203 : BitVec 32 := 2#32
  let c0_i32_87 : BitVec 32 := 0#32
  let c1_i32_89 : BitVec 32 := 1#32
  let arg12 : BitVec 32 := Scf.iv c0_i32_87 c1_i32_89 k0_t5
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c0_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off24 (k0_t5 : Fin k0_t5_loop.trips) : Fin 4 → Nat :=
  let c2_i32_203 : BitVec 32 := 2#32
  let c0_i32_87 : BitVec 32 := 0#32
  let c1_i32_89 : BitVec 32 := 1#32
  let arg12 : BitVec 32 := Scf.iv c0_i32_87 c1_i32_89 k0_t5
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0]
def k0_off25 (v306 : BitVec 32) : Fin 4 → Nat :=
  let c0_i32_212 : BitVec 32 := 0#32
  let c0_i32_214 : BitVec 32 := 0#32
  ![v306.toNat, 0, 0, 0]

def k0_chk8 (v306 : BitVec 32) : Prop :=
  (∀ a, (k0_off25 v306) a + S1x16x2x128.size a ≤ S16384x16x2x128.size a) ∧
  (∀ (hinb : ∀ a, (k0_off25 v306) a + S1x16x2x128.size a ≤ S16384x16x2x128.size a), (Rect.unit (s := S16384x16x2x128) (k0_off25 v306) S1x16x2x128.size hinb).WholeWords (EltTy.packing .bf16))
theorem k0_off25_inb : ∀ (v306 : BitVec 32) (k0_hw8 : k0_chk8 v306), ∀ a, (k0_off25 v306) a + S1x16x2x128.size a ≤ S16384x16x2x128.size a := fun v306 k0_hw8 => k0_hw8.1
theorem k0_off25_wordsbf16 : ∀ (v306 : BitVec 32) (k0_hw8 : k0_chk8 v306), (Rect.unit (s := S16384x16x2x128) (k0_off25 v306) S1x16x2x128.size (k0_off25_inb v306 k0_hw8)).WholeWords (EltTy.packing .bf16) := fun v306 k0_hw8 => k0_hw8.2 (k0_off25_inb v306 k0_hw8)

@[reducible] def k0_t6_loop : Scf.Loop 32 :=
  let c0_i32_92 : BitVec 32 := 0#32
  let c1024_i32_93 : BitVec 32 := 1024#32
  let v142 : BitVec 32 := Scalar.addi c0_i32_92 c1024_i32_93
  let c1_i32_94 : BitVec 32 := 1#32
  ⟨c0_i32_92, v142, c1_i32_94⟩
def k0_off26 (k0_t6 : Fin k0_t6_loop.trips) : Fin 4 → Nat :=
  let c0_i32_92 : BitVec 32 := 0#32
  let c1_i32_94 : BitVec 32 := 1#32
  let arg12 : BitVec 32 := Scf.iv c0_i32_92 c1_i32_94 k0_t6
  let c3_i32 : BitVec 32 := 3#32
  let v282 : BitVec 32 := Scalar.shrsi arg12 c3_i32
  let c0_i32_196 : BitVec 32 := 0#32
  let c8_i32 : BitVec 32 := 8#32
  let v283 : BitVec 32 := Scalar.remsi arg12 c8_i32
  let c0_i32_197 : BitVec 32 := 0#32
  ![v282.toNat, 0, v283.toNat, 0]
@[reducible] def k0_t7_loop : Scf.Loop 32 :=
  let c256_i32_97 : BitVec 32 := 256#32
  let c256_i32_98 : BitVec 32 := 256#32
  let v143 : BitVec 32 := Scalar.addi c256_i32_97 c256_i32_98
  let c1_i32_99 : BitVec 32 := 1#32
  ⟨c256_i32_97, v143, c1_i32_99⟩
def k0_off27 (k0_t7 : Fin k0_t7_loop.trips) : Fin 2 → Nat :=
  let c0_i32_196 : BitVec 32 := 0#32
  let c2_i32 : BitVec 32 := 2#32
  let c256_i32_97 : BitVec 32 := 256#32
  let c1_i32_99 : BitVec 32 := 1#32
  let arg12 : BitVec 32 := Scf.iv c256_i32_97 c1_i32_99 k0_t7
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c0_i32_196 v284
  let v287 : Index := Scalar.indexCast v285
  let c128_i32_197 : BitVec 32 := 128#32
  let v286 : BitVec 32 := Scalar.remsi v283 c128_i32_197
  let v288 : Index := Scalar.indexCast v286
  ![v287.toNat, v288.toNat]
def k0_off28 (k0_t7 : Fin k0_t7_loop.trips) : Fin 4 → Nat :=
  let c2_i32 : BitVec 32 := 2#32
  let c256_i32_97 : BitVec 32 := 256#32
  let c1_i32_99 : BitVec 32 := 1#32
  let arg12 : BitVec 32 := Scf.iv c256_i32_97 c1_i32_99 k0_t7
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32 : BitVec 32 := 8#32
  let v291 : BitVec 32 := Scalar.remsi v283 c8_i32
  let c0_i32_199 : BitVec 32 := 0#32
  ![v290.toNat, 0, v291.toNat, 0]
def k0_off29 (v289 : BitVec 32) : Fin 4 → Nat :=
  let c0_i32_200 : BitVec 32 := 0#32
  let c0_i32_202 : BitVec 32 := 0#32
  ![v289.toNat, 0, 0, 0]

def k0_chk9 (v289 : BitVec 32) : Prop :=
  (∀ a, (k0_off29 v289) a + S1x16x2x128.size a ≤ S16384x16x2x128.size a) ∧
  (∀ (hinb : ∀ a, (k0_off29 v289) a + S1x16x2x128.size a ≤ S16384x16x2x128.size a), (Rect.unit (s := S16384x16x2x128) (k0_off29 v289) S1x16x2x128.size hinb).WholeWords (EltTy.packing .bf16))
theorem k0_off29_inb : ∀ (v289 : BitVec 32) (k0_hw9 : k0_chk9 v289), ∀ a, (k0_off29 v289) a + S1x16x2x128.size a ≤ S16384x16x2x128.size a := fun v289 k0_hw9 => k0_hw9.1
theorem k0_off29_wordsbf16 : ∀ (v289 : BitVec 32) (k0_hw9 : k0_chk9 v289), (Rect.unit (s := S16384x16x2x128) (k0_off29 v289) S1x16x2x128.size (k0_off29_inb v289 k0_hw9)).WholeWords (EltTy.packing .bf16) := fun v289 k0_hw9 => k0_hw9.2 (k0_off29_inb v289 k0_hw9)

def k0_off30 (k0_t7 : Fin k0_t7_loop.trips) : Fin 2 → Nat :=
  let c0_i32_206 : BitVec 32 := 0#32
  let c2_i32_203 : BitVec 32 := 2#32
  let c256_i32_97 : BitVec 32 := 256#32
  let c1_i32_99 : BitVec 32 := 1#32
  let arg12 : BitVec 32 := Scf.iv c256_i32_97 c1_i32_99 k0_t7
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c0_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off31 (k0_t7 : Fin k0_t7_loop.trips) : Fin 4 → Nat :=
  let c2_i32_203 : BitVec 32 := 2#32
  let c256_i32_97 : BitVec 32 := 256#32
  let c1_i32_99 : BitVec 32 := 1#32
  let arg12 : BitVec 32 := Scf.iv c256_i32_97 c1_i32_99 k0_t7
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0]
def k0_off32 (v306 : BitVec 32) : Fin 4 → Nat :=
  let c0_i32_212 : BitVec 32 := 0#32
  let c0_i32_214 : BitVec 32 := 0#32
  ![v306.toNat, 0, 0, 0]

def k0_chk10 (v306 : BitVec 32) : Prop :=
  (∀ a, (k0_off32 v306) a + S1x16x2x128.size a ≤ S16384x16x2x128.size a) ∧
  (∀ (hinb : ∀ a, (k0_off32 v306) a + S1x16x2x128.size a ≤ S16384x16x2x128.size a), (Rect.unit (s := S16384x16x2x128) (k0_off32 v306) S1x16x2x128.size hinb).WholeWords (EltTy.packing .bf16))
theorem k0_off32_inb : ∀ (v306 : BitVec 32) (k0_hw10 : k0_chk10 v306), ∀ a, (k0_off32 v306) a + S1x16x2x128.size a ≤ S16384x16x2x128.size a := fun v306 k0_hw10 => k0_hw10.1
theorem k0_off32_wordsbf16 : ∀ (v306 : BitVec 32) (k0_hw10 : k0_chk10 v306), (Rect.unit (s := S16384x16x2x128) (k0_off32 v306) S1x16x2x128.size (k0_off32_inb v306 k0_hw10)).WholeWords (EltTy.packing .bf16) := fun v306 k0_hw10 => k0_hw10.2 (k0_off32_inb v306 k0_hw10)

def k0_cond2 (i : grid0.Coords) : BitVec 1 :=
  let arg0 : BitVec 32 := BitVec.ofNat 32 (i 0).val
  let c1023_i32 : BitVec 32 := 1023#32
  let v279 : BitVec 1 := Scalar.cmpi .eq arg0 c1023_i32
  let v280 : BitVec 32 := Scalar.extui v279
  let c0_i32_194 : BitVec 32 := 0#32
  let v281 : BitVec 1 := Scalar.cmpi .ne v280 c0_i32_194
  v281

@[reducible] def k0_t8_loop : Scf.Loop 32 :=
  let c0_i32_196 : BitVec 32 := 0#32
  let c1024_i32_197 : BitVec 32 := 1024#32
  let v282 : BitVec 32 := Scalar.addi c0_i32_196 c1024_i32_197
  let c1_i32_198 : BitVec 32 := 1#32
  ⟨c0_i32_196, v282, c1_i32_198⟩
def k0_off33 (k0_t8 : Fin k0_t8_loop.trips) : Fin 4 → Nat :=
  let c0_i32_196 : BitVec 32 := 0#32
  let c1_i32_198 : BitVec 32 := 1#32
  let arg12 : BitVec 32 := Scf.iv c0_i32_196 c1_i32_198 k0_t8
  let c3_i32 : BitVec 32 := 3#32
  let v283 : BitVec 32 := Scalar.shrsi arg12 c3_i32
  let c0_i32_201 : BitVec 32 := 0#32
  let c8_i32 : BitVec 32 := 8#32
  let v284 : BitVec 32 := Scalar.remsi arg12 c8_i32
  let c0_i32_202 : BitVec 32 := 0#32
  ![v283.toNat, 0, v284.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c1023_i32 : BitVec 32 := 1023#32
  let v1 : BitVec 32 := Scalar.minsi v0 c1023_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S16384x128 : Shape := ⟨2, ![16384, 128]⟩
abbrev S16384x2048 : Shape := ⟨2, ![16384, 2048]⟩
abbrev S2048 : Shape := ⟨1, ![2048]⟩
abbrev S1x16384x2048 : Shape := ⟨3, ![1, 16384, 2048]⟩
abbrev S16384x16x1x128 : Shape := ⟨4, ![16384, 16, 1, 128]⟩
abbrev S16384x16x2x128 : Shape := ⟨4, ![16384, 16, 2, 128]⟩
abbrev S1x2048 : Shape := ⟨2, ![1, 2048]⟩
abbrev S16x128 : Shape := ⟨2, ![16, 128]⟩
abbrev S16x2048 : Shape := ⟨2, ![16, 2048]⟩
abbrev S128x16x8x128 : Shape := ⟨4, ![128, 16, 8, 128]⟩
abbrev S128x16x8x2x128 : Shape := ⟨5, ![128, 16, 8, 2, 128]⟩
abbrev S128x16x8x1x128 : Shape := ⟨5, ![128, 16, 8, 1, 128]⟩
abbrev S2 : Shape := ⟨1, ![2]⟩
abbrev S1x1 : Shape := ⟨2, ![1, 1]⟩
abbrev S1 : Shape := ⟨1, ![1]⟩
abbrev S_ : Shape := ⟨0, ![]⟩
abbrev S1x16x1x2x128 : Shape := ⟨5, ![1, 16, 1, 2, 128]⟩
abbrev S16x1x2x128 : Shape := ⟨4, ![16, 1, 2, 128]⟩
abbrev S1x16x1x128 : Shape := ⟨4, ![1, 16, 1, 128]⟩
abbrev S1x16x2x128 : Shape := ⟨4, ![1, 16, 2, 128]⟩
abbrev S16x2x128 : Shape := ⟨3, ![16, 2, 128]⟩
abbrev S16x1x128 : Shape := ⟨3, ![16, 1, 128]⟩
abbrev S8x128 : Shape := ⟨2, ![8, 128]⟩
abbrev S8x2048 : Shape := ⟨2, ![8, 2048]⟩
abbrev S128x1x8x128 : Shape := ⟨4, ![128, 1, 8, 128]⟩
abbrev S128x1x8x2x128 : Shape := ⟨5, ![128, 1, 8, 2, 128]⟩
abbrev S128x1x8x1x128 : Shape := ⟨5, ![128, 1, 8, 1, 128]⟩
abbrev S128x8x128 : Shape := ⟨3, ![128, 8, 128]⟩
abbrev S1024x128 : Shape := ⟨2, ![1024, 128]⟩
abbrev S1024x2048 : Shape := ⟨2, ![1024, 2048]⟩
abbrev S2048x2048 : Shape := ⟨2, ![2048, 2048]⟩
abbrev S8x1024 : Shape := ⟨2, ![8, 1024]⟩
abbrev S8 : Shape := ⟨1, ![8]⟩
abbrev S8x1 : Shape := ⟨2, ![8, 1]⟩

abbrev nBuf : Space → Nat
  | .hbm => 16
  | .vmem => 11
  | .smem => 4
  | _ => 0

abbrev bufTy : (tb : Table) → Fin (tcTables nBuf tb) → BufTy
  | .hbm, ⟨0, _⟩ => ⟨S16384x128, .i32⟩
  | .hbm, ⟨1, _⟩ => ⟨S16384x128, .f32⟩
  | .hbm, ⟨2, _⟩ => ⟨S16384x2048, .bf16⟩
  | .hbm, ⟨3, _⟩ => ⟨S16384x2048, .f32⟩
  | .hbm, ⟨4, _⟩ => ⟨S2048, .f32⟩
  | .hbm, ⟨5, _⟩ => ⟨S1x16384x2048, .f32⟩
  | .hbm, ⟨6, _⟩ => ⟨S1x16384x2048, .f32⟩
  | .hbm, ⟨7, _⟩ => ⟨S16384x2048, .f32⟩
  | .hbm, ⟨8, _⟩ => ⟨S16384x2048, .bf16⟩
  | .hbm, ⟨9, _⟩ => ⟨S16384x16x1x128, .bf16⟩
  | .hbm, ⟨10, _⟩ => ⟨S16384x2048, .f32⟩
  | .hbm, ⟨11, _⟩ => ⟨S16384x2048, .bf16⟩
  | .hbm, ⟨12, _⟩ => ⟨S16384x16x1x128, .bf16⟩
  | .hbm, ⟨13, _⟩ => ⟨S16384x16x2x128, .bf16⟩
  | .hbm, ⟨14, _⟩ => ⟨S1x2048, .f32⟩
  | .hbm, ⟨15, _⟩ => ⟨S16384x2048, .f32⟩
  | .local _ .vmem, ⟨0, _⟩ => ⟨S16x128, .f32⟩
  | .local _ .vmem, ⟨1, _⟩ => ⟨S16x128, .f32⟩
  | .local _ .vmem, ⟨2, _⟩ => ⟨S16x2048, .bf16⟩
  | .local _ .vmem, ⟨3, _⟩ => ⟨S16x2048, .bf16⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | .local _ .vmem, ⟨9, _⟩ => ⟨S128x16x8x2x128, .bf16⟩
  | .local _ .vmem, ⟨10, _⟩ => ⟨S128x16x8x2x128, .bf16⟩
  | .local _ .smem, ⟨0, _⟩ => ⟨S16x128, .i32⟩
  | .local _ .smem, ⟨1, _⟩ => ⟨S16x128, .i32⟩
  | .local _ .smem, ⟨2, _⟩ => ⟨S16x128, .i32⟩
  | .local _ .smem, ⟨3, _⟩ => ⟨S16x128, .i32⟩
  | _, _ => ⟨S16384x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![1024], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_196 : BitVec 32 := 0#32
  let c512_i32 : BitVec 32 := 512#32
  let v282 : BitVec 32 := Scalar.addi c0_i32_196 c512_i32
  let c1_i32_197 : BitVec 32 := 1#32
  ⟨c0_i32_196, v282, c1_i32_197⟩
def k0_off1 (k0_t1 : Fin k0_t1_loop.trips) : Fin 2 → Nat :=
  let c0_i32_200 : BitVec 32 := 0#32
  let c2_i32 : BitVec 32 := 2#32
  let c0_i32_196 : BitVec 32 := 0#32
  let c1_i32_197 : BitVec 32 := 1#32
  let arg12 : BitVec 32 := Scf.iv c0_i32_196 c1_i32_197 k0_t1
  let v283 : BitVec 32 := Scalar.muli c2_i32 arg12
  let c0_i32_199 : BitVec 32 := 0#32
  let v284 : BitVec 32 := Scalar.addi v283 c0_i32_199
  let c7_i32 : BitVec 32 := 7#32
  let v285 : BitVec 32 := Scalar.shrsi v284 c7_i32
  let v286 : BitVec 32 := Scalar.addi c0_i32_200 v285
  let v288 : Index := Scalar.indexCast v286
  let c128_i32_201 : BitVec 32 := 128#32
  let v287 : BitVec 32 := Scalar.remsi v284 c128_i32_201
  let v289 : Index := Scalar.indexCast v287
  ![v288.toNat, v289.toNat]
def k0_off2 (k0_t1 : Fin k0_t1_loop.trips) : Fin 5 → Nat :=
  let c2_i32 : BitVec 32 := 2#32
  let c0_i32_196 : BitVec 32 := 0#32
  let c1_i32_197 : BitVec 32 := 1#32
  let arg12 : BitVec 32 := Scf.iv c0_i32_196 c1_i32_197 k0_t1
  let v283 : BitVec 32 := Scalar.muli c2_i32 arg12
  let c0_i32_199 : BitVec 32 := 0#32
  let v284 : BitVec 32 := Scalar.addi v283 c0_i32_199
  let c3_i32 : BitVec 32 := 3#32
  let v291 : BitVec 32 := Scalar.shrsi v284 c3_i32
  let c0_i32_202 : BitVec 32 := 0#32
  let c8_i32 : BitVec 32 := 8#32
  let v292 : BitVec 32 := Scalar.remsi v284 c8_i32
  let c0_i32_203 : BitVec 32 := 0#32
  ![v291.toNat, 0, v292.toNat, 0, 0]
def k0_off3 (v290 : BitVec 32) : Fin 4 → Nat :=
  let c0_i32_204 : BitVec 32 := 0#32
  let c0_i32_206 : BitVec 32 := 0#32
  ![v290.toNat, 0, 0, 0]

def k0_chk1 (i : grid0.Coords) (v290 : BitVec 32) : Prop :=
  (∀ (k0_h1 : k0_cond1 i = 1#1), ∀ a, (k0_off3 v290) a + S1x16x2x128.size a ≤ S16384x16x2x128.size a) ∧
  (∀ (k0_h1 : k0_cond1 i = 1#1), ∀ (hinb : ∀ a, (k0_off3 v290) a + S1x16x2x128.size a ≤ S16384x16x2x128.size a), (Rect.unit (s := S16384x16x2x128) (k0_off3 v290) S1x16x2x128.size hinb).WholeWords (EltTy.packing .bf16)) ∧
  (∀ (k0_h1 : k0_cond1 i = 1#1), ∀ (hinb : ∀ a, (k0_off3 v290) a + S1x16x2x128.size a ≤ S16384x16x2x128.size a), (Rect.unit (s := S16384x16x2x128) (k0_off3 v290) S1x16x2x128.size hinb).LeadingBlock)
theorem k0_off3_inb : ∀ (i : grid0.Coords) (v290 : BitVec 32) (k0_hw1 : k0_chk1 i v290), ∀ (k0_h1 : k0_cond1 i = 1#1), ∀ a, (k0_off3 v290) a + S1x16x2x128.size a ≤ S16384x16x2x128.size a := fun i v290 k0_hw1 k0_h1 => k0_hw1.1 k0_h1
theorem k0_off3_wordsbf16 : ∀ (i : grid0.Coords) (v290 : BitVec 32) (k0_hw1 : k0_chk1 i v290), ∀ (k0_h1 : k0_cond1 i = 1#1), (Rect.unit (s := S16384x16x2x128) (k0_off3 v290) S1x16x2x128.size (k0_off3_inb i v290 k0_hw1 k0_h1)).WholeWords (EltTy.packing .bf16) := fun i v290 k0_hw1 k0_h1 => k0_hw1.2.1 k0_h1 (k0_off3_inb i v290 k0_hw1 k0_h1)
theorem k0_off3_leadingbf16 : ∀ (i : grid0.Coords) (v290 : BitVec 32) (k0_hw1 : k0_chk1 i v290), ∀ (k0_h1 : k0_cond1 i = 1#1), (Rect.unit (s := S16384x16x2x128) (k0_off3 v290) S1x16x2x128.size (k0_off3_inb i v290 k0_hw1 k0_h1)).LeadingBlock := fun i v290 k0_hw1 k0_h1 => k0_hw1.2.2 k0_h1 (k0_off3_inb i v290 k0_hw1 k0_h1)

def k0_off4 (k0_t1 : Fin k0_t1_loop.trips) : Fin 2 → Nat :=
  let c0_i32_210 : BitVec 32 := 0#32
  let c2_i32_207 : BitVec 32 := 2#32
  let c0_i32_196 : BitVec 32 := 0#32
  let c1_i32_197 : BitVec 32 := 1#32
  let arg12 : BitVec 32 := Scf.iv c0_i32_196 c1_i32_197 k0_t1
  let v300 : BitVec 32 := Scalar.muli c2_i32_207 arg12
  let c1_i32_208 : BitVec 32 := 1#32
  let v301 : BitVec 32 := Scalar.addi v300 c1_i32_208
  let c7_i32_209 : BitVec 32 := 7#32
  let v302 : BitVec 32 := Scalar.shrsi v301 c7_i32_209
  let v303 : BitVec 32 := Scalar.addi c0_i32_210 v302
  let v305 : Index := Scalar.indexCast v303
  let c128_i32_211 : BitVec 32 := 128#32
  let v304 : BitVec 32 := Scalar.remsi v301 c128_i32_211
  let v306 : Index := Scalar.indexCast v304
  ![v305.toNat, v306.toNat]
def k0_off5 (k0_t1 : Fin k0_t1_loop.trips) : Fin 5 → Nat :=
  let c2_i32_207 : BitVec 32 := 2#32
  let c0_i32_196 : BitVec 32 := 0#32
  let c1_i32_197 : BitVec 32 := 1#32
  let arg12 : BitVec 32 := Scf.iv c0_i32_196 c1_i32_197 k0_t1
  let v300 : BitVec 32 := Scalar.muli c2_i32_207 arg12
  let c1_i32_208 : BitVec 32 := 1#32
  let v301 : BitVec 32 := Scalar.addi v300 c1_i32_208
  let c3_i32_212 : BitVec 32 := 3#32
  let v308 : BitVec 32 := Scalar.shrsi v301 c3_i32_212
  let c0_i32_214 : BitVec 32 := 0#32
  let c8_i32_213 : BitVec 32 := 8#32
  let v309 : BitVec 32 := Scalar.remsi v301 c8_i32_213
  let c0_i32_215 : BitVec 32 := 0#32
  ![v308.toNat, 0, v309.toNat, 0, 0]
def k0_off6 (v307 : BitVec 32) : Fin 4 → Nat :=
  let c0_i32_216 : BitVec 32 := 0#32
  let c0_i32_218 : BitVec 32 := 0#32
  ![v307.toNat, 0, 0, 0]

def k0_chk2 (i : grid0.Coords) (v307 : BitVec 32) : Prop :=
  (∀ (k0_h1 : k0_cond1 i = 1#1), ∀ a, (k0_off6 v307) a + S1x16x2x128.size a ≤ S16384x16x2x128.size a) ∧
  (∀ (k0_h1 : k0_cond1 i = 1#1), ∀ (hinb : ∀ a, (k0_off6 v307) a + S1x16x2x128.size a ≤ S16384x16x2x128.size a), (Rect.unit (s := S16384x16x2x128) (k0_off6 v307) S1x16x2x128.size hinb).WholeWords (EltTy.packing .bf16)) ∧
  (∀ (k0_h1 : k0_cond1 i = 1#1), ∀ (hinb : ∀ a, (k0_off6 v307) a + S1x16x2x128.size a ≤ S16384x16x2x128.size a), (Rect.unit (s := S16384x16x2x128) (k0_off6 v307) S1x16x2x128.size hinb).LeadingBlock)
theorem k0_off6_inb : ∀ (i : grid0.Coords) (v307 : BitVec 32) (k0_hw2 : k0_chk2 i v307), ∀ (k0_h1 : k0_cond1 i = 1#1), ∀ a, (k0_off6 v307) a + S1x16x2x128.size a ≤ S16384x16x2x128.size a := fun i v307 k0_hw2 k0_h1 => k0_hw2.1 k0_h1
theorem k0_off6_wordsbf16 : ∀ (i : grid0.Coords) (v307 : BitVec 32) (k0_hw2 : k0_chk2 i v307), ∀ (k0_h1 : k0_cond1 i = 1#1), (Rect.unit (s := S16384x16x2x128) (k0_off6 v307) S1x16x2x128.size (k0_off6_inb i v307 k0_hw2 k0_h1)).WholeWords (EltTy.packing .bf16) := fun i v307 k0_hw2 k0_h1 => k0_hw2.2.1 k0_h1 (k0_off6_inb i v307 k0_hw2 k0_h1)
theorem k0_off6_leadingbf16 : ∀ (i : grid0.Coords) (v307 : BitVec 32) (k0_hw2 : k0_chk2 i v307), ∀ (k0_h1 : k0_cond1 i = 1#1), (Rect.unit (s := S16384x16x2x128) (k0_off6 v307) S1x16x2x128.size (k0_off6_inb i v307 k0_hw2 k0_h1)).LeadingBlock := fun i v307 k0_hw2 k0_h1 => k0_hw2.2.2 k0_h1 (k0_off6_inb i v307 k0_hw2 k0_h1)

@[reducible] def k0_t2_loop : Scf.Loop 32 :=
  let c0_i32_1 : BitVec 32 := 0#32
  let c256_i32 : BitVec 32 := 256#32
  let v3 : BitVec 32 := Scalar.addi c0_i32_1 c256_i32
  let c1_i32_2 : BitVec 32 := 1#32
  ⟨c0_i32_1, v3, c1_i32_2⟩
def k0_off7 (k0_t2 : Fin k0_t2_loop.trips) : Fin 2 → Nat :=
  let c8_i32 : BitVec 32 := 8#32
  let c2_i32 : BitVec 32 := 2#32
  let c0_i32_1 : BitVec 32 := 0#32
  let c1_i32_2 : BitVec 32 := 1#32
  let arg12 : BitVec 32 := Scf.iv c0_i32_1 c1_i32_2 k0_t2
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c8_i32 v284
  let v287 : Index := Scalar.indexCast v285
  let c128_i32_196 : BitVec 32 := 128#32
  let v286 : BitVec 32 := Scalar.remsi v283 c128_i32_196
  let v288 : Index := Scalar.indexCast v286
  ![v287.toNat, v288.toNat]
def k0_off8 (k0_t2 : Fin k0_t2_loop.trips) : Fin 5 → Nat :=
  let c2_i32 : BitVec 32 := 2#32
  let c0_i32_1 : BitVec 32 := 0#32
  let c1_i32_2 : BitVec 32 := 1#32
  let arg12 : BitVec 32 := Scf.iv c0_i32_1 c1_i32_2 k0_t2
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32_197 : BitVec 32 := 8#32
  let v291 : BitVec 32 := Scalar.remsi v283 c8_i32_197
  let c0_i32_199 : BitVec 32 := 0#32
  ![v290.toNat, 0, v291.toNat, 0, 0]
def k0_off9 (v289 : BitVec 32) : Fin 4 → Nat :=
  let c0_i32_200 : BitVec 32 := 0#32
  let c0_i32_202 : BitVec 32 := 0#32
  ![v289.toNat, 0, 0, 0]

def k0_chk3 (v289 : BitVec 32) : Prop :=
  (∀ a, (k0_off9 v289) a + S1x16x2x128.size a ≤ S16384x16x2x128.size a) ∧
  (∀ (hinb : ∀ a, (k0_off9 v289) a + S1x16x2x128.size a ≤ S16384x16x2x128.size a), (Rect.unit (s := S16384x16x2x128) (k0_off9 v289) S1x16x2x128.size hinb).WholeWords (EltTy.packing .bf16)) ∧
  (∀ (hinb : ∀ a, (k0_off9 v289) a + S1x16x2x128.size a ≤ S16384x16x2x128.size a), (Rect.unit (s := S16384x16x2x128) (k0_off9 v289) S1x16x2x128.size hinb).LeadingBlock)
theorem k0_off9_inb : ∀ (v289 : BitVec 32) (k0_hw3 : k0_chk3 v289), ∀ a, (k0_off9 v289) a + S1x16x2x128.size a ≤ S16384x16x2x128.size a := fun v289 k0_hw3 => k0_hw3.1
theorem k0_off9_wordsbf16 : ∀ (v289 : BitVec 32) (k0_hw3 : k0_chk3 v289), (Rect.unit (s := S16384x16x2x128) (k0_off9 v289) S1x16x2x128.size (k0_off9_inb v289 k0_hw3)).WholeWords (EltTy.packing .bf16) := fun v289 k0_hw3 => k0_hw3.2.1 (k0_off9_inb v289 k0_hw3)
theorem k0_off9_leadingbf16 : ∀ (v289 : BitVec 32) (k0_hw3 : k0_chk3 v289), (Rect.unit (s := S16384x16x2x128) (k0_off9 v289) S1x16x2x128.size (k0_off9_inb v289 k0_hw3)).LeadingBlock := fun v289 k0_hw3 => k0_hw3.2.2 (k0_off9_inb v289 k0_hw3)

def k0_off10 (k0_t2 : Fin k0_t2_loop.trips) : Fin 2 → Nat :=
  let c8_i32_206 : BitVec 32 := 8#32
  let c2_i32_203 : BitVec 32 := 2#32
  let c0_i32_1 : BitVec 32 := 0#32
  let c1_i32_2 : BitVec 32 := 1#32
  let arg12 : BitVec 32 := Scf.iv c0_i32_1 c1_i32_2 k0_t2
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c8_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off11 (k0_t2 : Fin k0_t2_loop.trips) : Fin 5 → Nat :=
  let c2_i32_203 : BitVec 32 := 2#32
  let c0_i32_1 : BitVec 32 := 0#32
  let c1_i32_2 : BitVec 32 := 1#32
  let arg12 : BitVec 32 := Scf.iv c0_i32_1 c1_i32_2 k0_t2
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0, 0]
def k0_off12 (v306 : BitVec 32) : Fin 4 → Nat :=
  let c0_i32_212 : BitVec 32 := 0#32
  let c0_i32_214 : BitVec 32 := 0#32
  ![v306.toNat, 0, 0, 0]

def k0_chk4 (v306 : BitVec 32) : Prop :=
  (∀ a, (k0_off12 v306) a + S1x16x2x128.size a ≤ S16384x16x2x128.size a) ∧
  (∀ (hinb : ∀ a, (k0_off12 v306) a + S1x16x2x128.size a ≤ S16384x16x2x128.size a), (Rect.unit (s := S16384x16x2x128) (k0_off12 v306) S1x16x2x128.size hinb).WholeWords (EltTy.packing .bf16)) ∧
  (∀ (hinb : ∀ a, (k0_off12 v306) a + S1x16x2x128.size a ≤ S16384x16x2x128.size a), (Rect.unit (s := S16384x16x2x128) (k0_off12 v306) S1x16x2x128.size hinb).LeadingBlock)
theorem k0_off12_inb : ∀ (v306 : BitVec 32) (k0_hw4 : k0_chk4 v306), ∀ a, (k0_off12 v306) a + S1x16x2x128.size a ≤ S16384x16x2x128.size a := fun v306 k0_hw4 => k0_hw4.1
theorem k0_off12_wordsbf16 : ∀ (v306 : BitVec 32) (k0_hw4 : k0_chk4 v306), (Rect.unit (s := S16384x16x2x128) (k0_off12 v306) S1x16x2x128.size (k0_off12_inb v306 k0_hw4)).WholeWords (EltTy.packing .bf16) := fun v306 k0_hw4 => k0_hw4.2.1 (k0_off12_inb v306 k0_hw4)
theorem k0_off12_leadingbf16 : ∀ (v306 : BitVec 32) (k0_hw4 : k0_chk4 v306), (Rect.unit (s := S16384x16x2x128) (k0_off12 v306) S1x16x2x128.size (k0_off12_inb v306 k0_hw4)).LeadingBlock := fun v306 k0_hw4 => k0_hw4.2.2 (k0_off12_inb v306 k0_hw4)

@[reducible] def k0_t3_loop : Scf.Loop 32 :=
  let c0_i32_5 : BitVec 32 := 0#32
  let c1024_i32 : BitVec 32 := 1024#32
  let v4 : BitVec 32 := Scalar.addi c0_i32_5 c1024_i32
  let c1_i32_6 : BitVec 32 := 1#32
  ⟨c0_i32_5, v4, c1_i32_6⟩
def k0_off13 (k0_t3 : Fin k0_t3_loop.trips) : Fin 5 → Nat :=
  let c0_i32_5 : BitVec 32 := 0#32
  let c1_i32_6 : BitVec 32 := 1#32
  let arg12 : BitVec 32 := Scf.iv c0_i32_5 c1_i32_6 k0_t3
  let c3_i32 : BitVec 32 := 3#32
  let v282 : BitVec 32 := Scalar.shrsi arg12 c3_i32
  let c0_i32_196 : BitVec 32 := 0#32
  let c8_i32 : BitVec 32 := 8#32
  let v283 : BitVec 32 := Scalar.remsi arg12 c8_i32
  let c0_i32_197 : BitVec 32 := 0#32
  ![v282.toNat, 0, v283.toNat, 0, 0]
@[reducible] def k0_t4_loop : Scf.Loop 32 :=
  let c256_i32_9 : BitVec 32 := 256#32
  let c256_i32_10 : BitVec 32 := 256#32
  let v5 : BitVec 32 := Scalar.addi c256_i32_9 c256_i32_10
  let c1_i32_11 : BitVec 32 := 1#32
  ⟨c256_i32_9, v5, c1_i32_11⟩
def k0_off14 (k0_t4 : Fin k0_t4_loop.trips) : Fin 2 → Nat :=
  let c8_i32 : BitVec 32 := 8#32
  let c2_i32 : BitVec 32 := 2#32
  let c256_i32_9 : BitVec 32 := 256#32
  let c1_i32_11 : BitVec 32 := 1#32
  let arg12 : BitVec 32 := Scf.iv c256_i32_9 c1_i32_11 k0_t4
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c8_i32 v284
  let v287 : Index := Scalar.indexCast v285
  let c128_i32_196 : BitVec 32 := 128#32
  let v286 : BitVec 32 := Scalar.remsi v283 c128_i32_196
  let v288 : Index := Scalar.indexCast v286
  ![v287.toNat, v288.toNat]
def k0_off15 (k0_t4 : Fin k0_t4_loop.trips) : Fin 5 → Nat :=
  let c2_i32 : BitVec 32 := 2#32
  let c256_i32_9 : BitVec 32 := 256#32
  let c1_i32_11 : BitVec 32 := 1#32
  let arg12 : BitVec 32 := Scf.iv c256_i32_9 c1_i32_11 k0_t4
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32_197 : BitVec 32 := 8#32
  let v291 : BitVec 32 := Scalar.remsi v283 c8_i32_197
  let c0_i32_199 : BitVec 32 := 0#32
  ![v290.toNat, 0, v291.toNat, 0, 0]
def k0_off16 (v289 : BitVec 32) : Fin 4 → Nat :=
  let c0_i32_200 : BitVec 32 := 0#32
  let c0_i32_202 : BitVec 32 := 0#32
  ![v289.toNat, 0, 0, 0]

def k0_chk5 (v289 : BitVec 32) : Prop :=
  (∀ a, (k0_off16 v289) a + S1x16x2x128.size a ≤ S16384x16x2x128.size a) ∧
  (∀ (hinb : ∀ a, (k0_off16 v289) a + S1x16x2x128.size a ≤ S16384x16x2x128.size a), (Rect.unit (s := S16384x16x2x128) (k0_off16 v289) S1x16x2x128.size hinb).WholeWords (EltTy.packing .bf16)) ∧
  (∀ (hinb : ∀ a, (k0_off16 v289) a + S1x16x2x128.size a ≤ S16384x16x2x128.size a), (Rect.unit (s := S16384x16x2x128) (k0_off16 v289) S1x16x2x128.size hinb).LeadingBlock)
theorem k0_off16_inb : ∀ (v289 : BitVec 32) (k0_hw5 : k0_chk5 v289), ∀ a, (k0_off16 v289) a + S1x16x2x128.size a ≤ S16384x16x2x128.size a := fun v289 k0_hw5 => k0_hw5.1
theorem k0_off16_wordsbf16 : ∀ (v289 : BitVec 32) (k0_hw5 : k0_chk5 v289), (Rect.unit (s := S16384x16x2x128) (k0_off16 v289) S1x16x2x128.size (k0_off16_inb v289 k0_hw5)).WholeWords (EltTy.packing .bf16) := fun v289 k0_hw5 => k0_hw5.2.1 (k0_off16_inb v289 k0_hw5)
theorem k0_off16_leadingbf16 : ∀ (v289 : BitVec 32) (k0_hw5 : k0_chk5 v289), (Rect.unit (s := S16384x16x2x128) (k0_off16 v289) S1x16x2x128.size (k0_off16_inb v289 k0_hw5)).LeadingBlock := fun v289 k0_hw5 => k0_hw5.2.2 (k0_off16_inb v289 k0_hw5)

def k0_off17 (k0_t4 : Fin k0_t4_loop.trips) : Fin 2 → Nat :=
  let c8_i32_206 : BitVec 32 := 8#32
  let c2_i32_203 : BitVec 32 := 2#32
  let c256_i32_9 : BitVec 32 := 256#32
  let c1_i32_11 : BitVec 32 := 1#32
  let arg12 : BitVec 32 := Scf.iv c256_i32_9 c1_i32_11 k0_t4
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c8_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off18 (k0_t4 : Fin k0_t4_loop.trips) : Fin 5 → Nat :=
  let c2_i32_203 : BitVec 32 := 2#32
  let c256_i32_9 : BitVec 32 := 256#32
  let c1_i32_11 : BitVec 32 := 1#32
  let arg12 : BitVec 32 := Scf.iv c256_i32_9 c1_i32_11 k0_t4
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0, 0]
def k0_off19 (v306 : BitVec 32) : Fin 4 → Nat :=
  let c0_i32_212 : BitVec 32 := 0#32
  let c0_i32_214 : BitVec 32 := 0#32
  ![v306.toNat, 0, 0, 0]

def k0_chk6 (v306 : BitVec 32) : Prop :=
  (∀ a, (k0_off19 v306) a + S1x16x2x128.size a ≤ S16384x16x2x128.size a) ∧
  (∀ (hinb : ∀ a, (k0_off19 v306) a + S1x16x2x128.size a ≤ S16384x16x2x128.size a), (Rect.unit (s := S16384x16x2x128) (k0_off19 v306) S1x16x2x128.size hinb).WholeWords (EltTy.packing .bf16)) ∧
  (∀ (hinb : ∀ a, (k0_off19 v306) a + S1x16x2x128.size a ≤ S16384x16x2x128.size a), (Rect.unit (s := S16384x16x2x128) (k0_off19 v306) S1x16x2x128.size hinb).LeadingBlock)
theorem k0_off19_inb : ∀ (v306 : BitVec 32) (k0_hw6 : k0_chk6 v306), ∀ a, (k0_off19 v306) a + S1x16x2x128.size a ≤ S16384x16x2x128.size a := fun v306 k0_hw6 => k0_hw6.1
theorem k0_off19_wordsbf16 : ∀ (v306 : BitVec 32) (k0_hw6 : k0_chk6 v306), (Rect.unit (s := S16384x16x2x128) (k0_off19 v306) S1x16x2x128.size (k0_off19_inb v306 k0_hw6)).WholeWords (EltTy.packing .bf16) := fun v306 k0_hw6 => k0_hw6.2.1 (k0_off19_inb v306 k0_hw6)
theorem k0_off19_leadingbf16 : ∀ (v306 : BitVec 32) (k0_hw6 : k0_chk6 v306), (Rect.unit (s := S16384x16x2x128) (k0_off19 v306) S1x16x2x128.size (k0_off19_inb v306 k0_hw6)).LeadingBlock := fun v306 k0_hw6 => k0_hw6.2.2 (k0_off19_inb v306 k0_hw6)

@[reducible] def k0_t5_loop : Scf.Loop 32 :=
  let c0_i32_87 : BitVec 32 := 0#32
  let c256_i32_88 : BitVec 32 := 256#32
  let v141 : BitVec 32 := Scalar.addi c0_i32_87 c256_i32_88
  let c1_i32_89 : BitVec 32 := 1#32
  ⟨c0_i32_87, v141, c1_i32_89⟩
def k0_off20 (k0_t5 : Fin k0_t5_loop.trips) : Fin 2 → Nat :=
  let c0_i32_196 : BitVec 32 := 0#32
  let c2_i32 : BitVec 32 := 2#32
  let c0_i32_87 : BitVec 32 := 0#32
  let c1_i32_89 : BitVec 32 := 1#32
  let arg12 : BitVec 32 := Scf.iv c0_i32_87 c1_i32_89 k0_t5
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c0_i32_196 v284
  let v287 : Index := Scalar.indexCast v285
  let c128_i32_197 : BitVec 32 := 128#32
  let v286 : BitVec 32 := Scalar.remsi v283 c128_i32_197
  let v288 : Index := Scalar.indexCast v286
  ![v287.toNat, v288.toNat]
def k0_off21 (k0_t5 : Fin k0_t5_loop.trips) : Fin 5 → Nat :=
  let c2_i32 : BitVec 32 := 2#32
  let c0_i32_87 : BitVec 32 := 0#32
  let c1_i32_89 : BitVec 32 := 1#32
  let arg12 : BitVec 32 := Scf.iv c0_i32_87 c1_i32_89 k0_t5
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32 : BitVec 32 := 8#32
  let v291 : BitVec 32 := Scalar.remsi v283 c8_i32
  let c0_i32_199 : BitVec 32 := 0#32
  ![v290.toNat, 0, v291.toNat, 0, 0]
def k0_off22 (v289 : BitVec 32) : Fin 4 → Nat :=
  let c0_i32_200 : BitVec 32 := 0#32
  let c0_i32_202 : BitVec 32 := 0#32
  ![v289.toNat, 0, 0, 0]

def k0_chk7 (v289 : BitVec 32) : Prop :=
  (∀ a, (k0_off22 v289) a + S1x16x2x128.size a ≤ S16384x16x2x128.size a) ∧
  (∀ (hinb : ∀ a, (k0_off22 v289) a + S1x16x2x128.size a ≤ S16384x16x2x128.size a), (Rect.unit (s := S16384x16x2x128) (k0_off22 v289) S1x16x2x128.size hinb).WholeWords (EltTy.packing .bf16)) ∧
  (∀ (hinb : ∀ a, (k0_off22 v289) a + S1x16x2x128.size a ≤ S16384x16x2x128.size a), (Rect.unit (s := S16384x16x2x128) (k0_off22 v289) S1x16x2x128.size hinb).LeadingBlock)
theorem k0_off22_inb : ∀ (v289 : BitVec 32) (k0_hw7 : k0_chk7 v289), ∀ a, (k0_off22 v289) a + S1x16x2x128.size a ≤ S16384x16x2x128.size a := fun v289 k0_hw7 => k0_hw7.1
theorem k0_off22_wordsbf16 : ∀ (v289 : BitVec 32) (k0_hw7 : k0_chk7 v289), (Rect.unit (s := S16384x16x2x128) (k0_off22 v289) S1x16x2x128.size (k0_off22_inb v289 k0_hw7)).WholeWords (EltTy.packing .bf16) := fun v289 k0_hw7 => k0_hw7.2.1 (k0_off22_inb v289 k0_hw7)
theorem k0_off22_leadingbf16 : ∀ (v289 : BitVec 32) (k0_hw7 : k0_chk7 v289), (Rect.unit (s := S16384x16x2x128) (k0_off22 v289) S1x16x2x128.size (k0_off22_inb v289 k0_hw7)).LeadingBlock := fun v289 k0_hw7 => k0_hw7.2.2 (k0_off22_inb v289 k0_hw7)

def k0_off23 (k0_t5 : Fin k0_t5_loop.trips) : Fin 2 → Nat :=
  let c0_i32_206 : BitVec 32 := 0#32
  let c2_i32_203 : BitVec 32 := 2#32
  let c0_i32_87 : BitVec 32 := 0#32
  let c1_i32_89 : BitVec 32 := 1#32
  let arg12 : BitVec 32 := Scf.iv c0_i32_87 c1_i32_89 k0_t5
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c0_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off24 (k0_t5 : Fin k0_t5_loop.trips) : Fin 5 → Nat :=
  let c2_i32_203 : BitVec 32 := 2#32
  let c0_i32_87 : BitVec 32 := 0#32
  let c1_i32_89 : BitVec 32 := 1#32
  let arg12 : BitVec 32 := Scf.iv c0_i32_87 c1_i32_89 k0_t5
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0, 0]
def k0_off25 (v306 : BitVec 32) : Fin 4 → Nat :=
  let c0_i32_212 : BitVec 32 := 0#32
  let c0_i32_214 : BitVec 32 := 0#32
  ![v306.toNat, 0, 0, 0]

def k0_chk8 (v306 : BitVec 32) : Prop :=
  (∀ a, (k0_off25 v306) a + S1x16x2x128.size a ≤ S16384x16x2x128.size a) ∧
  (∀ (hinb : ∀ a, (k0_off25 v306) a + S1x16x2x128.size a ≤ S16384x16x2x128.size a), (Rect.unit (s := S16384x16x2x128) (k0_off25 v306) S1x16x2x128.size hinb).WholeWords (EltTy.packing .bf16)) ∧
  (∀ (hinb : ∀ a, (k0_off25 v306) a + S1x16x2x128.size a ≤ S16384x16x2x128.size a), (Rect.unit (s := S16384x16x2x128) (k0_off25 v306) S1x16x2x128.size hinb).LeadingBlock)
theorem k0_off25_inb : ∀ (v306 : BitVec 32) (k0_hw8 : k0_chk8 v306), ∀ a, (k0_off25 v306) a + S1x16x2x128.size a ≤ S16384x16x2x128.size a := fun v306 k0_hw8 => k0_hw8.1
theorem k0_off25_wordsbf16 : ∀ (v306 : BitVec 32) (k0_hw8 : k0_chk8 v306), (Rect.unit (s := S16384x16x2x128) (k0_off25 v306) S1x16x2x128.size (k0_off25_inb v306 k0_hw8)).WholeWords (EltTy.packing .bf16) := fun v306 k0_hw8 => k0_hw8.2.1 (k0_off25_inb v306 k0_hw8)
theorem k0_off25_leadingbf16 : ∀ (v306 : BitVec 32) (k0_hw8 : k0_chk8 v306), (Rect.unit (s := S16384x16x2x128) (k0_off25 v306) S1x16x2x128.size (k0_off25_inb v306 k0_hw8)).LeadingBlock := fun v306 k0_hw8 => k0_hw8.2.2 (k0_off25_inb v306 k0_hw8)

@[reducible] def k0_t6_loop : Scf.Loop 32 :=
  let c0_i32_92 : BitVec 32 := 0#32
  let c1024_i32_93 : BitVec 32 := 1024#32
  let v142 : BitVec 32 := Scalar.addi c0_i32_92 c1024_i32_93
  let c1_i32_94 : BitVec 32 := 1#32
  ⟨c0_i32_92, v142, c1_i32_94⟩
def k0_off26 (k0_t6 : Fin k0_t6_loop.trips) : Fin 5 → Nat :=
  let c0_i32_92 : BitVec 32 := 0#32
  let c1_i32_94 : BitVec 32 := 1#32
  let arg12 : BitVec 32 := Scf.iv c0_i32_92 c1_i32_94 k0_t6
  let c3_i32 : BitVec 32 := 3#32
  let v282 : BitVec 32 := Scalar.shrsi arg12 c3_i32
  let c0_i32_196 : BitVec 32 := 0#32
  let c8_i32 : BitVec 32 := 8#32
  let v283 : BitVec 32 := Scalar.remsi arg12 c8_i32
  let c0_i32_197 : BitVec 32 := 0#32
  ![v282.toNat, 0, v283.toNat, 0, 0]
@[reducible] def k0_t7_loop : Scf.Loop 32 :=
  let c256_i32_97 : BitVec 32 := 256#32
  let c256_i32_98 : BitVec 32 := 256#32
  let v143 : BitVec 32 := Scalar.addi c256_i32_97 c256_i32_98
  let c1_i32_99 : BitVec 32 := 1#32
  ⟨c256_i32_97, v143, c1_i32_99⟩
def k0_off27 (k0_t7 : Fin k0_t7_loop.trips) : Fin 2 → Nat :=
  let c0_i32_196 : BitVec 32 := 0#32
  let c2_i32 : BitVec 32 := 2#32
  let c256_i32_97 : BitVec 32 := 256#32
  let c1_i32_99 : BitVec 32 := 1#32
  let arg12 : BitVec 32 := Scf.iv c256_i32_97 c1_i32_99 k0_t7
  let v282 : BitVec 32 := Scalar.muli c2_i32 arg12
  let c0_i32_195 : BitVec 32 := 0#32
  let v283 : BitVec 32 := Scalar.addi v282 c0_i32_195
  let c7_i32 : BitVec 32 := 7#32
  let v284 : BitVec 32 := Scalar.shrsi v283 c7_i32
  let v285 : BitVec 32 := Scalar.addi c0_i32_196 v284
  let v287 : Index := Scalar.indexCast v285
  let c128_i32_197 : BitVec 32 := 128#32
  let v286 : BitVec 32 := Scalar.remsi v283 c128_i32_197
  let v288 : Index := Scalar.indexCast v286
  ![v287.toNat, v288.toNat]
def k0_off28 (k0_t7 : Fin k0_t7_loop.trips) : Fin 5 → Nat :=
  let c2_i32 : BitVec 32 := 2#32
  let c256_i32_97 : BitVec 32 := 256#32
  let c1_i32_99 : BitVec 32 := 1#32
  let arg12 : BitVec 32 := Scf.iv c256_i32_97 c1_i32_99 k0_t7
  let v282 : BitVec 32 := Scalar.muli c2_i32 arg12
  let c0_i32_195 : BitVec 32 := 0#32
  let v283 : BitVec 32 := Scalar.addi v282 c0_i32_195
  let c3_i32 : BitVec 32 := 3#32
  let v290 : BitVec 32 := Scalar.shrsi v283 c3_i32
  let c0_i32_198 : BitVec 32 := 0#32
  let c8_i32 : BitVec 32 := 8#32
  let v291 : BitVec 32 := Scalar.remsi v283 c8_i32
  let c0_i32_199 : BitVec 32 := 0#32
  ![v290.toNat, 0, v291.toNat, 0, 0]
def k0_off29 (v289 : BitVec 32) : Fin 4 → Nat :=
  let c0_i32_200 : BitVec 32 := 0#32
  let c0_i32_202 : BitVec 32 := 0#32
  ![v289.toNat, 0, 0, 0]

def k0_chk9 (v289 : BitVec 32) : Prop :=
  (∀ a, (k0_off29 v289) a + S1x16x2x128.size a ≤ S16384x16x2x128.size a) ∧
  (∀ (hinb : ∀ a, (k0_off29 v289) a + S1x16x2x128.size a ≤ S16384x16x2x128.size a), (Rect.unit (s := S16384x16x2x128) (k0_off29 v289) S1x16x2x128.size hinb).WholeWords (EltTy.packing .bf16)) ∧
  (∀ (hinb : ∀ a, (k0_off29 v289) a + S1x16x2x128.size a ≤ S16384x16x2x128.size a), (Rect.unit (s := S16384x16x2x128) (k0_off29 v289) S1x16x2x128.size hinb).LeadingBlock)
theorem k0_off29_inb : ∀ (v289 : BitVec 32) (k0_hw9 : k0_chk9 v289), ∀ a, (k0_off29 v289) a + S1x16x2x128.size a ≤ S16384x16x2x128.size a := fun v289 k0_hw9 => k0_hw9.1
theorem k0_off29_wordsbf16 : ∀ (v289 : BitVec 32) (k0_hw9 : k0_chk9 v289), (Rect.unit (s := S16384x16x2x128) (k0_off29 v289) S1x16x2x128.size (k0_off29_inb v289 k0_hw9)).WholeWords (EltTy.packing .bf16) := fun v289 k0_hw9 => k0_hw9.2.1 (k0_off29_inb v289 k0_hw9)
theorem k0_off29_leadingbf16 : ∀ (v289 : BitVec 32) (k0_hw9 : k0_chk9 v289), (Rect.unit (s := S16384x16x2x128) (k0_off29 v289) S1x16x2x128.size (k0_off29_inb v289 k0_hw9)).LeadingBlock := fun v289 k0_hw9 => k0_hw9.2.2 (k0_off29_inb v289 k0_hw9)

def k0_off30 (k0_t7 : Fin k0_t7_loop.trips) : Fin 2 → Nat :=
  let c0_i32_206 : BitVec 32 := 0#32
  let c2_i32_203 : BitVec 32 := 2#32
  let c256_i32_97 : BitVec 32 := 256#32
  let c1_i32_99 : BitVec 32 := 1#32
  let arg12 : BitVec 32 := Scf.iv c256_i32_97 c1_i32_99 k0_t7
  let v299 : BitVec 32 := Scalar.muli c2_i32_203 arg12
  let c1_i32_204 : BitVec 32 := 1#32
  let v300 : BitVec 32 := Scalar.addi v299 c1_i32_204
  let c7_i32_205 : BitVec 32 := 7#32
  let v301 : BitVec 32 := Scalar.shrsi v300 c7_i32_205
  let v302 : BitVec 32 := Scalar.addi c0_i32_206 v301
  let v304 : Index := Scalar.indexCast v302
  let c128_i32_207 : BitVec 32 := 128#32
  let v303 : BitVec 32 := Scalar.remsi v300 c128_i32_207
  let v305 : Index := Scalar.indexCast v303
  ![v304.toNat, v305.toNat]
def k0_off31 (k0_t7 : Fin k0_t7_loop.trips) : Fin 5 → Nat :=
  let c2_i32_203 : BitVec 32 := 2#32
  let c256_i32_97 : BitVec 32 := 256#32
  let c1_i32_99 : BitVec 32 := 1#32
  let arg12 : BitVec 32 := Scf.iv c256_i32_97 c1_i32_99 k0_t7
  let v299 : BitVec 32 := Scalar.muli c2_i32_203 arg12
  let c1_i32_204 : BitVec 32 := 1#32
  let v300 : BitVec 32 := Scalar.addi v299 c1_i32_204
  let c3_i32_208 : BitVec 32 := 3#32
  let v307 : BitVec 32 := Scalar.shrsi v300 c3_i32_208
  let c0_i32_210 : BitVec 32 := 0#32
  let c8_i32_209 : BitVec 32 := 8#32
  let v308 : BitVec 32 := Scalar.remsi v300 c8_i32_209
  let c0_i32_211 : BitVec 32 := 0#32
  ![v307.toNat, 0, v308.toNat, 0, 0]
def k0_off32 (v306 : BitVec 32) : Fin 4 → Nat :=
  let c0_i32_212 : BitVec 32 := 0#32
  let c0_i32_214 : BitVec 32 := 0#32
  ![v306.toNat, 0, 0, 0]

def k0_chk10 (v306 : BitVec 32) : Prop :=
  (∀ a, (k0_off32 v306) a + S1x16x2x128.size a ≤ S16384x16x2x128.size a) ∧
  (∀ (hinb : ∀ a, (k0_off32 v306) a + S1x16x2x128.size a ≤ S16384x16x2x128.size a), (Rect.unit (s := S16384x16x2x128) (k0_off32 v306) S1x16x2x128.size hinb).WholeWords (EltTy.packing .bf16)) ∧
  (∀ (hinb : ∀ a, (k0_off32 v306) a + S1x16x2x128.size a ≤ S16384x16x2x128.size a), (Rect.unit (s := S16384x16x2x128) (k0_off32 v306) S1x16x2x128.size hinb).LeadingBlock)
theorem k0_off32_inb : ∀ (v306 : BitVec 32) (k0_hw10 : k0_chk10 v306), ∀ a, (k0_off32 v306) a + S1x16x2x128.size a ≤ S16384x16x2x128.size a := fun v306 k0_hw10 => k0_hw10.1
theorem k0_off32_wordsbf16 : ∀ (v306 : BitVec 32) (k0_hw10 : k0_chk10 v306), (Rect.unit (s := S16384x16x2x128) (k0_off32 v306) S1x16x2x128.size (k0_off32_inb v306 k0_hw10)).WholeWords (EltTy.packing .bf16) := fun v306 k0_hw10 => k0_hw10.2.1 (k0_off32_inb v306 k0_hw10)
theorem k0_off32_leadingbf16 : ∀ (v306 : BitVec 32) (k0_hw10 : k0_chk10 v306), (Rect.unit (s := S16384x16x2x128) (k0_off32 v306) S1x16x2x128.size (k0_off32_inb v306 k0_hw10)).LeadingBlock := fun v306 k0_hw10 => k0_hw10.2.2 (k0_off32_inb v306 k0_hw10)

def k0_cond2 (i : grid0.Coords) : BitVec 1 :=
  let arg0 : BitVec 32 := BitVec.ofNat 32 (i 0).val
  let c1023_i32 : BitVec 32 := 1023#32
  let v279 : BitVec 1 := Scalar.cmpi .eq arg0 c1023_i32
  let v280 : BitVec 32 := Scalar.extui v279
  let c0_i32_194 : BitVec 32 := 0#32
  let v281 : BitVec 1 := Scalar.cmpi .ne v280 c0_i32_194
  v281

@[reducible] def k0_t8_loop : Scf.Loop 32 :=
  let c0_i32_196 : BitVec 32 := 0#32
  let c1024_i32_197 : BitVec 32 := 1024#32
  let v282 : BitVec 32 := Scalar.addi c0_i32_196 c1024_i32_197
  let c1_i32_198 : BitVec 32 := 1#32
  ⟨c0_i32_196, v282, c1_i32_198⟩
def k0_off33 (k0_t8 : Fin k0_t8_loop.trips) : Fin 5 → Nat :=
  let c0_i32_196 : BitVec 32 := 0#32
  let c1_i32_198 : BitVec 32 := 1#32
  let arg12 : BitVec 32 := Scf.iv c0_i32_196 c1_i32_198 k0_t8
  let c3_i32 : BitVec 32 := 3#32
  let v283 : BitVec 32 := Scalar.shrsi arg12 c3_i32
  let c0_i32_201 : BitVec 32 := 0#32
  let c8_i32 : BitVec 32 := 8#32
  let v284 : BitVec 32 := Scalar.remsi arg12 c8_i32
  let c0_i32_202 : BitVec 32 := 0#32
  ![v283.toNat, 0, v284.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c1023_i32 : BitVec 32 := 1023#32
  let v1 : BitVec 32 := Scalar.minsi v0 c1023_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x128 : Shape := ⟨2, ![16384, 128]⟩
abbrev S16384x2048 : Shape := ⟨2, ![16384, 2048]⟩
abbrev S2048 : Shape := ⟨1, ![2048]⟩
abbrev S1x16384x2048 : Shape := ⟨3, ![1, 16384, 2048]⟩
abbrev S_ : Shape := ⟨0, ![]⟩
abbrev S16384x128x1 : Shape := ⟨3, ![16384, 128, 1]⟩
abbrev S16384x128x2048 : Shape := ⟨3, ![16384, 128, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x128, .i32⟩
  | .hbm, ⟨1, _⟩ => ⟨S16384x128, .f32⟩
  | .hbm, ⟨2, _⟩ => ⟨S16384x2048, .bf16⟩
  | .hbm, ⟨3, _⟩ => ⟨S16384x2048, .f32⟩
  | .hbm, ⟨4, _⟩ => ⟨S2048, .f32⟩
  | .hbm, ⟨5, _⟩ => ⟨S1x16384x2048, .f32⟩
  | .hbm, ⟨6, _⟩ => ⟨S1x16384x2048, .f32⟩
  | .hbm, ⟨7, _⟩ => ⟨S16384x2048, .f32⟩
  | .hbm, ⟨8, _⟩ => ⟨S16384x2048, .f32⟩
  | .hbm, ⟨9, _⟩ => ⟨S_, .i32⟩
  | .hbm, ⟨10, _⟩ => ⟨S16384x128, .i32⟩
  | .hbm, ⟨11, _⟩ => ⟨S16384x128, .i1⟩
  | .hbm, ⟨12, _⟩ => ⟨S_, .i32⟩
  | .hbm, ⟨13, _⟩ => ⟨S16384x128, .i32⟩
  | .hbm, ⟨14, _⟩ => ⟨S16384x128, .i32⟩
  | .hbm, ⟨15, _⟩ => ⟨S16384x128, .i32⟩
  | .hbm, ⟨16, _⟩ => ⟨S16384x128x1, .i32⟩
  | .hbm, ⟨17, _⟩ => ⟨S16384x128x2048, .f32⟩
  | .hbm, ⟨18, _⟩ => ⟨S16384x128, .f32⟩
  | .hbm, ⟨19, _⟩ => ⟨S_, .f32⟩
  | .hbm, ⟨20, _⟩ => ⟨S16384x128, .f32⟩
  | .hbm, ⟨21, _⟩ => ⟨S16384x128, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x2048, .f32⟩
  | .hbm, ⟨32, _⟩ => ⟨S_, .i32⟩
  | .hbm, ⟨33, _⟩ => ⟨S16384x128, .i32⟩
  | .hbm, ⟨34, _⟩ => ⟨S16384x128, .i1⟩
  | .hbm, ⟨35, _⟩ => ⟨S_, .i32⟩
  | .hbm, ⟨36, _⟩ => ⟨S16384x128, .i32⟩
  | .hbm, ⟨37, _⟩ => ⟨S16384x128, .i32⟩
  | .hbm, ⟨38, _⟩ => ⟨S16384x128, .i32⟩
  | .hbm, ⟨39, _⟩ => ⟨S16384x128x1, .i32⟩
  | .hbm, ⟨40, _⟩ => ⟨S16384x128x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048 : Shape := ⟨2, ![1, 2048]⟩
abbrev S1x2048x7568 : Shape := ⟨3, ![1, 2048, 7568]⟩
abbrev S16384x2048 : Shape := ⟨2, ![16384, 2048]⟩
abbrev S2048x7568 : Shape := ⟨2, ![2048, 7568]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x16 : Shape := ⟨2, ![2048, 16]⟩
abbrev S2048x4096 : Shape := ⟨2, ![2048, 4096]⟩
abbrev S_ : Shape := ⟨0, ![]⟩
abbrev S2048x48 : Shape := ⟨2, ![2048, 48]⟩
abbrev S2048x7680 : Shape := ⟨2, ![2048, 7680]⟩
abbrev S2048 : Shape := ⟨1, ![2048]⟩
abbrev S16384x7680 : Shape := ⟨2, ![16384, 7680]⟩
abbrev S512x2048 : Shape := ⟨2, ![512, 2048]⟩
abbrev S2048x1920 : Shape := ⟨2, ![2048, 1920]⟩
abbrev S512x1920 : Shape := ⟨2, ![512, 1920]⟩
abbrev S512 : Shape := ⟨1, ![512]⟩
abbrev S512x1 : Shape := ⟨2, ![512, 1]⟩

abbrev nBuf : Space → Nat
  | .hbm => 24
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7568, .f32⟩
  | .hbm, ⟨3, _⟩ => ⟨S16384x2048, .f32⟩
  | .hbm, ⟨4, _⟩ => ⟨S2048x7568, .f32⟩
  | .hbm, ⟨5, _⟩ => ⟨S2048x512, .f32⟩
  | .hbm, ⟨6, _⟩ => ⟨S2048x256, .f32⟩
  | .hbm, ⟨7, _⟩ => ⟨S2048x64, .f32⟩
  | .hbm, ⟨8, _⟩ => ⟨S2048x1024, .f32⟩
  | .hbm, ⟨9, _⟩ => ⟨S2048x256, .f32⟩
  | .hbm, ⟨10, _⟩ => ⟨S2048x256, .f32⟩
  | .hbm, ⟨11, _⟩ => ⟨S2048x1024, .f32⟩
  | .hbm, ⟨12, _⟩ => ⟨S2048x64, .f32⟩
  | .hbm, ⟨13, _⟩ => ⟨S2048x16, .f32⟩
  | .hbm, ⟨14, _⟩ => ⟨S2048x4096, .f32⟩
  | .hbm, ⟨15, _⟩ => ⟨S_, .f32⟩
  | .hbm, ⟨16, _⟩ => ⟨S2048x64, .f32⟩
  | .hbm, ⟨17, _⟩ => ⟨S_, .f32⟩
  | .hbm, ⟨18, _⟩ => ⟨S2048x48, .f32⟩
  | .hbm, ⟨19, _⟩ => ⟨S2048x7680, .f32⟩
  | .hbm, ⟨20, _⟩ => ⟨S2048x7680, .bf16⟩
  | .hbm, ⟨21, _⟩ => ⟨S2048, .f32⟩
  | .hbm, ⟨22, _⟩ => ⟨S1x2048, .f32⟩
  | .hbm, ⟨23, _⟩ => ⟨S16384x7680, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1920, .bf16⟩
  | .local _ .vmem, ⟨4, _⟩ => ⟨S2048x1920, .bf16⟩
  | .local _ .vmem, ⟨5, _⟩ => ⟨S512x1920, .f32⟩
  | .local _ .vmem, ⟨6, _⟩ => ⟨S512x1920, .f32⟩
  | .local _ .vmem, ⟨7, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x2048x2048 : Shape := ⟨3, ![8, 2048, 2048]⟩
abbrev S1x2048 : Shape := ⟨2, ![1, 2048]⟩
abbrev S1x2048x7568 : Shape := ⟨3, ![1, 2048, 7568]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S16384x2048 : Shape := ⟨2, ![16384, 2048]⟩
abbrev S2048x7568 : Shape := ⟨2, ![2048, 7568]⟩
abbrev S16384x7568 : Shape := ⟨2, ![16384, 7568]⟩
abbrev S16384x512 : Shape := ⟨2, ![16384, 512]⟩
abbrev S16384x256 : Shape := ⟨2, ![16384, 256]⟩
abbrev S16384x64 : Shape := ⟨2, ![16384, 64]⟩
abbrev S16384x1024 : Shape := ⟨2, ![16384, 1024]⟩
abbrev S16384x16 : Shape := ⟨2, ![16384, 16]⟩
abbrev S16384x4096 : Shape := ⟨2, ![16384, 4096]⟩
abbrev S16384x48 : Shape := ⟨2, ![16384, 48]⟩
abbrev S16384x7680 : Shape := ⟨2, ![16384, 7680]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7568, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S16384x2048, .f32⟩
  | .hbm, ⟨21, _⟩ => ⟨S2048x7568, .f32⟩
  | .hbm, ⟨22, _⟩ => ⟨S16384x7568, .f32⟩
  | .hbm, ⟨23, _⟩ => ⟨S16384x512, .f32⟩
  | .hbm, ⟨24, _⟩ => ⟨S16384x256, .f32⟩
  | .hbm, ⟨25, _⟩ => ⟨S16384x64, .f32⟩
  | .hbm, ⟨26, _⟩ => ⟨S16384x1024, .f32⟩
  | .hbm, ⟨27, _⟩ => ⟨S16384x256, .f32⟩
  | .hbm, ⟨28, _⟩ => ⟨S16384x256, .f32⟩
  | .hbm, ⟨29, _⟩ => ⟨S16384x1024, .f32⟩
  | .hbm, ⟨30, _⟩ => ⟨S16384x64, .f32⟩
  | .hbm, ⟨31, _⟩ => ⟨S16384x16, .f32⟩
  | .hbm, ⟨32, _⟩ => ⟨S16384x4096, .f32⟩
  | .hbm, ⟨33, _⟩ => ⟨S_, .f32⟩
  | .hbm, ⟨34, _⟩ => ⟨S16384x64, .f32⟩
  | .hbm, ⟨35, _⟩ => ⟨S_, .f32⟩
  | .hbm, ⟨36, _⟩ => ⟨S16384x48, .f32⟩
  | .hbm, ⟨37, _⟩ => ⟨S16384x7680, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel3.lean ====
abbrev S16384x1024 : Shape := ⟨2, ![16384, 1024]⟩
abbrev S16384x7680 : Shape := ⟨2, ![16384, 7680]⟩
abbrev S1x1024x2048 : Shape := ⟨3, ![1, 1024, 2048]⟩
abbrev S1024x2048 : Shape := ⟨2, ![1024, 2048]⟩
abbrev S16384x2048 : Shape := ⟨2, ![16384, 2048]⟩
abbrev S256x1024 : Shape := ⟨2, ![256, 1024]⟩
abbrev S256x2048 : Shape := ⟨2, ![256, 2048]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7680, .f32⟩
  | .hbm, ⟨3, _⟩ => ⟨S1x1024x2048, .f32⟩
  | .hbm, ⟨4, _⟩ => ⟨S1x1024x2048, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S256x2048, .bf16⟩
  | .local _ .vmem, ⟨11, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S16384x7680 : Shape := ⟨2, ![16384, 7680]⟩
abbrev S1x1024x2048 : Shape := ⟨3, ![1, 1024, 2048]⟩
abbrev S16384x2048 : Shape := ⟨2, ![16384, 2048]⟩
abbrev S_ : Shape := ⟨0, ![]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7680, .f32⟩
  | .hbm, ⟨3, _⟩ => ⟨S1x1024x2048, .f32⟩
  | .hbm, ⟨4, _⟩ => ⟨S1x1024x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x1024, .f32⟩
  | .hbm, ⟨24, _⟩ => ⟨S1024x2048, .f32⟩
  | .hbm, ⟨25, _⟩ => ⟨S16384x2048, .f32⟩
  | .hbm, ⟨26, _⟩ => ⟨S16384x1024, .f32⟩
  | .hbm, ⟨27, _⟩ => ⟨S1024x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S8x2048x2048 : Shape := ⟨3, ![8, 2048, 2048]⟩
abbrev S16384x2048 : Shape := ⟨2, ![16384, 2048]⟩
abbrev S1x2048x2048 : Shape := ⟨3, ![1, 2048, 2048]⟩
abbrev S1x2048 : Shape := ⟨2, ![1, 2048]⟩
abbrev S1x2048x8x128 : Shape := ⟨4, ![1, 2048, 8, 128]⟩
abbrev S2048x8x128 : Shape := ⟨3, ![2048, 8, 128]⟩
abbrev S2048x1024 : Shape := ⟨2, ![2048, 1024]⟩
abbrev S2048x2048 : Shape := ⟨2, ![2048, 2048]⟩
abbrev S2048 : Shape := ⟨1, ![2048]⟩
abbrev S16384x1024 : Shape := ⟨2, ![16384, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S16384x2048, .bf16⟩
  | .hbm, ⟨2, _⟩ => ⟨S1x2048x2048, .f32⟩
  | .hbm, ⟨3, _⟩ => ⟨S1x2048, .f32⟩
  | .hbm, ⟨4, _⟩ => ⟨S1x2048x8x128, .f32⟩
  | .hbm, ⟨5, _⟩ => ⟨S2048x8x128, .f32⟩
  | .hbm, ⟨6, _⟩ => ⟨S2048x1024, .f32⟩
  | .hbm, ⟨7, _⟩ => ⟨S2048x1024, .bf16⟩
  | .hbm, ⟨8, _⟩ => ⟨S16384x2048, .f32⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S16384x2048, .f32⟩
  | .hbm, ⟨14, _⟩ => ⟨S16384x2048, .bf16⟩
  | .hbm, ⟨15, _⟩ => ⟨S16384x1024, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S2048x1024, .bf16⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x1024, .bf16⟩
  | .local _ .vmem, ⟨12, _⟩ => ⟨S256x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x2048x2048 : Shape := ⟨3, ![8, 2048, 2048]⟩
abbrev S16384x2048 : Shape := ⟨2, ![16384, 2048]⟩
abbrev S1x2048x2048 : Shape := ⟨3, ![1, 2048, 2048]⟩
abbrev S1x2048 : Shape := ⟨2, ![1, 2048]⟩
abbrev S1x2048x8x128 : Shape := ⟨4, ![1, 2048, 8, 128]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x8x128 : Shape := ⟨3, ![2048, 8, 128]⟩
abbrev S2048x1024 : Shape := ⟨2, ![2048, 1024]⟩
abbrev S16384x1024 : Shape := ⟨2, ![16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16384x2048, .bf16⟩
  | .hbm, ⟨2, _⟩ => ⟨S1x2048x2048, .f32⟩
  | .hbm, ⟨3, _⟩ => ⟨S1x2048, .f32⟩
  | .hbm, ⟨4, _⟩ => ⟨S1x2048x8x128, .f32⟩
  | .hbm, ⟨5, _⟩ => ⟨S16384x2048, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S2048x8x128, .f32⟩
  | .hbm, ⟨28, _⟩ => ⟨S2048x1024, .f32⟩
  | .hbm, ⟨29, _⟩ => ⟨S16384x1024, .f32⟩
  | .hbm, ⟨30, _⟩ => ⟨S16384x2048, .bf16⟩
  | .hbm, ⟨31, _⟩ => ⟨S16384x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S16384x2048 : Shape := ⟨2, ![16384, 2048]⟩
abbrev S16384x1024 : Shape := ⟨2, ![16384, 1024]⟩
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S256x512 : Shape := ⟨2, ![256, 512]⟩
abbrev S512x256 : Shape := ⟨2, ![512, 256]⟩
abbrev S512x128 : Shape := ⟨2, ![512, 128]⟩
abbrev S256x768 : Shape := ⟨2, ![256, 768]⟩
abbrev S768x256 : Shape := ⟨2, ![768, 256]⟩
abbrev S768x128 : Shape := ⟨2, ![768, 128]⟩
abbrev S1024x256 : Shape := ⟨2, ![1024, 256]⟩
abbrev S1024x128 : Shape := ⟨2, ![1024, 128]⟩
abbrev S256x1280 : Shape := ⟨2, ![256, 1280]⟩
abbrev S1280x256 : Shape := ⟨2, ![1280, 256]⟩
abbrev S1280x128 : Shape := ⟨2, ![1280, 128]⟩
abbrev S256x1536 : Shape := ⟨2, ![256, 1536]⟩
abbrev S1536x256 : Shape := ⟨2, ![1536, 256]⟩
abbrev S1536x128 : Shape := ⟨2, ![1536, 128]⟩
abbrev S256x1792 : Shape := ⟨2, ![256, 1792]⟩
abbrev S1792x256 : Shape := ⟨2, ![1792, 256]⟩
abbrev S1792x128 : Shape := ⟨2, ![1792, 128]⟩
abbrev S2048x256 : Shape := ⟨2, ![2048, 256]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x1024, .bf16⟩
  | .local _ .vmem, ⟨5, _⟩ => ⟨S2048x1024, .bf16⟩
  | .local _ .vmem, ⟨6, _⟩ => ⟨S256x1024, .bf16⟩
  | .local _ .vmem, ⟨7, _⟩ => ⟨S256x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel5Ideal.lean ====
variable {F : FTy → Type} [FloatOps F] [Named F]
def κ : String → Option EReal := fun
  | "inv_sqrt_width" => some (((Real.sqrt 192)⁻¹ : ℝ) : EReal)
  | "neg_inf" => some ⊥
  | _ => none
-- ==== Reference5Ideal.lean ====
abbrev S16384x2048 : Shape := ⟨2, ![16384, 2048]⟩
abbrev S16384x1024 : Shape := ⟨2, ![16384, 1024]⟩
abbrev S8x2048x8x256 : Shape := ⟨4, ![8, 2048, 8, 256]⟩
abbrev S8x2048x8x128 : Shape := ⟨4, ![8, 2048, 8, 128]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048x2048 : Shape := ⟨4, ![8, 8, 2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S8x2048x8x256, .f32⟩
  | .hbm, ⟨5, _⟩ => ⟨S16384x2048, .f32⟩
  | .hbm, ⟨6, _⟩ => ⟨S8x2048x8x256, .f32⟩
  | .hbm, ⟨7, _⟩ => ⟨S16384x1024, .f32⟩
  | .hbm, ⟨8, _⟩ => ⟨S8x2048x8x128, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S8x8x2048x2048, .f32⟩
  | .hbm, ⟨34, _⟩ => ⟨S_, .f32⟩
  | .hbm, ⟨35, _⟩ => ⟨S_, .f32⟩
  | .hbm, ⟨36, _⟩ => ⟨S8x8x2048x2048, .f32⟩
  | .hbm, ⟨37, _⟩ => ⟨S8x8x2048x2048, .f32⟩
  | .hbm, ⟨38, _⟩ => ⟨S1x1x2048x2048, .i1⟩
  | .hbm, ⟨39, _⟩ => ⟨S_, .f32⟩
  | .hbm, ⟨40, _⟩ => ⟨S_, .f32⟩
  | .hbm, ⟨41, _⟩ => ⟨S8x8x2048x2048, .i1⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048, .f32⟩
  | .hbm, ⟨46, _⟩ => ⟨S8x8x2048x1, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S_, .f32⟩
  | .hbm, ⟨51, _⟩ => ⟨S8x8x2048, .f32⟩
  | .hbm, ⟨52, _⟩ => ⟨S8x8x2048x1, .f32⟩
  | .hbm, ⟨53, _⟩ => ⟨S8x8x2048x2048, .f32⟩
  | .hbm, ⟨54, _⟩ => ⟨S8x8x2048x2048, .f32⟩
  | .hbm, ⟨55, _⟩ => ⟨S8x8x128x2048, .f32⟩
  | .hbm, ⟨56, _⟩ => ⟨S8x2048x8x128, .f32⟩
  | .hbm, ⟨57, _⟩ => ⟨S16384x1024, .f32⟩
  | .hbm, ⟨58, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]
-- ==== Proof.Rows.lean ====
/-
  A buffer filled row by row by copies counted on one semaphore, all of them reading one table.

  The buffer's elements are numbered by the row they belong to (`num`). A copy that is under way owns its row
  of the buffer and a read share of the whole table (`fly`); before copy `k` the core holds the rows from `k`
  on, what is left of the table's share after `k` read shares, and the batch with `k` copies started
  (`filling`). `wp_startRow` starts the next copy; `collect` turns the finished copies back into the whole
  buffer, each of whose elements is as its own copy left it, and the table's share.
-/
module

public import Idealize.ShloMosaic.Lib.Batch
public import Idealize.ShloMosaic.Lib.Ring
public import Idealize.ShloMosaic.Lib.Tactic

@[expose] public section

noncomputable section

namespace Cert.Rows

open Idealize.ShloMosaic Idealize.ShloMosaic.Transfers
open Idealize.SL
open Idealize.SL.BI (sProp Storable bigSep bigSep_insert bigSep_empty)
open scoped Idealize.SL.BI
open Idealize.SL.BI.BIBase Idealize.SL.BI.Laws Idealize.SL.Sem Idealize.SL.ProofMode
open Idealize.SL.RA

variable {nD : Nat} {τ : Topo} {sig : RefSig} {Val : EltTy → Type} {U : Type} [URA U]

local notation "𝕄" => MT nD τ sig Unit Val ℕ U ℕ

variable (EC : UEmb Counters (MT nD τ sig Unit Val ℕ U ℕ))

section Sets

variable {ℓ : Loc nD τ sig} (num : Idx ℓ → ℕ)

/-- The elements of row `r`; -/
def row (r : ℕ) : Finset (Idx ℓ) := Finset.univ.filter fun x => num x = r
/-- of the rows from `k` on; -/
def rowsFrom (k : ℕ) : Finset (Idx ℓ) := Finset.univ.filter fun x => k ≤ num x
/-- of the rows before `k`. -/
def rowsTo (k : ℕ) : Finset (Idx ℓ) := Finset.univ.filter fun x => num x < k

theorem mem_row {r : ℕ} {x : Idx ℓ} : x ∈ row num r ↔ num x = r := by simp [row]
theorem rowsFrom_zero : rowsFrom num 0 = Finset.univ := by simp [rowsFrom]
theorem row_sub (k : ℕ) : row num k ⊆ rowsFrom num k := by
  intro x; simp only [row, rowsFrom, Finset.mem_filter, Finset.mem_univ, true_and]; omega
theorem rowsFrom_sdiff (k : ℕ) : rowsFrom num k \ row num k = rowsFrom num (k + 1) := by
  ext x; simp only [row, rowsFrom, Finset.mem_filter, Finset.mem_univ, true_and, Finset.mem_sdiff]; omega
theorem rowsTo_succ (k : ℕ) : rowsTo num (k + 1) = rowsTo num k ∪ row num k := by
  ext x; simp only [row, rowsTo, Finset.mem_filter, Finset.mem_univ, true_and, Finset.mem_union]; omega
theorem rowsTo_disj (k : ℕ) : Disjoint (rowsTo num k) (row num k) := by
  rw [Finset.disjoint_left]; intro x; simp only [row, rowsTo, Finset.mem_filter, Finset.mem_univ, true_and]; omega
theorem rowsTo_zero : rowsTo num 0 = ∅ := by ext x; simp [rowsTo]
theorem rowsTo_all {n : ℕ} (h : ∀ x, num x < n) : rowsTo num n = Finset.univ := by ext x; simp [rowsTo, h x]

end Sets

section Fly

variable {ℓb ℓt : Loc nD τ sig} (num : Idx ℓb → ℕ) (P : Buf Val ℓb → Idx ℓb → Prop) (q : PosShare TreeShare) (ft : Buf Val ℓt)

/-- The elements of `I` held, each at contents `P` holds of. -/
def goodAt (I : Finset (Idx ℓb)) : sProp 𝕄 := iprop(∃ g, ⌜∀ x ∈ I, P g x⌝ ∗ ℓb ↦[I]{fullShare} g)

/-- What copy `r` gives back: its row, and its read share of the table. -/
def fly (r : ℕ) : sProp 𝕄 := iprop(goodAt P (row num r) ∗ ℓt ↦{shareTokN q r} ft)

instance goodAt_storable (I : Finset (Idx ℓb)) : Storable (upEmb : UEmb _ 𝕄) (goodAt P I) := by
  unfold goodAt; infer_instance
instance fly_storable (r : ℕ) : Storable (upEmb : UEmb _ 𝕄) (fly num P q ft r) := by
  unfold fly; infer_instance

/-- The rows before `k`, one at a time, are the rows before `k` together. -/
theorem rows_join (hP : ∀ f g x, f x = g x → P f x → P g x) (z : Buf Val ℓb) (k : ℕ) :
    bigSep (Finset.range k) (fun r => (goodAt P (row num r) : sProp 𝕄)) ⊢ goodAt P (rowsTo num k) := by
  induction k with
  | zero =>
    rw [Finset.range_zero, bigSep_empty, rowsTo_zero]
    unfold goodAt
    iintro -
    iexists z
    isplitr; · ipureintro; intro x hx; simp at hx
    rw [pointsTo_empty]; iempintro
  | succ k ih =>
    rw [Finset.range_add_one, bigSep_insert (by simp)]
    refine (sep_mono_right ih).trans ?_
    unfold goodAt
    iintro ⟨⟨%g, %hg, Hg⟩, ⟨%f, %hf, Hf⟩⟩
    iexists ((row num k).piecewise g f)
    isplitr
    · ipureintro
      intro x hx
      by_cases hr : x ∈ row num k
      · exact hP g _ x (by simp [hr]) (hg x hr)
      · refine hP f _ x (by simp [hr]) (hf x ?_)
        rw [rowsTo_succ, Finset.mem_union] at hx
        exact hx.resolve_right hr
    rw [rowsTo_succ]
    iapply (pointsTo_join (rowsTo_disj num k))
    isplitl [Hf] <;> iassumption

variable (c : Thread nD τ) (sm : SemLoc sig) (N : ℕ)

/-- The copies of one buffer, `k` of the `n` started and `u` units waited for. -/
def flight (n k u : ℕ) : sProp 𝕄 :=
  Batch EC c sm () N (fun r : Fin n => fly num P q ft r.val) k u

/-- Before copy `k`: the rows from `k` on, the table's share left, the batch. -/
def filling (n k : ℕ) : sProp 𝕄 :=
  iprop((∃ f, ℓb ↦[rowsFrom num k]{fullShare} f) ∗ (ℓt ↦{shareDrop q k} ft) ∗ flight EC num P q ft c sm N n k 0)

/-- From the whole buffer, a share of the table and the semaphore at zero: nothing started. -/
theorem start [EC.LandsIn (upEmb : UEmb _ 𝕄)] (n : ℕ) (E : Set ℕ) :
    iprop((∃ f, ℓb ↦{fullShare} f) ∗ (ℓt ↦{q} ft) ∗ semVal (c, sm) 0)
      ⊢ (|={E}=> filling EC num P q ft c sm N n 0 : sProp 𝕄) := by
  iintro ⟨Hb, Ht, Hs⟩
  imod (batch_alloc' (Lvl := ℕ) EC c () N (fun r : Fin n => fly num P q ft r.val) (sm := sm) (E := E)) $$ Hs with HB
  imodintro
  unfold filling flight
  rw [rowsFrom_zero, show shareDrop q 0 = q from rfl]
  isplitl [Hb]; · iexact Hb
  isplitl [Ht]; · iexact Ht
  iexact HB

/-- Every copy started: the batch, and what is left of the table's share. -/
theorem allStarted (n : ℕ) :
    filling EC num P q ft c sm N n n ⊢ (iprop(flight EC num P q ft c sm N n n 0 ∗ (ℓt ↦{shareDrop q n} ft)) : sProp 𝕄) := by
  unfold filling
  iintro ⟨-, Ht, HB⟩
  isplitl [HB]; · iexact HB
  iexact Ht

/-- Every copy finished and every unit waited for: the whole buffer, the table's share and the semaphore at zero. -/
theorem collect [EC.LandsIn (upEmb : UEmb _ 𝕄)] (hP : ∀ f g x, f x = g x → P f x → P g x) (z : Buf Val ℓb) (n : ℕ)
    (hnum : ∀ x, num x < n) (hN : 0 < N) :
    iprop(flight EC num P q ft c sm N n n (N * n) ∗ (ℓt ↦{shareDrop q n} ft))
      ⊢ (|={Set.univ}=> iprop(goodAt P Finset.univ ∗ (ℓt ↦{q} ft) ∗ semVal (c, sm) 0) : sProp 𝕄) := by
  iintro ⟨HB, Ht⟩
  unfold flight
  imod (batch_collect' (Lvl := ℕ) EC c hN (D := fun r : Fin n => fly num P q ft r.val) (sm := sm) (ι := ())) $$ HB with ⟨HD, Hs⟩
  imodintro
  ihave HD' := (show bigSep Finset.univ (fun r : Fin n => (fly num P q ft r.val : sProp 𝕄))
      ⊢ iprop(bigSep (Finset.range n) (fun r => (goodAt P (row num r) : sProp 𝕄)) ∗ bigSep (Finset.range n) (fun r => (ℓt ↦{shareTokN q r} ft : sProp 𝕄))) from by
    rw [Ring.bigSep_fin_eq_range n _ (fun r => fly num P q ft r) (fun _ _ => rfl)]
    unfold fly
    exact Entails.of_eq (BI.bigSep_sep _ _ _)) $$ HD
  icases HD' with ⟨Hr, Hq⟩
  isplitl [Hr]
  · rw [← rowsTo_all num hnum]
    iapply (rows_join num P hP z n); iexact Hr
  isplitl [Ht Hq]
  · iapply (pointsTo_toks_range q n).2
    isplitl [Ht] <;> iassumption
  iexact Hs

end Fly

section Issue

variable {Λ : Labels} {defs : Defs nD τ sig Val Λ} (𝒱 : Variants) (c : Thread nD τ) (bd : Option 𝒱.V)
variable {α : Type} {Q : α → sProp (MT nD τ sig Unit Val ℕ U ℕ)} {sp sp' : Space} {s : Shape} {e : EltTy} {n : ℕ}

/-- Start copy `j` of a batch, handing over resources `put` of one's own with it: the copy gives them back with its row. -/
theorem wp_dmaLent [EC.LandsIn (upEmb : UEmb _ 𝕄)] {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {fd : Buf Val (dst.view.loc c)}
    {D : Fin n → sProp 𝕄} {put : sProp 𝕄} {j u : ℕ}
    (N : ℕ) (hN : dst.view.amount sm = N) (hSd : dst.view.set ⊆ Sd) (hj : j < n) (hu : u ≤ j * N)
    (hD : iprop(put ∗ (dst.view.loc c ↦[Sd]{fullShare} (dst.view.write Val fd (via.apply (src.view.read Val fs)) Finset.univ))
              ∗ (src.view.loc c ↦[src.view.set]{q} fs)) ⊢ D ⟨j, hj⟩) :
    iprop((src.view.loc c ↦[src.view.set]{q} fs) ∗ (dst.view.loc c ↦[Sd]{fullShare} fd) ∗ put ∗ Batch EC c sm () N D j u)
      ⊢ iprop((Batch EC c sm () N D (j + 1) u -∗ wp frame (wpE defs 𝒱 c bd) Set.univ (k ⟨⟩) Q)
          -∗ wp frame (wpE defs 𝒱 c bd) Set.univ (.op (.enqueueDmaAs src (.here dst) via sm hsrc hdst hsem) k) Q) := by
  unfold Batch
  iintro ⟨Hs, Hd, Hp, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  iapply (wp_enqueueDmaAs 𝒱 c bd Set.univ () N hN) $$ [Hs Hd] [Ht Hp]
  · isplitl [Hs]; · iexact Hs
    iapply (pointsTo_writeUpdate c hSd) $$ Hd
  · iapply (batch_creditUpdate_with EC ⟨j, hj⟩ hD)
    isplitr; · iexact Hinv
    isplitl [Ht] <;> iassumption
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-- Start the copy of row `j`, the next one: its destination is row `j` of the buffer, its source any part of the table. -/
theorem wp_startRow [EC.LandsIn (upEmb : UEmb _ 𝕄)] {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {ft : Buf Val (src.view.loc c)}
    {num : Idx (dst.view.loc c) → ℕ} {P : Buf Val (dst.view.loc c) → Idx (dst.view.loc c) → Prop} {j : ℕ}
    (N : ℕ) (hN : dst.view.amount sm = N) (hj : j < n) (hset : dst.view.set = row num j)
    (hP : ∀ fd, ∀ x ∈ row num j, P (dst.view.write Val fd (via.apply (src.view.read Val ft)) Finset.univ) x) :
    filling EC num P q ft c sm N n j
      ⊢ iprop((filling EC num P q ft c sm N n (j + 1) -∗ wp frame (wpE defs 𝒱 c bd) Set.univ (k ⟨⟩) Q)
          -∗ wp frame (wpE defs 𝒱 c bd) Set.univ (.op (.enqueueDmaAs src (.here dst) via sm hsrc hdst hsem) k) Q) := by
  unfold filling flight
  iintro ⟨⟨%fd, Hd⟩, Ht, HB⟩ Hk
  ihave Hd' := (pointsTo_split_subset (row_sub num j)).1 $$ Hd
  icases Hd' with ⟨Hr, Hd⟩
  ihave Ht' := (pointsTo_share (PosShare.mem_left_op_right (shareDrop q j))).1 $$ Ht
  icases Ht' with ⟨Htl, Htr⟩
  ihave Htr' := (pointsTo_split_subset (Finset.subset_univ src.view.set)).1 $$ Htr
  icases Htr' with ⟨Hs, Hp⟩
  iapply (wp_dmaLent EC 𝒱 c bd N hN (Sd := row num j) (fd := fd) (fs := ft) (q := (shareDrop q j).right)
    (D := fun r : Fin n => fly num P q ft r.val)
    (put := (src.view.loc c ↦[Finset.univ \ src.view.set]{(shareDrop q j).right} ft : sProp 𝕄))
    (le_of_eq hset) hj (Nat.zero_le _) ?_) $$ [Hs Hr Hp HB]
  · unfold fly goodAt
    iintro ⟨Hp, Hr, Hs⟩
    isplitl [Hr]
    · iexists _
      isplitr; swap; · iexact Hr
      ipureintro; exact hP fd
    iapply (pointsTo_split_subset (Finset.subset_univ src.view.set)).2
    isplitl [Hs]; · iexact Hs
    iexact Hp
  · isplitl [Hs]; · iexact Hs
    isplitl [Hr]; · iexact Hr
    isplitl [Hp]; · iexact Hp
    iexact HB
  iintro HB
  iapply Hk
  isplitl [Hd]; · rw [rowsFrom_sdiff]; iexists fd; iexact Hd
  isplitl [Htl]; · iexact Htl
  iexact HB

end Issue

end Cert.Rows

end
-- ==== Proof.BitsViews.lean ====
/-
  The views and the words of the gather kernel as printed: which rows its copies name.

  A row of a buffer `[128, 16, 8, 128]` of words is one expert's vector pair for one of the 1024 (token, expert) places of a
  group of eight tokens: place `j` lies at `(j / 8, ·, j % 8, ·)`. Its copy reads a row `[16, 2, 128]` of bf16 values as the
  words they are.
-/
module

public import proofs.«01_k».proof.Proof.Gen.Kernel.Launch
public import proofs.«01_k».proof.Proof.Gen.Kernel.Skeleton
public import proofs.«01_k».proof.Proof.Gen.Kernel.Points
public import proofs.«01_k».proof.Proof.Rows
public import Idealize.ShloMosaic.Lib.Pipeline.FrameBody
public import Idealize.ShloMosaic.Lib.ValueIdxCore
public import Idealize.ShloMosaic.Lib.Tactic

@[expose] public section

noncomputable section

namespace Cert.Kernel.Hand

open Cert.Kernel Cert.Kernel.Gen Cert.Rows
open Idealize.ShloMosaic Idealize.ShloMosaic.TcCoe Idealize.ShloMosaic.ValueIdx

variable {F : FTy → Type} [BitOps F]

/-- The place a buffer's element belongs to. -/
def place (y : S128x16x8x128.Idx) : ℕ := 8 * (y 0).val + (y 2).val

theorem place_lt (y : S128x16x8x128.Idx) : place y < 1024 := by
  have h0 : (y 0).val < 128 := (y 0).isLt
  have h2 : (y 2).val < 8 := (y 2).isLt
  unfold place; omega

/-- The place of the index word for place `j` of the group whose first index row is `base`. -/
def wordAt (base j : ℕ) : S16x128.Idx :=
  ix2 (⟨(base + j / 128) % 16, Nat.mod_lt _ (by decide)⟩ : Fin 16) (⟨j % 128, Nat.mod_lt _ (by decide)⟩ : Fin 128)

/-- The table's row a word `w` names, -/
def tableWords (T : S16384x16x2x128.Idx → Elt F .bf16) (w : BitVec 32) : S16x2x128.Idx → Elt F .bf16 :=
  fun z => T (ix4 (⟨w.toNat % 16384, Nat.mod_lt _ (by decide)⟩ : Fin 16384) (z 0 : Fin 16) (z 1 : Fin 2) (z 2 : Fin 128))

/-- as words. -/
def rowWords (T : S16384x16x2x128.Idx → Elt F .bf16) (w : BitVec 32) : S16x1x128.Idx → Elt F .i32 :=
  (ReadAs.bitcast (Val := Elt F) (e₀ := .bf16) (e := .i32) bitcasts_S16x2x128_w16_S16x1x128_w32).apply (tableWords T w)

/-- What a group's buffer holds once every row has arrived. -/
def gathered (T : S16384x16x2x128.Idx → Elt F .bf16) (blk : S16x128.Idx → BitVec 32) (base : ℕ) :
    S128x16x8x128.Idx → Elt F .i32 :=
  fun y => rowWords T (blk (wordAt base (place y))) (ix3 (y 1 : Fin 16) (0 : Fin 1) (y 3 : Fin 128))

/-- The row a copy fills, in the buffer `b` of rows, -/
abbrev rowOf (b : Memref sig .tc .vmem S128x16x8x128 .i32) (off : Fin 4 → ℕ)
    (inb : ∀ a, off a + S1x16x1x128.size a ≤ S128x16x8x128.size a) : Memref sig .tc .vmem S16x1x128 .i32 :=
  (b.slice (Rect.unit (s := S128x16x8x128) off S1x16x1x128.size inb) (fun _ => rfl)).squeeze S16x1x128
    squeezes_S1x16x1x128_S16x1x128

/-- the rectangle it is; -/
theorem row_rect (off : Fin 4 → ℕ) (inb : ∀ a, off a + S1x16x1x128.size a ≤ S128x16x8x128.size a) (j : ℕ)
    (hoff : off = ![j / 8, 0, j % 8, 0]) (y : S128x16x8x128.Idx) :
    y ∈ (Rect.unit (s := S128x16x8x128) off S1x16x1x128.size inb).set ↔ place y = j := by
  subst hoff
  rw [Rect.mem_set_unit]
  have h0 : (y 0).val < 128 := (y 0).isLt
  have h1 : (y 1).val < 16 := (y 1).isLt
  have h2 : (y 2).val < 8 := (y 2).isLt
  have h3 : (y 3).val < 128 := (y 3).isLt
  unfold place
  constructor
  · intro H
    have a0 : j / 8 ≤ (y 0).val ∧ (y 0).val < j / 8 + 1 := H 0
    have a2 : j % 8 ≤ (y 2).val ∧ (y 2).val < j % 8 + 1 := H 2
    omega
  · intro H a
    fin_cases a
    · show j / 8 ≤ (y 0).val ∧ (y 0).val < j / 8 + 1; omega
    · show 0 ≤ (y 1).val ∧ (y 1).val < 0 + 16; omega
    · show j % 8 ≤ (y 2).val ∧ (y 2).val < j % 8 + 1; omega
    · show 0 ≤ (y 3).val ∧ (y 3).val < 0 + 128; omega

theorem reshape_dst (h : S16x1x128.numel = S1x16x1x128.numel) (z : S16x1x128.Idx) :
    Shape.reshapeEquiv h z = (ix4 (0 : Fin 1) (z 0 : Fin 16) (0 : Fin 1) (z 2 : Fin 128) : S1x16x1x128.Idx) :=
  Shape.reshapeEquiv_eq_of_rowMajor h (by
    have h1 : (z 1).val < 1 := (z 1).isLt
    rw [Shape.rowMajor_val_four, Shape.rowMajor_val_three]
    show ((0 * 16 + (z 0).val) * 1 + 0) * 128 + (z 2).val = ((z 0).val * 1 + (z 1).val) * 128 + (z 2).val
    omega)

theorem reshape_src (h : S16x2x128.numel = S1x16x2x128.numel) (z : S16x2x128.Idx) :
    Shape.reshapeEquiv h z = (ix4 (0 : Fin 1) (z 0 : Fin 16) (z 1 : Fin 2) (z 2 : Fin 128) : S1x16x2x128.Idx) :=
  Shape.reshapeEquiv_eq_of_rowMajor h (by
    rw [Shape.rowMajor_val_four, Shape.rowMajor_val_three]
    show ((0 * 16 + (z 0).val) * 2 + (z 1).val) * 128 + (z 2).val = ((z 0).val * 2 + (z 1).val) * 128 + (z 2).val
    omega)

/-- where its elements lie. -/
theorem row_emb (off : Fin 4 → ℕ) (inb : ∀ a, off a + S1x16x1x128.size a ≤ S128x16x8x128.size a) (y : S128x16x8x128.Idx)
    (hoff : off = ![place y / 8, 0, place y % 8, 0]) (h : S16x1x128.numel = S1x16x1x128.numel) :
    (Rect.unit (s := S128x16x8x128) off S1x16x1x128.size inb).emb
      (Shape.reshapeEquiv h (ix3 (y 1 : Fin 16) (0 : Fin 1) (y 3 : Fin 128) : S16x1x128.Idx)) = y := by
  subst hoff
  rw [reshape_dst]
  have h0 : (y 0).val < 128 := (y 0).isLt
  have h2 : (y 2).val < 8 := (y 2).isLt
  have hp : place y = 8 * (y 0).val + (y 2).val := rfl
  funext a
  apply Fin.ext
  fin_cases a
  · show place y / 8 + 1 * 0 = (y 0).val; omega
  · show 0 + 1 * (y 1).val = (y 1).val; omega
  · show place y % 8 + 1 * 0 = (y 2).val; omega
  · show 0 + 1 * (y 3).val = (y 3).val; omega

/-- The table's row at an offset, -/
abbrev tableRow (off : Fin 4 → ℕ) (inb : ∀ a, off a + S1x16x2x128.size a ≤ S16384x16x2x128.size a) :
    Memref sig .tc .hbm S16x2x128 .bf16 :=
  ((Memref.whole main_v6).slice (Rect.unit (s := S16384x16x2x128) off S1x16x2x128.size inb) (fun _ => rfl)).squeeze S16x2x128
    squeezes_S1x16x2x128_S16x2x128

/-- read at the row a word names. -/
theorem tableRow_read (off : Fin 4 → ℕ) (inb) (w : BitVec 32) (hw : w.toNat < 16384) (hoff : off = ![w.toNat, 0, 0, 0])
    (T : S16384x16x2x128.Idx → Elt F .bf16) : (tableRow off inb).view.read (Elt F) T = tableWords T w := by
  subst hoff
  funext z
  refine congrArg T ?_
  show (Rect.unit (s := S16384x16x2x128) _ S1x16x2x128.size inb).emb (Shape.reshapeEquiv _ z) = _
  rw [reshape_src]
  funext a
  apply Fin.ext
  fin_cases a
  · show w.toNat + 1 * 0 = w.toNat % 16384; omega
  · show 0 + 1 * (z 0).val = (z 0).val; omega
  · show 0 + 1 * (z 1).val = (z 1).val; omega
  · show 0 + 1 * (z 2).val = (z 2).val; omega

theorem setA (off inb) (j : ℕ) (hoff : off = ![j / 8, 0, j % 8, 0]) (c : Dev nD) :
    (rowOf (Memref.whole cc0_scratch0) off inb).view.set
      = row (ℓ := (Memref.whole cc0_scratch0).view.loc (c : Thread nD τ)) place j := by
  refine ((View.set_reshape _ _).trans (View.set_slice_whole _ _)).trans ?_
  ext y; rw [mem_row]; exact row_rect off inb j hoff y

theorem setB (off inb) (j : ℕ) (hoff : off = ![j / 8, 0, j % 8, 0]) (c : Dev nD) :
    (rowOf (Memref.whole cc0_scratch1) off inb).view.set
      = row (ℓ := (Memref.whole cc0_scratch1).view.loc (c : Thread nD τ)) place j := by
  refine ((View.set_reshape _ _).trans (View.set_slice_whole _ _)).trans ?_
  ext y; rw [mem_row]; exact row_rect off inb j hoff y

theorem landA (off inb) (x : S16x1x128.Idx → Elt F .i32) (fd : S128x16x8x128.Idx → Elt F .i32) (y : S128x16x8x128.Idx)
    (hoff : off = ![place y / 8, 0, place y % 8, 0]) :
    (rowOf (Memref.whole cc0_scratch0) off inb).view.write (Elt F) fd x Finset.univ y = x (ix3 (y 1 : Fin 16) (0 : Fin 1) (y 3 : Fin 128)) := by
  have he : (rowOf (Memref.whole cc0_scratch0) off inb).view.emb (ix3 (y 1 : Fin 16) (0 : Fin 1) (y 3 : Fin 128)) = y :=
    row_emb off inb y hoff _
  exact (congrArg _ he.symm).trans (View.write_emb_of_mem (v := (rowOf (Memref.whole cc0_scratch0) off inb).view) (Val := Elt F) fd x
    (Finset.mem_univ (ix3 (y 1 : Fin 16) (0 : Fin 1) (y 3 : Fin 128))))

theorem landB (off inb) (x : S16x1x128.Idx → Elt F .i32) (fd : S128x16x8x128.Idx → Elt F .i32) (y : S128x16x8x128.Idx)
    (hoff : off = ![place y / 8, 0, place y % 8, 0]) :
    (rowOf (Memref.whole cc0_scratch1) off inb).view.write (Elt F) fd x Finset.univ y = x (ix3 (y 1 : Fin 16) (0 : Fin 1) (y 3 : Fin 128)) := by
  have he : (rowOf (Memref.whole cc0_scratch1) off inb).view.emb (ix3 (y 1 : Fin 16) (0 : Fin 1) (y 3 : Fin 128)) = y :=
    row_emb off inb y hoff _
  exact (congrArg _ he.symm).trans (View.write_emb_of_mem (v := (rowOf (Memref.whole cc0_scratch1) off inb).view) (Val := Elt F) fd x
    (Finset.mem_univ (ix3 (y 1 : Fin 16) (0 : Fin 1) (y 3 : Fin 128))))

end Cert.Kernel.Hand

end
-- ==== Proof.BitsOffsets.lean ====
/-
  The offsets the loops' copies compute, in closed form: the index word and the buffer row of each trip.
-/
module

public import proofs.«01_k».proof.Proof.Gen.Kernel

@[expose] public section

noncomputable section

namespace Cert.Kernel.Hand

open Cert.Kernel Cert.Kernel.Gen Idealize.ShloMosaic

/-! ## The offsets of the loops' copies, in closed form -/

theorem off1_eq : ∀ t : Fin k0_t1_loop.trips, k0_off1 t = ![0 + (2 * t.val) / 128, (2 * t.val) % 128] := by decide +kernel
theorem off2_eq : ∀ t : Fin k0_t1_loop.trips, k0_off2 t = ![(2 * t.val) / 8, 0, (2 * t.val) % 8, 0] := by decide +kernel
theorem off4_eq : ∀ t : Fin k0_t1_loop.trips, k0_off4 t = ![0 + (2 * t.val + 1) / 128, (2 * t.val + 1) % 128] := by decide +kernel
theorem off5_eq : ∀ t : Fin k0_t1_loop.trips, k0_off5 t = ![(2 * t.val + 1) / 8, 0, (2 * t.val + 1) % 8, 0] := by decide +kernel
theorem off7_eq : ∀ t : Fin k0_t2_loop.trips, k0_off7 t = ![8 + (2 * t.val) / 128, (2 * t.val) % 128] := by decide +kernel
theorem off8_eq : ∀ t : Fin k0_t2_loop.trips, k0_off8 t = ![(2 * t.val) / 8, 0, (2 * t.val) % 8, 0] := by decide +kernel
theorem off10_eq : ∀ t : Fin k0_t2_loop.trips, k0_off10 t = ![8 + (2 * t.val + 1) / 128, (2 * t.val + 1) % 128] := by decide +kernel
theorem off11_eq : ∀ t : Fin k0_t2_loop.trips, k0_off11 t = ![(2 * t.val + 1) / 8, 0, (2 * t.val + 1) % 8, 0] := by decide +kernel
theorem off14_eq : ∀ t : Fin k0_t4_loop.trips, k0_off14 t = ![8 + (512 + 2 * t.val) / 128, (512 + 2 * t.val) % 128] := by decide +kernel
theorem off15_eq : ∀ t : Fin k0_t4_loop.trips, k0_off15 t = ![(512 + 2 * t.val) / 8, 0, (512 + 2 * t.val) % 8, 0] := by decide +kernel
theorem off17_eq : ∀ t : Fin k0_t4_loop.trips, k0_off17 t = ![8 + (512 + 2 * t.val + 1) / 128, (512 + 2 * t.val + 1) % 128] := by decide +kernel
theorem off18_eq : ∀ t : Fin k0_t4_loop.trips, k0_off18 t = ![(512 + 2 * t.val + 1) / 8, 0, (512 + 2 * t.val + 1) % 8, 0] := by decide +kernel
theorem off20_eq : ∀ t : Fin k0_t5_loop.trips, k0_off20 t = ![0 + (2 * t.val) / 128, (2 * t.val) % 128] := by decide +kernel
theorem off21_eq : ∀ t : Fin k0_t5_loop.trips, k0_off21 t = ![(2 * t.val) / 8, 0, (2 * t.val) % 8, 0] := by decide +kernel
theorem off23_eq : ∀ t : Fin k0_t5_loop.trips, k0_off23 t = ![0 + (2 * t.val + 1) / 128, (2 * t.val + 1) % 128] := by decide +kernel
theorem off24_eq : ∀ t : Fin k0_t5_loop.trips, k0_off24 t = ![(2 * t.val + 1) / 8, 0, (2 * t.val + 1) % 8, 0] := by decide +kernel
theorem off27_eq : ∀ t : Fin k0_t7_loop.trips, k0_off27 t = ![0 + (512 + 2 * t.val) / 128, (512 + 2 * t.val) % 128] := by decide +kernel
theorem off28_eq : ∀ t : Fin k0_t7_loop.trips, k0_off28 t = ![(512 + 2 * t.val) / 8, 0, (512 + 2 * t.val) % 8, 0] := by decide +kernel
theorem off30_eq : ∀ t : Fin k0_t7_loop.trips, k0_off30 t = ![0 + (512 + 2 * t.val + 1) / 128, (512 + 2 * t.val + 1) % 128] := by decide +kernel
theorem off31_eq : ∀ t : Fin k0_t7_loop.trips, k0_off31 t = ![(512 + 2 * t.val + 1) / 8, 0, (512 + 2 * t.val + 1) % 8, 0] := by decide +kernel
theorem off13_eq : ∀ t : Fin k0_t3_loop.trips, k0_off13 t = ![t.val / 8, 0, t.val % 8, 0] := by decide +kernel
theorem off26_eq : ∀ t : Fin k0_t6_loop.trips, k0_off26 t = ![t.val / 8, 0, t.val % 8, 0] := by decide +kernel
theorem off33_eq : ∀ t : Fin k0_t8_loop.trips, k0_off33 t = ![t.val / 8, 0, t.val % 8, 0] := by decide +kernel

end Cert.Kernel.Hand

end
-- ==== Proof.BitsCopies.lean ====
/-
  The loops of the gather kernel, trip by trip.
-/
module

public import proofs.«01_k».proof.Proof.BitsViews
public import proofs.«01_k».proof.Proof.BitsOffsets
public import Idealize.ShloMosaic.Lib.MixedBatch

@[expose] public section

noncomputable section

namespace Cert.Kernel.Hand

open Cert.Kernel Cert.Kernel.Gen Cert.Rows
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- The counters' place in the certificate's algebra. -/
abbrev EC : UEmb Counters (MT nD τ sig Unit (Elt F) ℕ (Pipeline.UD sig nD τ) ℕ) := countersEmb (U := Pipeline.UD sig nD τ)

abbrev mT : Memref sig .tc .hbm S16384x16x2x128 .bf16 := Memref.whole main_v6
abbrev mA : Memref sig .tc .vmem S128x16x8x128 .i32 := Memref.whole cc0_scratch0
abbrev mB : Memref sig .tc .vmem S128x16x8x128 .i32 := Memref.whole cc0_scratch1

/-- What one row's copy counts. -/
def credit : ℕ := RefSig.tileCredit S16x1x128 .i32
/-- The rows of a buffer. -/
def places : ℕ := 1024

theorem credit_pos : 0 < credit :=
  View.amount_pos (rowOf mB ![0, 0, 0, 0] (by decide)).view (SemLoc.dma 14) (show 0 < S16x1x128.numel by decide)
theorem place_lt' (y : S128x16x8x128.Idx) : place y < places := place_lt y
theorem creditA (off inb) : (rowOf mA off inb).view.dmaCredit = credit := rfl
theorem creditB (off inb) : (rowOf mB off inb).view.dmaCredit = credit := rfl
theorem places_eq : places = 1024 := rfl

attribute [irreducible] credit places

/-- A word below the table's 16384 rows names a row. -/
theorem names_row (w : BitVec 32) (hw : w.toNat < 16384) :
    k0_chk3 w := by
  refine ⟨fun a => ?_, fun hinb => ?_⟩
  · fin_cases a
    · show w.toNat + 1 ≤ 16384; omega
    · show 0 + 16 ≤ 16; omega
    · show 0 + 2 ≤ 2; omega
    · show 0 + 128 ≤ 128; omega
  · exact .inr ⟨by decide, rfl, rfl, rfl⟩

/-- The word a trip loads. -/
theorem word_read (c : Dev nD) (arg1 : Memref sig .tc .smem S16x128 .i32) (f1 : Buf (Elt F) (arg1.view.loc (c : Thread nD τ)))
    (off : Fin 2 → ℕ) (inb : ∀ a, off a + S1x1.size a ≤ S16x128.size a) (base j : ℕ) (hoff : off = ![base + j / 128, j % 128])
    (x : (Rect.unit (s := S16x128) off S1x1.size inb).toLoadRect.shape.Idx) :
    View.readAt (Elt F) arg1.view (Rect.unit (s := S16x128) off S1x1.size inb).toLoadRect f1 x = arg1.view.read (Elt F) f1 (wordAt base j) := by
  subst hoff
  have i0 : base + j / 128 + 1 ≤ 16 := inb 0
  have hx0 : (x 0).val < 1 := (x 0).isLt
  have hx1 : (x 1).val < 1 := (x 1).isLt
  rw [View.readAt_apply]
  congr 1
  funext a
  apply Fin.ext
  fin_cases a
  · show base + j / 128 + 1 * (x 0).val = (base + j / 128) % 16; omega
  · show j % 128 + 1 * (x 1).val = j % 128; omega

/-- Buffer B's rows: what each holds once its copy has landed; `k` copies started. -/
def fillB (c : Dev nD) (q : PosShare TreeShare) (T : S16384x16x2x128.Idx → Elt F .bf16) (blk : S16x128.Idx → BitVec 32) (base k : ℕ) : sProp 𝕄 :=
  filling (ℓb := mB.view.loc (c : Thread nD τ)) (ℓt := mT.view.loc (c : Thread nD τ)) EC place
    (fun g x => g x = gathered T blk base x) q T (c : Thread nD τ) (SemLoc.dma 14) credit places k

/-- Every copy into buffer B started, `u` of the counter's units waited for. -/
def flyB (c : Dev nD) (q : PosShare TreeShare) (T : S16384x16x2x128.Idx → Elt F .bf16) (blk : S16x128.Idx → BitVec 32) (base u : ℕ) : sProp 𝕄 :=
  flight (ℓb := mB.view.loc (c : Thread nD τ)) (ℓt := mT.view.loc (c : Thread nD τ)) EC place
    (fun g x => g x = gathered T blk base x) q T (c : Thread nD τ) (SemLoc.dma 14) credit places places u

/-- Start the next copy into buffer B: the row it fills, the table's row a word names. -/
theorem startB (c : Dev nD) (q : PosShare TreeShare) (T : S16384x16x2x128.Idx → Elt F .bf16) (blk : S16x128.Idx → BitVec 32)
    (base j : ℕ) (hj : j < places) {α : Type} {Q : α → sProp 𝕄} {sm : SemLoc sig} (hsm : sm = SemLoc.dma 14)
    {off inb offs inbs hsrc hdst hsem} (hoff : off = ![j / 8, 0, j % 8, 0]) {w : BitVec 32}
    (hoffs : offs = ![w.toNat, 0, 0, 0]) (hw : w = blk (wordAt base j)) (hb : ∀ y, (blk y).toNat < 16384)
    {k : PUnit → Prog (TpuEff nD τ sig (Elt F) Λ₀ .tc) α} :
    fillB c q T blk base j
      ⊢ iprop((fillB c q T blk base (j + 1) -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs (tableRow offs inbs) (.here (rowOf mB off inb)) (.bitcast bitcasts_S16x2x128_w16_S16x1x128_w32) sm hsrc hdst hsem) k) Q) := by
  subst hsm
  unfold fillB
  refine wp_startRow (c := (c : Thread nD τ)) EC Variants.none none (src := tableRow offs inbs) (dst := rowOf mB off inb) (ft := T)
    (num := place) (P := fun g x => g x = gathered T blk base x) credit (creditB off inb) hj (setB off inb j hoff c) ?_
  intro fd x hx
  have hx' : place x = j := (mem_row _).1 hx
  subst hx'
  refine (landB off inb _ fd x hoff).trans ?_
  rw [tableRow_read offs inbs w (by rw [hw]; exact hb _) hoffs, hw]; rfl

/-- From the buffer at any contents: nothing started. -/
theorem openB (c : Dev nD) (q : PosShare TreeShare) (T : S16384x16x2x128.Idx → Elt F .bf16) (blk : S16x128.Idx → BitVec 32) (base : ℕ) :
    iprop((∃ f, mB.view.loc (c : Thread nD τ) ↦{fullShare} f) ∗ (mT.view.loc (c : Thread nD τ) ↦{q} T) ∗ semVal ((c : Thread nD τ), SemLoc.dma 14) 0)
      ⊢ (|={Set.univ}=> fillB c q T blk base 0 : sProp 𝕄) :=
  start (ℓb := mB.view.loc (c : Thread nD τ)) (ℓt := mT.view.loc (c : Thread nD τ)) EC place (fun g x => g x = gathered T blk base x) q T (c : Thread nD τ) (SemLoc.dma 14) credit places Set.univ

/-- All started: the copies, and what is left of the table's share. -/
theorem allB (c : Dev nD) (q : PosShare TreeShare) (T : S16384x16x2x128.Idx → Elt F .bf16) (blk : S16x128.Idx → BitVec 32) (base : ℕ) :
    fillB c q T blk base places ⊢ (iprop(flyB c q T blk base 0 ∗ (mT.view.loc (c : Thread nD τ) ↦{Transfers.shareDrop q places} T)) : sProp 𝕄) :=
  allStarted (ℓb := mB.view.loc (c : Thread nD τ)) (ℓt := mT.view.loc (c : Thread nD τ)) EC place (fun g x => g x = gathered T blk base x) q T (c : Thread nD τ) (SemLoc.dma 14) credit places

/-- All waited for: the buffer holds the gathered rows. -/
theorem closeB (c : Dev nD) (q : PosShare TreeShare) (T : S16384x16x2x128.Idx → Elt F .bf16) (blk : S16x128.Idx → BitVec 32) (base : ℕ) :
    iprop(flyB c q T blk base (credit * places) ∗ (mT.view.loc (c : Thread nD τ) ↦{Transfers.shareDrop q places} T))
      ⊢ (|={Set.univ}=> iprop((mB.view.loc (c : Thread nD τ) ↦{fullShare} (gathered T blk base : S128x16x8x128.Idx → Elt F .i32))
          ∗ (mT.view.loc (c : Thread nD τ) ↦{q} T) ∗ semVal ((c : Thread nD τ), SemLoc.dma 14) 0) : sProp 𝕄) := by
  refine (collect (ℓb := mB.view.loc (c : Thread nD τ)) (ℓt := mT.view.loc (c : Thread nD τ)) EC place (fun g x => g x = gathered T blk base x) q T (c : Thread nD τ) (SemLoc.dma 14) credit
    (fun f g x h hf => h.symm.trans hf) (gathered T blk base) places place_lt' credit_pos).trans ?_
  iintro H
  imod H with ⟨Hg, Ht, Hs⟩
  imodintro
  isplitl [Hg]
  · unfold goodAt
    icases Hg with ⟨%g, %hg, Hg⟩
    rw [show g = gathered T blk base from funext fun x => hg x (Finset.mem_univ _)]
    iexact Hg
  isplitl [Ht] <;> iassumption

/-- Wait for one row's units. -/
theorem waitB (c : Dev nD) (q : PosShare TreeShare) (T : S16384x16x2x128.Idx → Elt F .bf16) (blk : S16x128.Idx → BitVec 32)
    (base j : ℕ) (hj : j < places) {α : Type} {Q : α → sProp 𝕄} {sem : DmaSem sig} (hsm : SemLoc.dma sem = (SemLoc.dma 14 : SemLoc sig))
    {off inb} {sp : Space} {s : Shape} {e : EltTy} {src : Memref sig .tc sp s e} {hsrc hdst} {W : Waits sig Unit}
    {k : PUnit → Prog (TpuEff nD τ sig (Elt F) Λ₀ .tc) α} :
    iprop(flyB c q T blk base (credit * j) ∗ owes (c : Thread nD τ) 0 W)
      ⊢ iprop((flyB c q T blk base (credit * (j + 1)) ∗ owes (c : Thread nD τ) 0 (insert (SemLoc.dma sem, ()) W)
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sem src (rowOf mB off inb) hsrc hdst) k) Q) := by
  unfold flyB flight
  rw [← hsm, show credit * (j + 1) = credit * j + 1 * credit by rw [Nat.one_mul, Nat.mul_succ]]
  exact Transfers.wp_waitBatchMul (Lvl := ℕ) (defs := defs₀ (F := F)) EC Variants.none (c : Thread nD τ) none () (N := credit) 1 (j := places) (u := credit * j) (hJ := (creditB off inb).trans (Nat.one_mul _).symm)
    (by rw [Nat.one_mul, ← Nat.mul_succ]; exact Nat.mul_le_mul_left _ hj) (k := k) (Q := Q) (srcw := src) (hsrc := hsrc) (hdst := hdst) (sem := sem) (W := W) (D := fun r : Fin places => fly (ℓb := mB.view.loc (c : Thread nD τ)) (ℓt := mT.view.loc (c : Thread nD τ)) place (fun g x => g x = gathered T blk base x) q T r.val)

/-- Buffer A's rows: what each holds once its copy has landed; `k` copies started. -/
def fillA (c : Dev nD) (q : PosShare TreeShare) (T : S16384x16x2x128.Idx → Elt F .bf16) (blk : S16x128.Idx → BitVec 32) (base k : ℕ) : sProp 𝕄 :=
  filling (ℓb := mA.view.loc (c : Thread nD τ)) (ℓt := mT.view.loc (c : Thread nD τ)) EC place
    (fun g x => g x = gathered T blk base x) q T (c : Thread nD τ) (SemLoc.dma 13) credit places k

/-- Every copy into buffer A started, `u` of the counter's units waited for. -/
def flyA (c : Dev nD) (q : PosShare TreeShare) (T : S16384x16x2x128.Idx → Elt F .bf16) (blk : S16x128.Idx → BitVec 32) (base u : ℕ) : sProp 𝕄 :=
  flight (ℓb := mA.view.loc (c : Thread nD τ)) (ℓt := mT.view.loc (c : Thread nD τ)) EC place
    (fun g x => g x = gathered T blk base x) q T (c : Thread nD τ) (SemLoc.dma 13) credit places places u

/-- Start the next copy into buffer A: the row it fills, the table's row a word names. -/
theorem startA (c : Dev nD) (q : PosShare TreeShare) (T : S16384x16x2x128.Idx → Elt F .bf16) (blk : S16x128.Idx → BitVec 32)
    (base j : ℕ) (hj : j < places) {α : Type} {Q : α → sProp 𝕄} {sm : SemLoc sig} (hsm : sm = SemLoc.dma 13)
    {off inb offs inbs hsrc hdst hsem} (hoff : off = ![j / 8, 0, j % 8, 0]) {w : BitVec 32}
    (hoffs : offs = ![w.toNat, 0, 0, 0]) (hw : w = blk (wordAt base j)) (hb : ∀ y, (blk y).toNat < 16384)
    {k : PUnit → Prog (TpuEff nD τ sig (Elt F) Λ₀ .tc) α} :
    fillA c q T blk base j
      ⊢ iprop((fillA c q T blk base (j + 1) -∗ wp frame (wpE (defs₀ (F := F)) Variants.none (c : Thread nD τ) none) Set.univ (k ⟨⟩) Q)
          -∗ wp frame (wpE (defs₀ (F := F)) Variants.none (c : Thread nD τ) none) Set.univ
            (.op (.enqueueDmaAs (tableRow offs inbs) (.here (rowOf mA off inb)) (.bitcast bitcasts_S16x2x128_w16_S16x1x128_w32) sm hsrc hdst hsem) k) Q) := by
  subst hsm
  unfold fillA
  refine wp_startRow (c := (c : Thread nD τ)) EC Variants.none none (src := tableRow offs inbs) (dst := rowOf mA off inb) (ft := T)
    (num := place) (P := fun g x => g x = gathered T blk base x) credit (creditA off inb) hj (setA off inb j hoff c) ?_
  intro fd x hx
  have hx' : place x = j := (mem_row _).1 hx
  subst hx'
  refine (landA off inb _ fd x hoff).trans ?_
  rw [tableRow_read offs inbs w (by rw [hw]; exact hb _) hoffs, hw]; rfl

/-- From the buffer at any contents: nothing started. -/
theorem openA (c : Dev nD) (q : PosShare TreeShare) (T : S16384x16x2x128.Idx → Elt F .bf16) (blk : S16x128.Idx → BitVec 32) (base : ℕ) :
    iprop((∃ f, mA.view.loc (c : Thread nD τ) ↦{fullShare} f) ∗ (mT.view.loc (c : Thread nD τ) ↦{q} T) ∗ semVal ((c : Thread nD τ), SemLoc.dma 13) 0)
      ⊢ (|={Set.univ}=> fillA c q T blk base 0 : sProp 𝕄) :=
  start (ℓb := mA.view.loc (c : Thread nD τ)) (ℓt := mT.view.loc (c : Thread nD τ)) EC place (fun g x => g x = gathered T blk base x) q T (c : Thread nD τ) (SemLoc.dma 13) credit places Set.univ

/-- All started: the copies, and what is left of the table's share. -/
theorem allA (c : Dev nD) (q : PosShare TreeShare) (T : S16384x16x2x128.Idx → Elt F .bf16) (blk : S16x128.Idx → BitVec 32) (base : ℕ) :
    fillA c q T blk base places ⊢ (iprop(flyA c q T blk base 0 ∗ (mT.view.loc (c : Thread nD τ) ↦{Transfers.shareDrop q places} T)) : sProp 𝕄) :=
  allStarted (ℓb := mA.view.loc (c : Thread nD τ)) (ℓt := mT.view.loc (c : Thread nD τ)) EC place (fun g x => g x = gathered T blk base x) q T (c : Thread nD τ) (SemLoc.dma 13) credit places

/-- All waited for: the buffer holds the gathered rows. -/
theorem closeA (c : Dev nD) (q : PosShare TreeShare) (T : S16384x16x2x128.Idx → Elt F .bf16) (blk : S16x128.Idx → BitVec 32) (base : ℕ) :
    iprop(flyA c q T blk base (credit * places) ∗ (mT.view.loc (c : Thread nD τ) ↦{Transfers.shareDrop q places} T))
      ⊢ (|={Set.univ}=> iprop((mA.view.loc (c : Thread nD τ) ↦{fullShare} (gathered T blk base : S128x16x8x128.Idx → Elt F .i32))
          ∗ (mT.view.loc (c : Thread nD τ) ↦{q} T) ∗ semVal ((c : Thread nD τ), SemLoc.dma 13) 0) : sProp 𝕄) := by
  refine (collect (ℓb := mA.view.loc (c : Thread nD τ)) (ℓt := mT.view.loc (c : Thread nD τ)) EC place (fun g x => g x = gathered T blk base x) q T (c : Thread nD τ) (SemLoc.dma 13) credit
    (fun f g x h hf => h.symm.trans hf) (gathered T blk base) places place_lt' credit_pos).trans ?_
  iintro H
  imod H with ⟨Hg, Ht, Hs⟩
  imodintro
  isplitl [Hg]
  · unfold goodAt
    icases Hg with ⟨%g, %hg, Hg⟩
    rw [show g = gathered T blk base from funext fun x => hg x (Finset.mem_univ _)]
    iexact Hg
  isplitl [Ht] <;> iassumption

/-- Wait for one row's units. -/
theorem waitA (c : Dev nD) (q : PosShare TreeShare) (T : S16384x16x2x128.Idx → Elt F .bf16) (blk : S16x128.Idx → BitVec 32)
    (base j : ℕ) (hj : j < places) {α : Type} {Q : α → sProp 𝕄} {sem : DmaSem sig} (hsm : SemLoc.dma sem = (SemLoc.dma 13 : SemLoc sig))
    {off inb} {sp : Space} {s : Shape} {e : EltTy} {src : Memref sig .tc sp s e} {hsrc hdst} {W : Waits sig Unit}
    {k : PUnit → Prog (TpuEff nD τ sig (Elt F) Λ₀ .tc) α} :
    iprop(flyA c q T blk base (credit * j) ∗ owes (c : Thread nD τ) 0 W)
      ⊢ iprop((flyA c q T blk base (credit * (j + 1)) ∗ owes (c : Thread nD τ) 0 (insert (SemLoc.dma sem, ()) W)
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sem src (rowOf mA off inb) hsrc hdst) k) Q) := by
  unfold flyA flight
  rw [← hsm, show credit * (j + 1) = credit * j + 1 * credit by rw [Nat.one_mul, Nat.mul_succ]]
  exact Transfers.wp_waitBatchMul (Lvl := ℕ) (defs := defs₀ (F := F)) EC Variants.none (c : Thread nD τ) none () (N := credit) 1 (j := places) (u := credit * j) (hJ := (creditA off inb).trans (Nat.one_mul _).symm)
    (by rw [Nat.one_mul, ← Nat.mul_succ]; exact Nat.mul_le_mul_left _ hj) (k := k) (Q := Q) (srcw := src) (hsrc := hsrc) (hdst := hdst) (sem := sem) (W := W) (D := fun r : Fin places => fly (ℓb := mA.view.loc (c : Thread nD τ)) (ℓt := mT.view.loc (c : Thread nD τ)) place (fun g x => g x = gathered T blk base x) q T r.val)

end Cert.Kernel.Hand

end
-- ==== Proof.IdealViews.lean ====
/-
  The views and the words of the gather kernel, at the ideal reading: which rows its copies name.

  A row of a buffer `[128, 16, 8, 2, 128]` is one expert's vector pair for one of the 1024 (token, expert) places of a
  group of eight tokens: place `j` lies at `(j / 8, ·, j % 8, ·, ·)`. The copy for place `j` of the group whose first
  index row is `base` reads the table at the row named by the index word `(base + j / 128, j % 128)`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Rows
public import Idealize.ShloMosaic.Lib.Pipeline.FrameBody
public import Idealize.ShloMosaic.Lib.ValueIdxCore
public import Idealize.ShloMosaic.Lib.Tactic

@[expose] public section

noncomputable section

namespace Cert.KernelIdeal.Hand

open Cert.KernelIdeal Cert.KernelIdeal.Gen Cert.Rows
open Idealize.ShloMosaic Idealize.ShloMosaic.TcCoe Idealize.ShloMosaic.ValueIdx

variable {F : FTy → Type} [FloatOps F]

/-- The place a buffer's element belongs to. -/
def place (y : S128x16x8x2x128.Idx) : ℕ := 8 * (y 0).val + (y 2).val

theorem place_lt (y : S128x16x8x2x128.Idx) : place y < 1024 := by
  have h0 : (y 0).val < 128 := (y 0).isLt
  have h2 : (y 2).val < 8 := (y 2).isLt
  unfold place; omega

/-- The place of the index word for place `j` of the group whose first index row is `base`. -/
def wordAt (base j : ℕ) : S16x128.Idx :=
  ix2 (⟨(base + j / 128) % 16, Nat.mod_lt _ (by decide)⟩ : Fin 16) (⟨j % 128, Nat.mod_lt _ (by decide)⟩ : Fin 128)

/-- The table's element a word `w` names, at the lanes of a buffer's element `y`. -/
def tableAt (w : BitVec 32) (y : S128x16x8x2x128.Idx) : S16384x16x2x128.Idx :=
  ix4 (⟨w.toNat % 16384, Nat.mod_lt _ (by decide)⟩ : Fin 16384) (y 1 : Fin 16) (y 3 : Fin 2) (y 4 : Fin 128)

/-- What a group's buffer holds once every row has arrived. -/
def gathered {α : Type} (T : S16384x16x2x128.Idx → α) (blk : S16x128.Idx → BitVec 32) (base : ℕ) :
    S128x16x8x2x128.Idx → α :=
  fun y => T (tableAt (blk (wordAt base (place y))) y)

theorem reshape_dst (h : S16x1x2x128.numel = S1x16x1x2x128.numel) (z : S16x1x2x128.Idx) :
    Shape.reshapeEquiv h z = (ix5 (0 : Fin 1) (z 0 : Fin 16) (0 : Fin 1) (z 2 : Fin 2) (z 3 : Fin 128) : S1x16x1x2x128.Idx) :=
  Shape.reshapeEquiv_eq_of_rowMajor h (by
    have h1 : (z 1).val < 1 := (z 1).isLt
    rw [Shape.rowMajor_val_five, Shape.rowMajor_val_four]
    show (((0 * 16 + (z 0).val) * 1 + 0) * 2 + (z 2).val) * 128 + (z 3).val
      = (((z 0).val * 1 + (z 1).val) * 2 + (z 2).val) * 128 + (z 3).val
    omega)

theorem reshape_src (h : S16x1x2x128.numel = S1x16x2x128.numel) (z : S16x1x2x128.Idx) :
    Shape.reshapeEquiv h z = (ix4 (0 : Fin 1) (z 0 : Fin 16) (z 2 : Fin 2) (z 3 : Fin 128) : S1x16x2x128.Idx) :=
  Shape.reshapeEquiv_eq_of_rowMajor h (by
    have h1 : (z 1).val < 1 := (z 1).isLt
    rw [Shape.rowMajor_val_four, Shape.rowMajor_val_four]
    show ((0 * 16 + (z 0).val) * 2 + (z 2).val) * 128 + (z 3).val
      = (((z 0).val * 1 + (z 1).val) * 2 + (z 2).val) * 128 + (z 3).val
    omega)

/-- The row a copy fills, in the buffer `b` of rows, -/
abbrev rowOf (b : Memref sig .tc .vmem S128x16x8x2x128 .bf16) (off : Fin 5 → ℕ)
    (inb : ∀ a, off a + S1x16x1x2x128.size a ≤ S128x16x8x2x128.size a) : Memref sig .tc .vmem S16x1x2x128 .bf16 :=
  (b.slice (Rect.unit (s := S128x16x8x2x128) off S1x16x1x2x128.size inb) (fun _ => rfl)).squeeze S16x1x2x128
    squeezes_S1x16x1x2x128_S16x1x2x128

/-- the rectangle it is; -/
theorem row_rect (off : Fin 5 → ℕ) (inb : ∀ a, off a + S1x16x1x2x128.size a ≤ S128x16x8x2x128.size a) (j : ℕ)
    (hoff : off = ![j / 8, 0, j % 8, 0, 0]) (y : S128x16x8x2x128.Idx) :
    y ∈ (Rect.unit (s := S128x16x8x2x128) off S1x16x1x2x128.size inb).set ↔ place y = j := by
  subst hoff
  rw [Rect.mem_set_unit]
  have h0 : (y 0).val < 128 := (y 0).isLt
  have h1 : (y 1).val < 16 := (y 1).isLt
  have h2 : (y 2).val < 8 := (y 2).isLt
  have h3 : (y 3).val < 2 := (y 3).isLt
  have h4 : (y 4).val < 128 := (y 4).isLt
  unfold place
  constructor
  · intro H
    have a0 : j / 8 ≤ (y 0).val ∧ (y 0).val < j / 8 + 1 := H 0
    have a2 : j % 8 ≤ (y 2).val ∧ (y 2).val < j % 8 + 1 := H 2
    omega
  · intro H a
    fin_cases a
    · show j / 8 ≤ (y 0).val ∧ (y 0).val < j / 8 + 1; omega
    · show 0 ≤ (y 1).val ∧ (y 1).val < 0 + 16; omega
    · show j % 8 ≤ (y 2).val ∧ (y 2).val < j % 8 + 1; omega
    · show 0 ≤ (y 3).val ∧ (y 3).val < 0 + 2; omega
    · show 0 ≤ (y 4).val ∧ (y 4).val < 0 + 128; omega

/-- where its elements lie; -/
theorem row_emb (off : Fin 5 → ℕ) (inb : ∀ a, off a + S1x16x1x2x128.size a ≤ S128x16x8x2x128.size a) (y : S128x16x8x2x128.Idx)
    (hoff : off = ![place y / 8, 0, place y % 8, 0, 0]) (h : S16x1x2x128.numel = S1x16x1x2x128.numel) :
    (Rect.unit (s := S128x16x8x2x128) off S1x16x1x2x128.size inb).emb
      (Shape.reshapeEquiv h (ix4 (y 1 : Fin 16) (0 : Fin 1) (y 3 : Fin 2) (y 4 : Fin 128) : S16x1x2x128.Idx)) = y := by
  subst hoff
  rw [reshape_dst]
  have h0 : (y 0).val < 128 := (y 0).isLt
  have h2 : (y 2).val < 8 := (y 2).isLt
  have hp : place y = 8 * (y 0).val + (y 2).val := rfl
  funext a
  apply Fin.ext
  fin_cases a
  · show place y / 8 + 1 * 0 = (y 0).val; omega
  · show 0 + 1 * (y 1).val = (y 1).val; omega
  · show place y % 8 + 1 * 0 = (y 2).val; omega
  · show 0 + 1 * (y 3).val = (y 3).val; omega
  · show 0 + 1 * (y 4).val = (y 4).val; omega

/-- and where the table's, at the row a word names. -/
theorem table_emb (off : Fin 4 → ℕ) (inb : ∀ a, off a + S1x16x2x128.size a ≤ S16384x16x2x128.size a) (w : BitVec 32)
    (hw : w.toNat < 16384) (hoff : off = ![w.toNat, 0, 0, 0]) (y : S128x16x8x2x128.Idx)
    (h : S16x1x2x128.numel = S1x16x2x128.numel) :
    (Rect.unit (s := S16384x16x2x128) off S1x16x2x128.size inb).emb
      (Shape.reshapeEquiv h (ix4 (y 1 : Fin 16) (0 : Fin 1) (y 3 : Fin 2) (y 4 : Fin 128) : S16x1x2x128.Idx)) = tableAt w y := by
  subst hoff
  rw [reshape_src]
  funext a
  apply Fin.ext
  fin_cases a
  · show w.toNat + 1 * 0 = w.toNat % 16384; omega
  · show 0 + 1 * (y 1).val = (y 1).val; omega
  · show 0 + 1 * (y 3).val = (y 3).val; omega
  · show 0 + 1 * (y 4).val = (y 4).val; omega

/-- What an index word names, as the copies read the table there. -/
abbrev tableRow (off : Fin 4 → ℕ) (inb : ∀ a, off a + S1x16x2x128.size a ≤ S16384x16x2x128.size a)
    (hc : (((Memref.whole main_v6).slice (Rect.unit (s := S16384x16x2x128) off S1x16x2x128.size inb) (fun _ => rfl)).squeeze S16x2x128
        squeezes_S1x16x2x128_S16x2x128).view.Contiguous) :
    Memref sig .tc .hbm S16x1x2x128 .bf16 :=
  (((Memref.whole main_v6).slice (Rect.unit (s := S16384x16x2x128) off S1x16x2x128.size inb) (fun _ => rfl)).squeeze S16x2x128
      squeezes_S1x16x2x128_S16x2x128).reshape S16x1x2x128 reshapes_S16x2x128_S16x1x2x128.1 reshapes_S16x2x128_S16x1x2x128.2 hc

theorem setA (off inb) (j : ℕ) (hoff : off = ![j / 8, 0, j % 8, 0, 0]) (c : Dev nD) :
    (rowOf (Memref.whole cc0_scratch0) off inb).view.set
      = row (ℓ := (Memref.whole cc0_scratch0).view.loc (c : Thread nD τ)) place j := by
  refine ((View.set_reshape _ _).trans (View.set_slice_whole _ _)).trans ?_
  ext y; rw [mem_row]; exact row_rect off inb j hoff y

theorem setB (off inb) (j : ℕ) (hoff : off = ![j / 8, 0, j % 8, 0, 0]) (c : Dev nD) :
    (rowOf (Memref.whole cc0_scratch1) off inb).view.set
      = row (ℓ := (Memref.whole cc0_scratch1).view.loc (c : Thread nD τ)) place j := by
  refine ((View.set_reshape _ _).trans (View.set_slice_whole _ _)).trans ?_
  ext y; rw [mem_row]; exact row_rect off inb j hoff y

theorem landA (off inb offs inbs hc) (w : BitVec 32) (hw : w.toNat < 16384) (hoffs : offs = ![w.toNat, 0, 0, 0])
    (T : S16384x16x2x128.Idx → Elt F .bf16) (fd : S128x16x8x2x128.Idx → Elt F .bf16) (y : S128x16x8x2x128.Idx)
    (hoff : off = ![place y / 8, 0, place y % 8, 0, 0]) :
    (rowOf (Memref.whole cc0_scratch0) off inb).view.write (Elt F) fd ((tableRow offs inbs hc).view.read (Elt F) T) Finset.univ y
      = T (tableAt w y) := by
  have he : (rowOf (Memref.whole cc0_scratch0) off inb).view.emb (ix4 (y 1 : Fin 16) (0 : Fin 1) (y 3 : Fin 2) (y 4 : Fin 128)) = y :=
    row_emb off inb y hoff _
  have hs : (tableRow offs inbs hc).view.emb (ix4 (y 1 : Fin 16) (0 : Fin 1) (y 3 : Fin 2) (y 4 : Fin 128)) = tableAt w y := by
    refine Eq.trans ?_ (table_emb offs inbs w hw hoffs y rfl)
    show (Rect.unit (s := S16384x16x2x128) offs S1x16x2x128.size inbs).emb (Shape.reshapeEquiv _ (Shape.reshapeEquiv _ _)) = _
    rw [Shape.reshapeEquiv_reshapeEquiv]
  have key := View.write_emb_of_mem (v := (rowOf (Memref.whole cc0_scratch0) off inb).view) (Val := Elt F) fd ((tableRow offs inbs hc).view.read (Elt F) T)
    (Finset.mem_univ (ix4 (y 1 : Fin 16) (0 : Fin 1) (y 3 : Fin 2) (y 4 : Fin 128)))
  exact (congrArg _ he.symm).trans (key.trans (congrArg T hs))

theorem landB (off inb offs inbs hc) (w : BitVec 32) (hw : w.toNat < 16384) (hoffs : offs = ![w.toNat, 0, 0, 0])
    (T : S16384x16x2x128.Idx → Elt F .bf16) (fd : S128x16x8x2x128.Idx → Elt F .bf16) (y : S128x16x8x2x128.Idx)
    (hoff : off = ![place y / 8, 0, place y % 8, 0, 0]) :
    (rowOf (Memref.whole cc0_scratch1) off inb).view.write (Elt F) fd ((tableRow offs inbs hc).view.read (Elt F) T) Finset.univ y
      = T (tableAt w y) := by
  have he : (rowOf (Memref.whole cc0_scratch1) off inb).view.emb (ix4 (y 1 : Fin 16) (0 : Fin 1) (y 3 : Fin 2) (y 4 : Fin 128)) = y :=
    row_emb off inb y hoff _
  have hs : (tableRow offs inbs hc).view.emb (ix4 (y 1 : Fin 16) (0 : Fin 1) (y 3 : Fin 2) (y 4 : Fin 128)) = tableAt w y := by
    refine Eq.trans ?_ (table_emb offs inbs w hw hoffs y rfl)
    show (Rect.unit (s := S16384x16x2x128) offs S1x16x2x128.size inbs).emb (Shape.reshapeEquiv _ (Shape.reshapeEquiv _ _)) = _
    rw [Shape.reshapeEquiv_reshapeEquiv]
  have key := View.write_emb_of_mem (v := (rowOf (Memref.whole cc0_scratch1) off inb).view) (Val := Elt F) fd ((tableRow offs inbs hc).view.read (Elt F) T)
    (Finset.mem_univ (ix4 (y 1 : Fin 16) (0 : Fin 1) (y 3 : Fin 2) (y 4 : Fin 128)))
  exact (congrArg _ he.symm).trans (key.trans (congrArg T hs))

end Cert.KernelIdeal.Hand

end
-- ==== Proof.IdealOffsets.lean ====
/-
  The offsets the loops' copies compute, in closed form: the index word and the buffer row of each trip.
-/
module

public import proofs.«01_k».proof.Proof.Gen.KernelIdeal

@[expose] public section

noncomputable section

namespace Cert.KernelIdeal.Hand

open Cert.KernelIdeal Cert.KernelIdeal.Gen Idealize.ShloMosaic

/-! ## The offsets of the loops' copies, in closed form -/

theorem off1_eq : ∀ t : Fin k0_t1_loop.trips, k0_off1 t = ![0 + (2 * t.val) / 128, (2 * t.val) % 128] := by decide +kernel
theorem off2_eq : ∀ t : Fin k0_t1_loop.trips, k0_off2 t = ![(2 * t.val) / 8, 0, (2 * t.val) % 8, 0, 0] := by decide +kernel
theorem off4_eq : ∀ t : Fin k0_t1_loop.trips, k0_off4 t = ![0 + (2 * t.val + 1) / 128, (2 * t.val + 1) % 128] := by decide +kernel
theorem off5_eq : ∀ t : Fin k0_t1_loop.trips, k0_off5 t = ![(2 * t.val + 1) / 8, 0, (2 * t.val + 1) % 8, 0, 0] := by decide +kernel
theorem off7_eq : ∀ t : Fin k0_t2_loop.trips, k0_off7 t = ![8 + (2 * t.val) / 128, (2 * t.val) % 128] := by decide +kernel
theorem off8_eq : ∀ t : Fin k0_t2_loop.trips, k0_off8 t = ![(2 * t.val) / 8, 0, (2 * t.val) % 8, 0, 0] := by decide +kernel
theorem off10_eq : ∀ t : Fin k0_t2_loop.trips, k0_off10 t = ![8 + (2 * t.val + 1) / 128, (2 * t.val + 1) % 128] := by decide +kernel
theorem off11_eq : ∀ t : Fin k0_t2_loop.trips, k0_off11 t = ![(2 * t.val + 1) / 8, 0, (2 * t.val + 1) % 8, 0, 0] := by decide +kernel
theorem off14_eq : ∀ t : Fin k0_t4_loop.trips, k0_off14 t = ![8 + (512 + 2 * t.val) / 128, (512 + 2 * t.val) % 128] := by decide +kernel
theorem off15_eq : ∀ t : Fin k0_t4_loop.trips, k0_off15 t = ![(512 + 2 * t.val) / 8, 0, (512 + 2 * t.val) % 8, 0, 0] := by decide +kernel
theorem off17_eq : ∀ t : Fin k0_t4_loop.trips, k0_off17 t = ![8 + (512 + 2 * t.val + 1) / 128, (512 + 2 * t.val + 1) % 128] := by decide +kernel
theorem off18_eq : ∀ t : Fin k0_t4_loop.trips, k0_off18 t = ![(512 + 2 * t.val + 1) / 8, 0, (512 + 2 * t.val + 1) % 8, 0, 0] := by decide +kernel
theorem off20_eq : ∀ t : Fin k0_t5_loop.trips, k0_off20 t = ![0 + (2 * t.val) / 128, (2 * t.val) % 128] := by decide +kernel
theorem off21_eq : ∀ t : Fin k0_t5_loop.trips, k0_off21 t = ![(2 * t.val) / 8, 0, (2 * t.val) % 8, 0, 0] := by decide +kernel
theorem off23_eq : ∀ t : Fin k0_t5_loop.trips, k0_off23 t = ![0 + (2 * t.val + 1) / 128, (2 * t.val + 1) % 128] := by decide +kernel
theorem off24_eq : ∀ t : Fin k0_t5_loop.trips, k0_off24 t = ![(2 * t.val + 1) / 8, 0, (2 * t.val + 1) % 8, 0, 0] := by decide +kernel
theorem off27_eq : ∀ t : Fin k0_t7_loop.trips, k0_off27 t = ![0 + (512 + 2 * t.val) / 128, (512 + 2 * t.val) % 128] := by decide +kernel
theorem off28_eq : ∀ t : Fin k0_t7_loop.trips, k0_off28 t = ![(512 + 2 * t.val) / 8, 0, (512 + 2 * t.val) % 8, 0, 0] := by decide +kernel
theorem off30_eq : ∀ t : Fin k0_t7_loop.trips, k0_off30 t = ![0 + (512 + 2 * t.val + 1) / 128, (512 + 2 * t.val + 1) % 128] := by decide +kernel
theorem off31_eq : ∀ t : Fin k0_t7_loop.trips, k0_off31 t = ![(512 + 2 * t.val + 1) / 8, 0, (512 + 2 * t.val + 1) % 8, 0, 0] := by decide +kernel
theorem off13_eq : ∀ t : Fin k0_t3_loop.trips, k0_off13 t = ![t.val / 8, 0, t.val % 8, 0, 0] := by decide +kernel
theorem off26_eq : ∀ t : Fin k0_t6_loop.trips, k0_off26 t = ![t.val / 8, 0, t.val % 8, 0, 0] := by decide +kernel
theorem off33_eq : ∀ t : Fin k0_t8_loop.trips, k0_off33 t = ![t.val / 8, 0, t.val % 8, 0, 0] := by decide +kernel

end Cert.KernelIdeal.Hand

end
-- ==== Proof.IdealCopies.lean ====
/-
  The loops of the gather kernel, trip by trip.
-/
module

public import proofs.«01_k».proof.Proof.IdealViews
public import proofs.«01_k».proof.Proof.IdealOffsets
public import Idealize.ShloMosaic.Lib.MixedBatch

@[expose] public section

noncomputable section

namespace Cert.KernelIdeal.Hand

open Cert.KernelIdeal Cert.KernelIdeal.Gen Cert.Rows
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The counters' place in the certificate's algebra. -/
abbrev EC : UEmb Counters (MT nD τ sig Unit (Elt F) ℕ (Pipeline.UD sig nD τ) ℕ) := countersEmb (U := Pipeline.UD sig nD τ)

abbrev mT : Memref sig .tc .hbm S16384x16x2x128 .bf16 := Memref.whole main_v6
abbrev mA : Memref sig .tc .vmem S128x16x8x2x128 .bf16 := Memref.whole cc0_scratch0
abbrev mB : Memref sig .tc .vmem S128x16x8x2x128 .bf16 := Memref.whole cc0_scratch1

/-- What one row's copy counts. -/
def credit : ℕ := RefSig.tileCredit S16x1x2x128 .bf16
/-- The rows of a buffer. -/
def places : ℕ := 1024

theorem credit_pos : 0 < credit :=
  View.amount_pos (rowOf mB ![0, 0, 0, 0, 0] (by decide)).view (SemLoc.dma 14) (show 0 < S16x1x2x128.numel by decide)
theorem place_lt' (y : S128x16x8x2x128.Idx) : place y < places := place_lt y
theorem creditA (off inb) : (rowOf mA off inb).view.dmaCredit = credit := rfl
theorem creditB (off inb) : (rowOf mB off inb).view.dmaCredit = credit := rfl
theorem places_eq : places = 1024 := rfl

attribute [irreducible] credit places

/-- A word below the table's 16384 rows names a row. -/
theorem names_row (w : BitVec 32) (hw : w.toNat < 16384) :
    k0_chk3 w := by
  refine ⟨fun a => ?_, fun hinb => ?_, fun hinb => ?_⟩
  · fin_cases a
    · show w.toNat + 1 ≤ 16384; omega
    · show 0 + 16 ≤ 16; omega
    · show 0 + 2 ≤ 2; omega
    · show 0 + 128 ≤ 128; omega
  · exact .inr ⟨by decide, rfl, rfl, rfl⟩
  · exact ⟨fun a => rfl, .inl ⟨le_rfl, .inr fun a => by fin_cases a <;> exact ⟨rfl, rfl⟩⟩⟩

/-- The word a trip loads. -/
theorem word_read (c : Dev nD) (arg1 : Memref sig .tc .smem S16x128 .i32) (f1 : Buf (Elt F) (arg1.view.loc (c : Thread nD τ)))
    (off : Fin 2 → ℕ) (inb : ∀ a, off a + S1x1.size a ≤ S16x128.size a) (base j : ℕ) (hoff : off = ![base + j / 128, j % 128])
    (x : (Rect.unit (s := S16x128) off S1x1.size inb).toLoadRect.shape.Idx) :
    View.readAt (Elt F) arg1.view (Rect.unit (s := S16x128) off S1x1.size inb).toLoadRect f1 x = arg1.view.read (Elt F) f1 (wordAt base j) := by
  subst hoff
  have i0 : base + j / 128 + 1 ≤ 16 := inb 0
  have hx0 : (x 0).val < 1 := (x 0).isLt
  have hx1 : (x 1).val < 1 := (x 1).isLt
  rw [View.readAt_apply]
  congr 1
  funext a
  apply Fin.ext
  fin_cases a
  · show base + j / 128 + 1 * (x 0).val = (base + j / 128) % 16; omega
  · show j % 128 + 1 * (x 1).val = j % 128; omega

/-- Buffer B's rows: what each holds once its copy has landed; `k` copies started. -/
def fillB (c : Dev nD) (q : PosShare TreeShare) (T : S16384x16x2x128.Idx → Elt F .bf16) (blk : S16x128.Idx → BitVec 32) (base k : ℕ) : sProp 𝕄 :=
  filling (ℓb := mB.view.loc (c : Thread nD τ)) (ℓt := mT.view.loc (c : Thread nD τ)) EC place
    (fun g x => g x = gathered T blk base x) q T (c : Thread nD τ) (SemLoc.dma 14) credit places k

/-- Every copy into buffer B started, `u` of the counter's units waited for. -/
def flyB (c : Dev nD) (q : PosShare TreeShare) (T : S16384x16x2x128.Idx → Elt F .bf16) (blk : S16x128.Idx → BitVec 32) (base u : ℕ) : sProp 𝕄 :=
  flight (ℓb := mB.view.loc (c : Thread nD τ)) (ℓt := mT.view.loc (c : Thread nD τ)) EC place
    (fun g x => g x = gathered T blk base x) q T (c : Thread nD τ) (SemLoc.dma 14) credit places places u

/-- Start the next copy into buffer B: the row it fills, the table's row a word names. -/
theorem startB (c : Dev nD) (q : PosShare TreeShare) (T : S16384x16x2x128.Idx → Elt F .bf16) (blk : S16x128.Idx → BitVec 32)
    (base j : ℕ) (hj : j < places) {α : Type} {Q : α → sProp 𝕄} {sm : SemLoc sig} (hsm : sm = SemLoc.dma 14)
    {off inb offs inbs hc hsrc hdst hsem} (hoff : off = ![j / 8, 0, j % 8, 0, 0]) {w : BitVec 32}
    (hoffs : offs = ![w.toNat, 0, 0, 0]) (hw : w = blk (wordAt base j)) (hb : ∀ y, (blk y).toNat < 16384)
    {k : PUnit → Prog (TpuEff nD τ sig (Elt F) Λ₀ .tc) α} :
    fillB c q T blk base j
      ⊢ iprop((fillB c q T blk base (j + 1) -∗ wp frame (wpE (defs₀ (F := F)) Variants.none (c : Thread nD τ) none) Set.univ (k ⟨⟩) Q)
          -∗ wp frame (wpE (defs₀ (F := F)) Variants.none (c : Thread nD τ) none) Set.univ
            (.op (.enqueueDma (tableRow offs inbs hc) (.here (rowOf mB off inb)) sm hsrc hdst hsem) k) Q) := by
  subst hsm
  unfold fillB
  refine wp_startRow (c := (c : Thread nD τ)) EC Variants.none none (src := tableRow offs inbs hc) (dst := rowOf mB off inb) (ft := T)
    (num := place) (P := fun g x => g x = gathered T blk base x) credit (creditB off inb) hj (setB off inb j hoff c) ?_
  intro fd x hx
  have hx' : place x = j := (mem_row _).1 hx
  subst hx'
  refine (landB off inb offs inbs hc w (by rw [hw]; exact hb _) hoffs T fd x hoff).trans ?_
  rw [hw]; rfl

/-- From the buffer at any contents: nothing started. -/
theorem openB (c : Dev nD) (q : PosShare TreeShare) (T : S16384x16x2x128.Idx → Elt F .bf16) (blk : S16x128.Idx → BitVec 32) (base : ℕ) :
    iprop((∃ f, mB.view.loc (c : Thread nD τ) ↦{fullShare} f) ∗ (mT.view.loc (c : Thread nD τ) ↦{q} T) ∗ semVal ((c : Thread nD τ), SemLoc.dma 14) 0)
      ⊢ (|={Set.univ}=> fillB c q T blk base 0 : sProp 𝕄) :=
  start (ℓb := mB.view.loc (c : Thread nD τ)) (ℓt := mT.view.loc (c : Thread nD τ)) EC place (fun g x => g x = gathered T blk base x) q T (c : Thread nD τ) (SemLoc.dma 14) credit places Set.univ

/-- All started: the copies, and what is left of the table's share. -/
theorem allB (c : Dev nD) (q : PosShare TreeShare) (T : S16384x16x2x128.Idx → Elt F .bf16) (blk : S16x128.Idx → BitVec 32) (base : ℕ) :
    fillB c q T blk base places ⊢ (iprop(flyB c q T blk base 0 ∗ (mT.view.loc (c : Thread nD τ) ↦{Transfers.shareDrop q places} T)) : sProp 𝕄) :=
  allStarted (ℓb := mB.view.loc (c : Thread nD τ)) (ℓt := mT.view.loc (c : Thread nD τ)) EC place (fun g x => g x = gathered T blk base x) q T (c : Thread nD τ) (SemLoc.dma 14) credit places

/-- All waited for: the buffer holds the gathered rows. -/
theorem closeB (c : Dev nD) (q : PosShare TreeShare) (T : S16384x16x2x128.Idx → Elt F .bf16) (blk : S16x128.Idx → BitVec 32) (base : ℕ) :
    iprop(flyB c q T blk base (credit * places) ∗ (mT.view.loc (c : Thread nD τ) ↦{Transfers.shareDrop q places} T))
      ⊢ (|={Set.univ}=> iprop((mB.view.loc (c : Thread nD τ) ↦{fullShare} (gathered T blk base : S128x16x8x2x128.Idx → Elt F .bf16))
          ∗ (mT.view.loc (c : Thread nD τ) ↦{q} T) ∗ semVal ((c : Thread nD τ), SemLoc.dma 14) 0) : sProp 𝕄) := by
  refine (collect (ℓb := mB.view.loc (c : Thread nD τ)) (ℓt := mT.view.loc (c : Thread nD τ)) EC place (fun g x => g x = gathered T blk base x) q T (c : Thread nD τ) (SemLoc.dma 14) credit
    (fun f g x h hf => h.symm.trans hf) (gathered T blk base) places place_lt' credit_pos).trans ?_
  iintro H
  imod H with ⟨Hg, Ht, Hs⟩
  imodintro
  isplitl [Hg]
  · unfold goodAt
    icases Hg with ⟨%g, %hg, Hg⟩
    rw [show g = gathered T blk base from funext fun x => hg x (Finset.mem_univ _)]
    iexact Hg
  isplitl [Ht] <;> iassumption

/-- Wait for one row's units. -/
theorem waitB (c : Dev nD) (q : PosShare TreeShare) (T : S16384x16x2x128.Idx → Elt F .bf16) (blk : S16x128.Idx → BitVec 32)
    (base j : ℕ) (hj : j < places) {α : Type} {Q : α → sProp 𝕄} {sem : DmaSem sig} (hsm : SemLoc.dma sem = (SemLoc.dma 14 : SemLoc sig))
    {off inb} {sp : Space} {s : Shape} {e : EltTy} {src : Memref sig .tc sp s e} {hsrc hdst} {W : Waits sig Unit}
    {k : PUnit → Prog (TpuEff nD τ sig (Elt F) Λ₀ .tc) α} :
    iprop(flyB c q T blk base (credit * j) ∗ owes (c : Thread nD τ) 0 W)
      ⊢ iprop((flyB c q T blk base (credit * (j + 1)) ∗ owes (c : Thread nD τ) 0 (insert (SemLoc.dma sem, ()) W)
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sem src (rowOf mB off inb) hsrc hdst) k) Q) := by
  unfold flyB flight
  rw [← hsm, show credit * (j + 1) = credit * j + 1 * credit by rw [Nat.one_mul, Nat.mul_succ]]
  exact Transfers.wp_waitBatchMul (Lvl := ℕ) (defs := defs₀ (F := F)) EC Variants.none (c : Thread nD τ) none () (N := credit) 1 (j := places) (u := credit * j) (hJ := (creditB off inb).trans (Nat.one_mul _).symm)
    (by rw [Nat.one_mul, ← Nat.mul_succ]; exact Nat.mul_le_mul_left _ hj) (k := k) (Q := Q) (srcw := src) (hsrc := hsrc) (hdst := hdst) (sem := sem) (W := W) (D := fun r : Fin places => fly (ℓb := mB.view.loc (c : Thread nD τ)) (ℓt := mT.view.loc (c : Thread nD τ)) place (fun g x => g x = gathered T blk base x) q T r.val)

/-- Buffer A's rows: what each holds once its copy has landed; `k` copies started. -/
def fillA (c : Dev nD) (q : PosShare TreeShare) (T : S16384x16x2x128.Idx → Elt F .bf16) (blk : S16x128.Idx → BitVec 32) (base k : ℕ) : sProp 𝕄 :=
  filling (ℓb := mA.view.loc (c : Thread nD τ)) (ℓt := mT.view.loc (c : Thread nD τ)) EC place
    (fun g x => g x = gathered T blk base x) q T (c : Thread nD τ) (SemLoc.dma 13) credit places k

/-- Every copy into buffer A started, `u` of the counter's units waited for. -/
def flyA (c : Dev nD) (q : PosShare TreeShare) (T : S16384x16x2x128.Idx → Elt F .bf16) (blk : S16x128.Idx → BitVec 32) (base u : ℕ) : sProp 𝕄 :=
  flight (ℓb := mA.view.loc (c : Thread nD τ)) (ℓt := mT.view.loc (c : Thread nD τ)) EC place
    (fun g x => g x = gathered T blk base x) q T (c : Thread nD τ) (SemLoc.dma 13) credit places places u

/-- Start the next copy into buffer A: the row it fills, the table's row a word names. -/
theorem startA (c : Dev nD) (q : PosShare TreeShare) (T : S16384x16x2x128.Idx → Elt F .bf16) (blk : S16x128.Idx → BitVec 32)
    (base j : ℕ) (hj : j < places) {α : Type} {Q : α → sProp 𝕄} {sm : SemLoc sig} (hsm : sm = SemLoc.dma 13)
    {off inb offs inbs hc hsrc hdst hsem} (hoff : off = ![j / 8, 0, j % 8, 0, 0]) {w : BitVec 32}
    (hoffs : offs = ![w.toNat, 0, 0, 0]) (hw : w = blk (wordAt base j)) (hb : ∀ y, (blk y).toNat < 16384)
    {k : PUnit → Prog (TpuEff nD τ sig (Elt F) Λ₀ .tc) α} :
    fillA c q T blk base j
      ⊢ iprop((fillA c q T blk base (j + 1) -∗ wp frame (wpE (defs₀ (F := F)) Variants.none (c : Thread nD τ) none) Set.univ (k ⟨⟩) Q)
          -∗ wp frame (wpE (defs₀ (F := F)) Variants.none (c : Thread nD τ) none) Set.univ
            (.op (.enqueueDma (tableRow offs inbs hc) (.here (rowOf mA off inb)) sm hsrc hdst hsem) k) Q) := by
  subst hsm
  unfold fillA
  refine wp_startRow (c := (c : Thread nD τ)) EC Variants.none none (src := tableRow offs inbs hc) (dst := rowOf mA off inb) (ft := T)
    (num := place) (P := fun g x => g x = gathered T blk base x) credit (creditA off inb) hj (setA off inb j hoff c) ?_
  intro fd x hx
  have hx' : place x = j := (mem_row _).1 hx
  subst hx'
  refine (landA off inb offs inbs hc w (by rw [hw]; exact hb _) hoffs T fd x hoff).trans ?_
  rw [hw]; rfl

/-- From the buffer at any contents: nothing started. -/
theorem openA (c : Dev nD) (q : PosShare TreeShare) (T : S16384x16x2x128.Idx → Elt F .bf16) (blk : S16x128.Idx → BitVec 32) (base : ℕ) :
    iprop((∃ f, mA.view.loc (c : Thread nD τ) ↦{fullShare} f) ∗ (mT.view.loc (c : Thread nD τ) ↦{q} T) ∗ semVal ((c : Thread nD τ), SemLoc.dma 13) 0)
      ⊢ (|={Set.univ}=> fillA c q T blk base 0 : sProp 𝕄) :=
  start (ℓb := mA.view.loc (c : Thread nD τ)) (ℓt := mT.view.loc (c : Thread nD τ)) EC place (fun g x => g x = gathered T blk base x) q T (c : Thread nD τ) (SemLoc.dma 13) credit places Set.univ

/-- All started: the copies, and what is left of the table's share. -/
theorem allA (c : Dev nD) (q : PosShare TreeShare) (T : S16384x16x2x128.Idx → Elt F .bf16) (blk : S16x128.Idx → BitVec 32) (base : ℕ) :
    fillA c q T blk base places ⊢ (iprop(flyA c q T blk base 0 ∗ (mT.view.loc (c : Thread nD τ) ↦{Transfers.shareDrop q places} T)) : sProp 𝕄) :=
  allStarted (ℓb := mA.view.loc (c : Thread nD τ)) (ℓt := mT.view.loc (c : Thread nD τ)) EC place (fun g x => g x = gathered T blk base x) q T (c : Thread nD τ) (SemLoc.dma 13) credit places

/-- All waited for: the buffer holds the gathered rows. -/
theorem closeA (c : Dev nD) (q : PosShare TreeShare) (T : S16384x16x2x128.Idx → Elt F .bf16) (blk : S16x128.Idx → BitVec 32) (base : ℕ) :
    iprop(flyA c q T blk base (credit * places) ∗ (mT.view.loc (c : Thread nD τ) ↦{Transfers.shareDrop q places} T))
      ⊢ (|={Set.univ}=> iprop((mA.view.loc (c : Thread nD τ) ↦{fullShare} (gathered T blk base : S128x16x8x2x128.Idx → Elt F .bf16))
          ∗ (mT.view.loc (c : Thread nD τ) ↦{q} T) ∗ semVal ((c : Thread nD τ), SemLoc.dma 13) 0) : sProp 𝕄) := by
  refine (collect (ℓb := mA.view.loc (c : Thread nD τ)) (ℓt := mT.view.loc (c : Thread nD τ)) EC place (fun g x => g x = gathered T blk base x) q T (c : Thread nD τ) (SemLoc.dma 13) credit
    (fun f g x h hf => h.symm.trans hf) (gathered T blk base) places place_lt' credit_pos).trans ?_
  iintro H
  imod H with ⟨Hg, Ht, Hs⟩
  imodintro
  isplitl [Hg]
  · unfold goodAt
    icases Hg with ⟨%g, %hg, Hg⟩
    rw [show g = gathered T blk base from funext fun x => hg x (Finset.mem_univ _)]
    iexact Hg
  isplitl [Ht] <;> iassumption

/-- Wait for one row's units. -/
theorem waitA (c : Dev nD) (q : PosShare TreeShare) (T : S16384x16x2x128.Idx → Elt F .bf16) (blk : S16x128.Idx → BitVec 32)
    (base j : ℕ) (hj : j < places) {α : Type} {Q : α → sProp 𝕄} {sem : DmaSem sig} (hsm : SemLoc.dma sem = (SemLoc.dma 13 : SemLoc sig))
    {off inb} {sp : Space} {s : Shape} {e : EltTy} {src : Memref sig .tc sp s e} {hsrc hdst} {W : Waits sig Unit}
    {k : PUnit → Prog (TpuEff nD τ sig (Elt F) Λ₀ .tc) α} :
    iprop(flyA c q T blk base (credit * j) ∗ owes (c : Thread nD τ) 0 W)
      ⊢ iprop((flyA c q T blk base (credit * (j + 1)) ∗ owes (c : Thread nD τ) 0 (insert (SemLoc.dma sem, ()) W)
            -∗ wp frame (wpE (defs₀ (F := F)) Variants.none (c : Thread nD τ) none) Set.univ (k ⟨⟩) Q)
          -∗ wp frame (wpE (defs₀ (F := F)) Variants.none (c : Thread nD τ) none) Set.univ
            (.op (.waitDma2 sem src (rowOf mA off inb) hsrc hdst) k) Q) := by
  unfold flyA flight
  rw [← hsm, show credit * (j + 1) = credit * j + 1 * credit by rw [Nat.one_mul, Nat.mul_succ]]
  exact Transfers.wp_waitBatchMul (Lvl := ℕ) (defs := defs₀ (F := F)) EC Variants.none (c : Thread nD τ) none () (N := credit) 1 (j := places) (u := credit * j) (hJ := (creditA off inb).trans (Nat.one_mul _).symm)
    (by rw [Nat.one_mul, ← Nat.mul_succ]; exact Nat.mul_le_mul_left _ hj) (k := k) (Q := Q) (srcw := src) (hsrc := hsrc) (hdst := hdst) (sem := sem) (W := W) (D := fun r : Fin places => fly (ℓb := mA.view.loc (c : Thread nD τ)) (ℓt := mT.view.loc (c : Thread nD τ)) place (fun g x => g x = gathered T blk base x) q T r.val)

end Cert.KernelIdeal.Hand

end
-- ==== Proof.IdealLoops.lean ====
/-
  The loops of the gather kernel, trip by trip: the five that start copies, the three that wait for them.
-/
module

public import proofs.«01_k».proof.Proof.IdealCopies

@[expose] public section

noncomputable section

namespace Cert.KernelIdeal.Hand

open Cert.KernelIdeal Cert.KernelIdeal.Gen Cert.Rows
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The index words a loop reads, held. -/
def wordsAt (c : Dev nD) (arg : Memref sig .tc .smem S16x128 .i32) (q : PosShare TreeShare) (blk : S16x128.Idx → BitVec 32) : sProp 𝕄 :=
  iprop(∃ f, ⌜arg.view.read (Elt F) f = blk⌝ ∗ (arg.view.loc (c : Thread nD τ) ↦[arg.view.set]{q} f))

/-- Before trip `k` of a loop that starts copies, from row `lo` on: into buffer A, -/
def issuingA (c : Dev nD) (arg : Memref sig .tc .smem S16x128 .i32) (q q1 : PosShare TreeShare) (T : S16384x16x2x128.Idx → Elt F .bf16)
    (blk : S16x128.Idx → BitVec 32) (base lo k : ℕ) (_ : Unit) : sProp 𝕄 :=
  iprop(fillA c q T blk base (lo + 2 * k) ∗ wordsAt c arg q1 blk)

/-- into buffer B. -/
def issuingB (c : Dev nD) (arg : Memref sig .tc .smem S16x128 .i32) (q q1 : PosShare TreeShare) (T : S16384x16x2x128.Idx → Elt F .bf16)
    (blk : S16x128.Idx → BitVec 32) (base lo k : ℕ) (_ : Unit) : sProp 𝕄 :=
  iprop(fillB c q T blk base (lo + 2 * k) ∗ wordsAt c arg q1 blk)

/-- Before trip `k` of a loop that waits: for buffer A's copies, -/
def drainingA (c : Dev nD) (q : PosShare TreeShare) (T : S16384x16x2x128.Idx → Elt F .bf16)
    (blk : S16x128.Idx → BitVec 32) (base k : ℕ) (_ : Unit) : sProp 𝕄 :=
  iprop(flyA c q T blk base (credit * k) ∗ ∃ W, owes (c : Thread nD τ) 0 W)

/-- for buffer B's. -/
def drainingB (c : Dev nD) (q : PosShare TreeShare) (T : S16384x16x2x128.Idx → Elt F .bf16)
    (blk : S16x128.Idx → BitVec 32) (base k : ℕ) (_ : Unit) : sProp 𝕄 :=
  iprop(flyB c q T blk base (credit * k) ∗ ∃ W, owes (c : Thread nD τ) 0 W)

section Trips

variable (c : Dev nD) (i : grid0.Coords) (arg1 : Memref sig .tc .smem S16x128 .i32) (harg1 : arg1.IsWhole)
  (arg2 : Memref sig .tc .smem S16x128 .i32) (harg2 : arg2.IsWhole) (arg3 : Memref sig .tc .vmem S16x128 .f32) (harg3 : arg3.IsWhole)
  (arg4 : Memref sig .tc .vmem S16x2048 .bf16) (harg4 : arg4.IsWhole) (arg5 : Memref sig .tc .vmem S16x2048 .f32) (harg5 : arg5.IsWhole)
  (arg6 : Memref sig .tc .vmem S1x2048 .f32) (harg6 : arg6.IsWhole) (arg8 : Memref sig .tc .vmem S16x2048 .f32) (harg8 : arg8.IsWhole)
  (v8 : Vec F S8x2048 .f32) (v10 : FVec F S1x2048 .f32) (v126 : FVec F S8x2048 .f32)
  (q q1 : PosShare TreeShare) (T : S16384x16x2x128.Idx → Elt F .bf16) (blk : S16x128.Idx → BitVec 32)

theorem trip1 (k0_h1 : k0_cond1 i = 1#1) (hb : ∀ y, (blk y).toNat < 16384) (t : Fin k0_t1_loop.trips) (acc : Unit) :
    issuingA c arg1 q q1 T blk 0 0 t.val acc
      ⊢ wp frame (wpE (defs₀ (F := F)) Variants.none (c : Thread nD τ) none) Set.univ
        (k0_t1_body i arg1 harg1 arg2 harg2 arg3 harg3 arg4 harg4 arg5 harg5 arg6 harg6 mT (Memref.isWhole_whole _) arg8 harg8
          mA (Memref.isWhole_whole _) mB (Memref.isWhole_whole _) cc0_scratch2 k0_h1 t acc)
        (fun acc' => issuingA c arg1 q q1 T blk 0 0 (t.val + 1) acc') := by
  sl_unfold [k0_t1_body]
  simp only [k0_part1_eq_skeleton]
  sl_unfold [k0_part1_skel]
  unfold issuingA wordsAt
  iintro ⟨HF, %f1, %h1, H1⟩
  have hc1 : ∀ y, k0_chk1 i (arg1.view.read (Elt F) f1 y) := fun y =>
    have h := names_row (arg1.view.read (Elt F) f1 y) (by rw [h1]; exact hb y)
    ⟨fun _ => h.1, fun _ => h.2.1, fun _ => h.2.2⟩
  have hc2 : ∀ y, k0_chk2 i (arg1.view.read (Elt F) f1 y) := hc1
  have ht : t.val < 512 := t.isLt
  sl_exec
  iapply (startA c q T blk 0 (0 + 2 * t.val) (by rw [places_eq]; omega) rfl (by rw [off2_eq t]; simp only [Nat.zero_add]) rfl ?_ hb) $$ HF
  · rw [← h1]; exact word_read c arg1 f1 _ _ 0 _ (by rw [off1_eq t]; simp only [Nat.zero_add]) _
  iintro HF
  sl_exec
  iapply (startA c q T blk 0 (0 + (2 * t.val + 1)) (by rw [places_eq]; omega) rfl (by rw [off5_eq t]; simp only [Nat.zero_add]) rfl ?_ hb) $$ HF
  · rw [← h1]; exact word_read c arg1 f1 _ _ 0 _ (by rw [off4_eq t]; simp only [Nat.zero_add]) _
  iintro HF
  sl_exec
  sl_step
  isplitl [HF]; · iexact HF
  iexists f1
  isplitr; · ipureintro; exact h1
  iexact H1

theorem trip2 (hb : ∀ y, (blk y).toNat < 16384) (t : Fin k0_t2_loop.trips) (acc : Unit) :
    issuingB c arg1 q q1 T blk 8 0 t.val acc
      ⊢ wp frame (wpE (defs₀ (F := F)) Variants.none (c : Thread nD τ) none) Set.univ
        (k0_t2_body i arg1 harg1 arg2 harg2 arg3 harg3 arg4 harg4 arg5 harg5 arg6 harg6 mT (Memref.isWhole_whole _) arg8 harg8
          mA (Memref.isWhole_whole _) mB (Memref.isWhole_whole _) cc0_scratch2 t acc)
        (fun acc' => issuingB c arg1 q q1 T blk 8 0 (t.val + 1) acc') := by
  sl_unfold [k0_t2_body]
  simp only [k0_part2_eq_skeleton]
  sl_unfold [k0_part2_skel]
  unfold issuingB wordsAt
  iintro ⟨HF, %f1, %h1, H1⟩
  have hc1 : ∀ y, k0_chk3 (arg1.view.read (Elt F) f1 y) := fun y => names_row (arg1.view.read (Elt F) f1 y) (by rw [h1]; exact hb y)
  have hc2 : ∀ y, k0_chk4 (arg1.view.read (Elt F) f1 y) := hc1
  have ht : t.val < 256 := t.isLt
  sl_exec
  iapply (startB c q T blk 8 (0 + 2 * t.val) (by rw [places_eq]; omega) rfl (by rw [off8_eq t]; simp only [Nat.zero_add]) rfl ?_ hb) $$ HF
  · rw [← h1]; exact word_read c arg1 f1 _ _ 8 _ (by rw [off7_eq t]; simp only [Nat.zero_add]) _
  iintro HF
  sl_exec
  iapply (startB c q T blk 8 (0 + (2 * t.val + 1)) (by rw [places_eq]; omega) rfl (by rw [off11_eq t]; simp only [Nat.zero_add]) rfl ?_ hb) $$ HF
  · rw [← h1]; exact word_read c arg1 f1 _ _ 8 _ (by rw [off10_eq t]; simp only [Nat.zero_add]) _
  iintro HF
  sl_exec
  sl_step
  isplitl [HF]; · iexact HF
  iexists f1
  isplitr; · ipureintro; exact h1
  iexact H1

theorem trip3 (t : Fin k0_t3_loop.trips) (acc : Unit) :
    drainingA c q T blk 0 t.val acc
      ⊢ wp frame (wpE (defs₀ (F := F)) Variants.none (c : Thread nD τ) none) Set.univ
        (k0_t3_body i arg1 harg1 arg2 harg2 arg3 harg3 arg4 harg4 arg5 harg5 arg6 harg6 mT (Memref.isWhole_whole _) arg8 harg8
          mA (Memref.isWhole_whole _) mB (Memref.isWhole_whole _) cc0_scratch2 t acc)
        (fun acc' => drainingA c q T blk 0 (t.val + 1) acc') := by
  sl_unfold [k0_t3_body]
  unfold drainingA
  iintro ⟨HF, %W, HO⟩
  have ht : t.val < 1024 := t.isLt
  iapply (waitA c q T blk 0 t.val (by rw [places_eq]; exact ht) rfl) $$ [HF HO]
  · isplitl [HF] <;> iassumption
  iintro ⟨HF, HO⟩
  dsimp only [Prog.bind, Pure.pure]
  sl_step
  isplitl [HF]; · iexact HF
  iexists _; iexact HO

theorem trip4 (hb : ∀ y, (blk y).toNat < 16384) (t : Fin k0_t4_loop.trips) (acc : Unit) :
    issuingB c arg1 q q1 T blk 8 512 t.val acc
      ⊢ wp frame (wpE (defs₀ (F := F)) Variants.none (c : Thread nD τ) none) Set.univ
        (k0_t4_body i arg1 harg1 arg2 harg2 arg3 harg3 arg4 harg4 arg5 harg5 arg6 harg6 mT (Memref.isWhole_whole _) arg8 harg8
          mA (Memref.isWhole_whole _) mB (Memref.isWhole_whole _) cc0_scratch2 t acc)
        (fun acc' => issuingB c arg1 q q1 T blk 8 512 (t.val + 1) acc') := by
  sl_unfold [k0_t4_body]
  simp only [k0_part3_eq_skeleton]
  sl_unfold [k0_part3_skel]
  unfold issuingB wordsAt
  iintro ⟨HF, %f1, %h1, H1⟩
  have hc1 : ∀ y, k0_chk5 (arg1.view.read (Elt F) f1 y) := fun y => names_row (arg1.view.read (Elt F) f1 y) (by rw [h1]; exact hb y)
  have hc2 : ∀ y, k0_chk6 (arg1.view.read (Elt F) f1 y) := hc1
  have ht : t.val < 256 := t.isLt
  sl_exec
  iapply (startB c q T blk 8 (512 + 2 * t.val) (by rw [places_eq]; omega) rfl (off15_eq t) rfl ?_ hb) $$ HF
  · rw [← h1]; exact word_read c arg1 f1 _ _ 8 _ (off14_eq t) _
  iintro HF
  sl_exec
  iapply (startB c q T blk 8 (512 + (2 * t.val + 1)) (by rw [places_eq]; omega) rfl (off18_eq t) rfl ?_ hb) $$ HF
  · rw [← h1]; exact word_read c arg1 f1 _ _ 8 _ (off17_eq t) _
  iintro HF
  sl_exec
  sl_step
  isplitl [HF]; · iexact HF
  iexists f1
  isplitr; · ipureintro; exact h1
  iexact H1

theorem trip5 (hb : ∀ y, (blk y).toNat < 16384) (t : Fin k0_t5_loop.trips) (acc : Unit) :
    issuingA c arg2 q q1 T blk 0 0 t.val acc
      ⊢ wp frame (wpE (defs₀ (F := F)) Variants.none (c : Thread nD τ) none) Set.univ
        (k0_t5_body i arg1 harg1 arg2 harg2 arg3 harg3 arg4 harg4 arg5 harg5 arg6 harg6 mT (Memref.isWhole_whole _) arg8 harg8
          mA (Memref.isWhole_whole _) mB (Memref.isWhole_whole _) cc0_scratch2 v8 v10 v126 t acc)
        (fun acc' => issuingA c arg2 q q1 T blk 0 0 (t.val + 1) acc') := by
  sl_unfold [k0_t5_body]
  simp only [k0_part4_eq_skeleton]
  sl_unfold [k0_part4_skel]
  unfold issuingA wordsAt
  iintro ⟨HF, %f1, %h1, H1⟩
  have hc1 : ∀ y, k0_chk7 (arg2.view.read (Elt F) f1 y) := fun y => names_row (arg2.view.read (Elt F) f1 y) (by rw [h1]; exact hb y)
  have hc2 : ∀ y, k0_chk8 (arg2.view.read (Elt F) f1 y) := hc1
  have ht : t.val < 256 := t.isLt
  sl_exec
  iapply (startA c q T blk 0 (0 + 2 * t.val) (by rw [places_eq]; omega) rfl (by rw [off21_eq t]; simp only [Nat.zero_add]) rfl ?_ hb) $$ HF
  · rw [← h1]; exact word_read c arg2 f1 _ _ 0 _ (by rw [off20_eq t]; simp only [Nat.zero_add]) _
  iintro HF
  sl_exec
  iapply (startA c q T blk 0 (0 + (2 * t.val + 1)) (by rw [places_eq]; omega) rfl (by rw [off24_eq t]; simp only [Nat.zero_add]) rfl ?_ hb) $$ HF
  · rw [← h1]; exact word_read c arg2 f1 _ _ 0 _ (by rw [off23_eq t]; simp only [Nat.zero_add]) _
  iintro HF
  sl_exec
  sl_step
  isplitl [HF]; · iexact HF
  iexists f1
  isplitr; · ipureintro; exact h1
  iexact H1

theorem trip6 (t : Fin k0_t6_loop.trips) (acc : Unit) :
    drainingB c q T blk 8 t.val acc
      ⊢ wp frame (wpE (defs₀ (F := F)) Variants.none (c : Thread nD τ) none) Set.univ
        (k0_t6_body i arg1 harg1 arg2 harg2 arg3 harg3 arg4 harg4 arg5 harg5 arg6 harg6 mT (Memref.isWhole_whole _) arg8 harg8
          mA (Memref.isWhole_whole _) mB (Memref.isWhole_whole _) cc0_scratch2 v8 v10 v126 t acc)
        (fun acc' => drainingB c q T blk 8 (t.val + 1) acc') := by
  sl_unfold [k0_t6_body]
  unfold drainingB
  iintro ⟨HF, %W, HO⟩
  have ht : t.val < 1024 := t.isLt
  iapply (waitB c q T blk 8 t.val (by rw [places_eq]; exact ht) rfl) $$ [HF HO]
  · isplitl [HF] <;> iassumption
  iintro ⟨HF, HO⟩
  dsimp only [Prog.bind, Pure.pure]
  sl_step
  isplitl [HF]; · iexact HF
  iexists _; iexact HO

theorem trip7 (hb : ∀ y, (blk y).toNat < 16384) (t : Fin k0_t7_loop.trips) (acc : Unit) :
    issuingA c arg2 q q1 T blk 0 512 t.val acc
      ⊢ wp frame (wpE (defs₀ (F := F)) Variants.none (c : Thread nD τ) none) Set.univ
        (k0_t7_body i arg1 harg1 arg2 harg2 arg3 harg3 arg4 harg4 arg5 harg5 arg6 harg6 mT (Memref.isWhole_whole _) arg8 harg8
          mA (Memref.isWhole_whole _) mB (Memref.isWhole_whole _) cc0_scratch2 v8 v10 v126 t acc)
        (fun acc' => issuingA c arg2 q q1 T blk 0 512 (t.val + 1) acc') := by
  sl_unfold [k0_t7_body]
  simp only [k0_part5_eq_skeleton]
  sl_unfold [k0_part5_skel]
  unfold issuingA wordsAt
  iintro ⟨HF, %f1, %h1, H1⟩
  have hc1 : ∀ y, k0_chk9 (arg2.view.read (Elt F) f1 y) := fun y => names_row (arg2.view.read (Elt F) f1 y) (by rw [h1]; exact hb y)
  have hc2 : ∀ y, k0_chk10 (arg2.view.read (Elt F) f1 y) := hc1
  have ht : t.val < 256 := t.isLt
  sl_exec
  iapply (startA c q T blk 0 (512 + 2 * t.val) (by rw [places_eq]; omega) rfl (off28_eq t) rfl ?_ hb) $$ HF
  · rw [← h1]; exact word_read c arg2 f1 _ _ 0 _ (off27_eq t) _
  iintro HF
  sl_exec
  iapply (startA c q T blk 0 (512 + (2 * t.val + 1)) (by rw [places_eq]; omega) rfl (off31_eq t) rfl ?_ hb) $$ HF
  · rw [← h1]; exact word_read c arg2 f1 _ _ 0 _ (off30_eq t) _
  iintro HF
  sl_exec
  sl_step
  isplitl [HF]; · iexact HF
  iexists f1
  isplitr; · ipureintro; exact h1
  iexact H1

theorem trip8 (k0_h2 : k0_cond2 i = 1#1) (t : Fin k0_t8_loop.trips) (acc : Unit) :
    drainingA c q T blk 0 t.val acc
      ⊢ wp frame (wpE (defs₀ (F := F)) Variants.none (c : Thread nD τ) none) Set.univ
        (k0_t8_body i arg1 harg1 arg2 harg2 arg3 harg3 arg4 harg4 arg5 harg5 arg6 harg6 mT (Memref.isWhole_whole _) arg8 harg8
          mA (Memref.isWhole_whole _) mB (Memref.isWhole_whole _) cc0_scratch2 k0_h2 t acc)
        (fun acc' => drainingA c q T blk 0 (t.val + 1) acc') := by
  sl_unfold [k0_t8_body]
  unfold drainingA
  iintro ⟨HF, %W, HO⟩
  have ht : t.val < 1024 := t.isLt
  iapply (waitA c q T blk 0 t.val (by rw [places_eq]; exact ht) rfl) $$ [HF HO]
  · isplitl [HF] <;> iassumption
  iintro ⟨HF, HO⟩
  dsimp only [Prog.bind, Pure.pure]
  sl_step
  isplitl [HF]; · iexact HF
  iexists _; iexact HO

end Trips

end Cert.KernelIdeal.Hand

end
-- ==== Proof.IdealRun.lean ====
/-
  One grid point of the gather kernel, run: from group A's copies under way (at the first point: from nothing), through
  both groups' products and the result block's two stores, to the next point's group A copies under way (at the last
  point: to nothing).
-/
module

public import proofs.«01_k».proof.Proof.IdealLoops

@[expose] public section

noncomputable section

namespace Cert.KernelIdeal.Hand

open Cert.KernelIdeal Cert.KernelIdeal.Gen Cert.Rows
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Group A's copies all started, none waited for. -/
def carryA (c : Dev nD) (T : S16384x16x2x128.Idx → Elt F .bf16) (blk : S16x128.Idx → BitVec 32) : sProp 𝕄 :=
  iprop(flyA c fullShare.left T blk 0 0 ∗ (mT.view.loc (c : Thread nD τ) ↦{Transfers.shareDrop fullShare.left places} T))

/-- Buffer A at any contents, its counter at zero. -/
def idleA (c : Dev nD) (T : S16384x16x2x128.Idx → Elt F .bf16) : sProp 𝕄 :=
  iprop((∃ f, mA.view.loc (c : Thread nD τ) ↦{fullShare} f) ∗ (mT.view.loc (c : Thread nD τ) ↦{fullShare.left} T) ∗ semVal ((c : Thread nD τ), SemLoc.dma 13) 0)

/-- Buffer B at any contents, its counter at zero. -/
def idleB (c : Dev nD) (T : S16384x16x2x128.Idx → Elt F .bf16) : sProp 𝕄 :=
  iprop((∃ f, mB.view.loc (c : Thread nD τ) ↦{fullShare} f) ∗ (mT.view.loc (c : Thread nD τ) ↦{fullShare.right} T) ∗ semVal ((c : Thread nD τ), SemLoc.dma 14) 0)

section Phases

variable (c : Dev nD) (i : grid0.Coords) (arg1 : Memref sig .tc .smem S16x128 .i32) (harg1 : arg1.IsWhole)
  (arg2 : Memref sig .tc .smem S16x128 .i32) (harg2 : arg2.IsWhole) (arg3 : Memref sig .tc .vmem S16x128 .f32) (harg3 : arg3.IsWhole)
  (arg4 : Memref sig .tc .vmem S16x2048 .bf16) (harg4 : arg4.IsWhole) (arg5 : Memref sig .tc .vmem S16x2048 .f32) (harg5 : arg5.IsWhole)
  (arg6 : Memref sig .tc .vmem S1x2048 .f32) (harg6 : arg6.IsWhole) (arg8 : Memref sig .tc .vmem S16x2048 .f32) (harg8 : arg8.IsWhole)
  (v8 : Vec F S8x2048 .f32) (v10 : FVec F S1x2048 .f32) (v126 : FVec F S8x2048 .f32)
  (T : S16384x16x2x128.Idx → Elt F .bf16) (blk : S16x128.Idx → BitVec 32)

/-- The first half of group B's copies. -/
theorem phase2 (hb : ∀ y, (blk y).toNat < 16384) (K : PUnit → sProp 𝕄) :
    iprop(fillB c fullShare.right T blk 8 0 ∗ wordsAt c arg1 fullShare blk ∗ (iprop(fillB c fullShare.right T blk 8 512 ∗ wordsAt c arg1 fullShare blk) -∗ K ⟨⟩))
    ⊢ wp frame (wpE (defs₀ (F := F)) Variants.none (c : Thread nD τ) none) Set.univ
        (Scf.Loop.for k0_t2_loop k0_t2_ok ⟨⟩ (k0_t2_body i arg1 harg1 arg2 harg2 arg3 harg3 arg4 harg4 arg5 harg5 arg6 harg6 mT (Memref.isWhole_whole _) arg8 harg8 mA (Memref.isWhole_whole _) mB (Memref.isWhole_whole _) cc0_scratch2)) K := by
  iintro ⟨HF, HW, HK⟩
  sl_for (issuingB c arg1 fullShare.right fullShare T blk 8 0) $$ [HF HW HK]
  case region =>
    intro t acc
    exact trip2 c i arg1 harg1 arg2 harg2 arg3 harg3 arg4 harg4 arg5 harg5 arg6 harg6 arg8 harg8 fullShare.right fullShare T blk hb t acc
  have ht : Scf.trips k0_t2_loop.lb k0_t2_loop.ub k0_t2_loop.st = 256 := by decide
  have he : 0 + 2 * 256 = 512 := by rfl
  unfold issuingB
  rw [ht, he]
  isplitl [HF HW]
  · isplitl [HF]
    · iexact HF
    · iexact HW
  · iintro %acc H
    iapply HK
    iexact H

/-- The wait for group A: its rows lie in buffer A. -/
theorem phase3 (K : PUnit → sProp 𝕄) :
    iprop(flyA c fullShare.left T blk 0 0 ∗ (∃ W, owes (c : Thread nD τ) 0 W) ∗ (iprop(flyA c fullShare.left T blk 0 (credit * places) ∗ (∃ W, owes (c : Thread nD τ) 0 W)) -∗ K ⟨⟩))
    ⊢ wp frame (wpE (defs₀ (F := F)) Variants.none (c : Thread nD τ) none) Set.univ
        (Scf.Loop.for k0_t3_loop k0_t3_ok ⟨⟩ (k0_t3_body i arg1 harg1 arg2 harg2 arg3 harg3 arg4 harg4 arg5 harg5 arg6 harg6 mT (Memref.isWhole_whole _) arg8 harg8 mA (Memref.isWhole_whole _) mB (Memref.isWhole_whole _) cc0_scratch2)) K := by
  iintro ⟨HF, HW, HK⟩
  sl_for (drainingA c fullShare.left T blk 0) $$ [HF HW HK]
  case region =>
    intro t acc
    exact trip3 c i arg1 harg1 arg2 harg2 arg3 harg3 arg4 harg4 arg5 harg5 arg6 harg6 arg8 harg8 fullShare.left T blk t acc
  have ht : Scf.trips k0_t3_loop.lb k0_t3_loop.ub k0_t3_loop.st = places := by rw [places_eq]; decide
  unfold drainingA
  rw [ht]
  isplitl [HF HW]
  · isplitl [HF]
    · iexact HF
    · iexact HW
  · iintro %acc H
    iapply HK
    iexact H

/-- The rest of them: all are started. -/
theorem phase4 (hb : ∀ y, (blk y).toNat < 16384) (K : PUnit → sProp 𝕄) :
    iprop(fillB c fullShare.right T blk 8 512 ∗ wordsAt c arg1 fullShare blk ∗ (iprop(fillB c fullShare.right T blk 8 places ∗ wordsAt c arg1 fullShare blk) -∗ K ⟨⟩))
    ⊢ wp frame (wpE (defs₀ (F := F)) Variants.none (c : Thread nD τ) none) Set.univ
        (Scf.Loop.for k0_t4_loop k0_t4_ok ⟨⟩ (k0_t4_body i arg1 harg1 arg2 harg2 arg3 harg3 arg4 harg4 arg5 harg5 arg6 harg6 mT (Memref.isWhole_whole _) arg8 harg8 mA (Memref.isWhole_whole _) mB (Memref.isWhole_whole _) cc0_scratch2)) K := by
  iintro ⟨HF, HW, HK⟩
  sl_for (issuingB c arg1 fullShare.right fullShare T blk 8 512) $$ [HF HW HK]
  case region =>
    intro t acc
    exact trip4 c i arg1 harg1 arg2 harg2 arg3 harg3 arg4 harg4 arg5 harg5 arg6 harg6 arg8 harg8 fullShare.right fullShare T blk hb t acc
  have ht : Scf.trips k0_t4_loop.lb k0_t4_loop.ub k0_t4_loop.st = 256 := by decide
  have he : 512 + 2 * 256 = places := by rw [places_eq]
  unfold issuingB
  rw [ht, he]
  isplitl [HF HW]
  · isplitl [HF]
    · iexact HF
    · iexact HW
  · iintro %acc H
    iapply HK
    iexact H

/-- The first half of the next point's group A copies. -/
theorem phase5 (hb : ∀ y, (blk y).toNat < 16384) (K : PUnit → sProp 𝕄) :
    iprop(fillA c fullShare.left T blk 0 0 ∗ wordsAt c arg2 fullShare blk ∗ (iprop(fillA c fullShare.left T blk 0 512 ∗ wordsAt c arg2 fullShare blk) -∗ K ⟨⟩))
    ⊢ wp frame (wpE (defs₀ (F := F)) Variants.none (c : Thread nD τ) none) Set.univ
        (Scf.Loop.for k0_t5_loop k0_t5_ok ⟨⟩ (k0_t5_body i arg1 harg1 arg2 harg2 arg3 harg3 arg4 harg4 arg5 harg5 arg6 harg6 mT (Memref.isWhole_whole _) arg8 harg8 mA (Memref.isWhole_whole _) mB (Memref.isWhole_whole _) cc0_scratch2 v8 v10 v126)) K := by
  iintro ⟨HF, HW, HK⟩
  sl_for (issuingA c arg2 fullShare.left fullShare T blk 0 0) $$ [HF HW HK]
  case region =>
    intro t acc
    exact trip5 c i arg1 harg1 arg2 harg2 arg3 harg3 arg4 harg4 arg5 harg5 arg6 harg6 arg8 harg8 v8 v10 v126 fullShare.left fullShare T blk hb t acc
  have ht : Scf.trips k0_t5_loop.lb k0_t5_loop.ub k0_t5_loop.st = 256 := by decide
  have he : 0 + 2 * 256 = 512 := by rfl
  unfold issuingA
  rw [ht, he]
  isplitl [HF HW]
  · isplitl [HF]
    · iexact HF
    · iexact HW
  · iintro %acc H
    iapply HK
    iexact H

/-- The wait for group B: its rows lie in buffer B. -/
theorem phase6 (K : PUnit → sProp 𝕄) :
    iprop(flyB c fullShare.right T blk 8 0 ∗ (∃ W, owes (c : Thread nD τ) 0 W) ∗ (iprop(flyB c fullShare.right T blk 8 (credit * places) ∗ (∃ W, owes (c : Thread nD τ) 0 W)) -∗ K ⟨⟩))
    ⊢ wp frame (wpE (defs₀ (F := F)) Variants.none (c : Thread nD τ) none) Set.univ
        (Scf.Loop.for k0_t6_loop k0_t6_ok ⟨⟩ (k0_t6_body i arg1 harg1 arg2 harg2 arg3 harg3 arg4 harg4 arg5 harg5 arg6 harg6 mT (Memref.isWhole_whole _) arg8 harg8 mA (Memref.isWhole_whole _) mB (Memref.isWhole_whole _) cc0_scratch2 v8 v10 v126)) K := by
  iintro ⟨HF, HW, HK⟩
  sl_for (drainingB c fullShare.right T blk 8) $$ [HF HW HK]
  case region =>
    intro t acc
    exact trip6 c i arg1 harg1 arg2 harg2 arg3 harg3 arg4 harg4 arg5 harg5 arg6 harg6 arg8 harg8 v8 v10 v126 fullShare.right T blk t acc
  have ht : Scf.trips k0_t6_loop.lb k0_t6_loop.ub k0_t6_loop.st = places := by rw [places_eq]; decide
  unfold drainingB
  rw [ht]
  isplitl [HF HW]
  · isplitl [HF]
    · iexact HF
    · iexact HW
  · iintro %acc H
    iapply HK
    iexact H

/-- The rest of them: all are started. -/
theorem phase7 (hb : ∀ y, (blk y).toNat < 16384) (K : PUnit → sProp 𝕄) :
    iprop(fillA c fullShare.left T blk 0 512 ∗ wordsAt c arg2 fullShare blk ∗ (iprop(fillA c fullShare.left T blk 0 places ∗ wordsAt c arg2 fullShare blk) -∗ K ⟨⟩))
    ⊢ wp frame (wpE (defs₀ (F := F)) Variants.none (c : Thread nD τ) none) Set.univ
        (Scf.Loop.for k0_t7_loop k0_t7_ok ⟨⟩ (k0_t7_body i arg1 harg1 arg2 harg2 arg3 harg3 arg4 harg4 arg5 harg5 arg6 harg6 mT (Memref.isWhole_whole _) arg8 harg8 mA (Memref.isWhole_whole _) mB (Memref.isWhole_whole _) cc0_scratch2 v8 v10 v126)) K := by
  iintro ⟨HF, HW, HK⟩
  sl_for (issuingA c arg2 fullShare.left fullShare T blk 0 512) $$ [HF HW HK]
  case region =>
    intro t acc
    exact trip7 c i arg1 harg1 arg2 harg2 arg3 harg3 arg4 harg4 arg5 harg5 arg6 harg6 arg8 harg8 v8 v10 v126 fullShare.left fullShare T blk hb t acc
  have ht : Scf.trips k0_t7_loop.lb k0_t7_loop.ub k0_t7_loop.st = 256 := by decide
  have he : 512 + 2 * 256 = places := by rw [places_eq]
  unfold issuingA
  rw [ht, he]
  isplitl [HF HW]
  · isplitl [HF]
    · iexact HF
    · iexact HW
  · iintro %acc H
    iapply HK
    iexact H

/-- The first point starts group A's copies; at the others they are under way. -/
theorem phase1 (hb : ∀ y, (blk y).toNat < 16384) {α : Type} (p : Prog (TpuEff nD τ sig (Elt F) Λ₀ .tc) α) (K : α → sProp 𝕄) :
    iprop((if k0_cond1 i = 1#1 then idleA c T else carryA c T blk) ∗ wordsAt c arg1 fullShare blk ∗ (iprop(carryA c T blk ∗ wordsAt c arg1 fullShare blk) -∗ wp frame (wpE (defs₀ (F := F)) Variants.none (c : Thread nD τ) none) Set.univ p K))
    ⊢ wp frame (wpE (defs₀ (F := F)) Variants.none (c : Thread nD τ) none) Set.univ
        (if k0_h1 : k0_cond1 i = 1#1 then do
            Scf.Loop.for k0_t1_loop (k0_t1_ok i k0_h1) ⟨⟩ (k0_t1_body i arg1 harg1 arg2 harg2 arg3 harg3 arg4 harg4 arg5 harg5 arg6 harg6 mT (Memref.isWhole_whole _) arg8 harg8 mA (Memref.isWhole_whole _) mB (Memref.isWhole_whole _) cc0_scratch2 k0_h1)
            p
          else p) K := by
  by_cases k0_h1 : k0_cond1 i = 1#1
  · rw [if_pos k0_h1, dif_pos k0_h1]
    unfold idleA
    iintro ⟨HA, HW, HK⟩
    imod (openA c fullShare.left T blk 0) $$ [HA] with HF
    · iexact HA
    sl_for (issuingA c arg1 fullShare.left fullShare T blk 0 0) $$ [HF HW]
    case region =>
      intro t acc
      exact trip1 c i arg1 harg1 arg2 harg2 arg3 harg3 arg4 harg4 arg5 harg5 arg6 harg6 arg8 harg8 fullShare.left fullShare T blk k0_h1 hb t acc
    · unfold issuingA
      isplitl [HF]
      · iexact HF
      · iexact HW
    have ht : Scf.trips k0_t1_loop.lb k0_t1_loop.ub k0_t1_loop.st = 512 := by decide
    have he : 0 + 2 * 512 = places := by rw [places_eq]
    unfold issuingA
    rw [ht, he]
    iintro %acc ⟨HF, HW⟩
    ihave H := (allA c fullShare.left T blk 0) $$ HF
    iapply HK
    unfold carryA
    isplitl [H]
    · iexact H
    · iexact HW
  · rw [if_neg k0_h1, dif_neg k0_h1]
    iintro ⟨HA, HW, HK⟩
    iapply HK
    isplitl [HA]
    · iexact HA
    · iexact HW

/-- The last point waits for the copies it has started; the others leave them under way. -/
theorem phase8 (K : PUnit → sProp 𝕄) :
    iprop(carryA c T blk ∗ (∃ W, owes (c : Thread nD τ) 0 W)
      ∗ (iprop((if k0_cond2 i = 1#1 then idleA c T else carryA c T blk) ∗ (∃ W, owes (c : Thread nD τ) 0 W)) -∗ K ⟨⟩))
    ⊢ wp frame (wpE (defs₀ (F := F)) Variants.none (c : Thread nD τ) none) Set.univ
        (if k0_h2 : k0_cond2 i = 1#1 then do
            Scf.Loop.for k0_t8_loop (k0_t8_ok i k0_h2) ⟨⟩ (k0_t8_body i arg1 harg1 arg2 harg2 arg3 harg3 arg4 harg4 arg5 harg5 arg6 harg6 mT (Memref.isWhole_whole _) arg8 harg8 mA (Memref.isWhole_whole _) mB (Memref.isWhole_whole _) cc0_scratch2 k0_h2)
            pure ⟨⟩
          else do pure ⟨⟩) K := by
  by_cases k0_h2 : k0_cond2 i = 1#1
  · rw [if_pos k0_h2, dif_pos k0_h2]
    iintro ⟨HA, HW, HK⟩
    unfold carryA
    icases HA with ⟨HA, HT⟩
    sl_for (drainingA c fullShare.left T blk 0) $$ [HA HW]
    case region =>
      intro t acc
      exact trip8 c i arg1 harg1 arg2 harg2 arg3 harg3 arg4 harg4 arg5 harg5 arg6 harg6 arg8 harg8 fullShare.left T blk k0_h2 t acc
    · unfold drainingA
      isplitl [HA]
      · iexact HA
      · iexact HW
    have ht : Scf.trips k0_t8_loop.lb k0_t8_loop.ub k0_t8_loop.st = places := by rw [places_eq]; decide
    unfold drainingA
    rw [ht]
    iintro %acc ⟨HA, HW⟩
    imod (closeA c fullShare.left T blk 0) $$ [HA HT] with ⟨HG, HT, HS⟩
    · isplitl [HA]
      · iexact HA
      · iexact HT
    sl_step
    iapply HK
    isplitr [HW]
    · unfold idleA
      isplitl [HG]
      · iexists _
        iexact HG
      · isplitl [HT]
        · iexact HT
        · iexact HS
    · iexact HW
  · rw [if_neg k0_h2, dif_neg k0_h2]
    iintro ⟨HA, HW, HK⟩
    sl_step
    iapply HK
    isplitl [HA]
    · iexact HA
    · iexact HW

end Phases

/-- The run of one grid point, and what it stores. -/
noncomputable def kernelRun (c : Dev nD) (i : grid0.Coords) (arg1 : Memref sig .tc .smem S16x128 .i32) (harg1 : arg1.IsWhole)
    (arg2 : Memref sig .tc .smem S16x128 .i32) (harg2 : arg2.IsWhole) (arg3 : Memref sig .tc .vmem S16x128 .f32) (harg3 : arg3.IsWhole)
    (arg4 : Memref sig .tc .vmem S16x2048 .bf16) (harg4 : arg4.IsWhole) (arg5 : Memref sig .tc .vmem S16x2048 .f32) (harg5 : arg5.IsWhole)
    (arg6 : Memref sig .tc .vmem S1x2048 .f32) (harg6 : arg6.IsWhole) (arg8 : Memref sig .tc .vmem S16x2048 .f32) (harg8 : arg8.IsWhole)
    (T : S16384x16x2x128.Idx → Elt F .bf16) (blk blk2 : S16x128.Idx → BitVec 32)
    (x3 : Vec F S16x128 .f32) (x4 : Vec F S16x2048 .bf16) (x5 : Vec F S16x2048 .f32) (x6 : Vec F S1x2048 .f32) :
    { L : List (View.Piece (Elt F) S16x2048 .f32) //
      ∀ (hb : ∀ y, (blk y).toNat < 16384) (hb2 : ∀ y, (blk2 y).toNat < 16384) (W : Waits sig Unit) (K : PUnit → sProp 𝕄),
        iprop((if k0_cond1 i = 1#1 then idleA c T else carryA c T blk) ∗ idleB c T
          ∗ wordsAt c arg1 fullShare blk ∗ wordsAt c arg2 fullShare blk2
          ∗ (arg3.view.loc (c : Thread nD τ) ↦[arg3.view.set]{fullShare} harg3.unread x3)
          ∗ (arg4.view.loc (c : Thread nD τ) ↦[arg4.view.set]{fullShare} harg4.unread x4)
          ∗ (arg5.view.loc (c : Thread nD τ) ↦[arg5.view.set]{fullShare} harg5.unread x5)
          ∗ (arg6.view.loc (c : Thread nD τ) ↦[arg6.view.set]{fullShare} harg6.unread x6)
          ∗ (∃ f, arg8.view.loc (c : Thread nD τ) ↦[arg8.view.set]{fullShare} f)
          ∗ owes (c : Thread nD τ) 0 W
          ∗ (iprop((if k0_cond2 i = 1#1 then idleA c T else carryA c T blk2) ∗ idleB c T
            ∗ wordsAt c arg1 fullShare blk ∗ wordsAt c arg2 fullShare blk2
            ∗ (arg3.view.loc (c : Thread nD τ) ↦[arg3.view.set]{fullShare} harg3.unread x3)
            ∗ (arg4.view.loc (c : Thread nD τ) ↦[arg4.view.set]{fullShare} harg4.unread x4)
            ∗ (arg5.view.loc (c : Thread nD τ) ↦[arg5.view.set]{fullShare} harg5.unread x5)
            ∗ (arg6.view.loc (c : Thread nD τ) ↦[arg6.view.set]{fullShare} harg6.unread x6)
            ∗ (∃ f, arg8.view.loc (c : Thread nD τ) ↦[arg8.view.set]{fullShare} arg8.view.writes (Elt F) f L)
            ∗ (∃ W', owes (c : Thread nD τ) 0 W')) -∗ K ⟨⟩))
        ⊢ wp frame (wpE (defs₀ (F := F)) Variants.none (c : Thread nD τ) none) Set.univ
            (cc0_peer_ffn i arg1 harg1 arg2 harg2 arg3 harg3 arg4 harg4 arg5 harg5 arg6 harg6 mT (Memref.isWhole_whole _) arg8 harg8
              mA (Memref.isWhole_whole _) mB (Memref.isWhole_whole _) cc0_scratch2) K } := by
  refine ⟨?_, fun hb hb2 W K => ?run⟩
  case run =>
    rw [cc0_peer_ffn_eq_skeleton]
    sl_unfold [cc0_peer_ffn_skel]
    simp only [k0_part6_eq_skeleton, k0_part7_eq_skeleton, k0_part8_eq_skeleton, k0_part9_eq_skeleton,
      k0_part10_eq_skeleton, k0_part11_eq_skeleton, k0_part12_eq_skeleton, k0_part13_eq_skeleton, k0_part14_eq_skeleton, k0_part15_eq_skeleton]
    sl_unfold [k0_part6_skel]
    iintro ⟨HA, HB, H1, H2, H3, H4, H5, H6, ⟨%f8, H8⟩, HO, HK⟩
    rw [wp_bind]
    iapply (phase1 c i arg1 harg1 arg2 harg2 arg3 harg3 arg4 harg4 arg5 harg5 arg6 harg6 arg8 harg8 T blk hb _ _)
    isplitl [HA]
    · iexact HA
    isplitl [H1]
    · iexact H1
    unfold carryA
    iintro ⟨⟨HA, HTA⟩, H1⟩
    unfold idleB
    imod (openB c fullShare.right T blk 8) $$ [HB] with HB
    · iexact HB
    rw [wp_bind]
    iapply (phase2 c i arg1 harg1 arg2 harg2 arg3 harg3 arg4 harg4 arg5 harg5 arg6 harg6 arg8 harg8 T blk hb _)
    isplitl [HB]
    · iexact HB
    isplitl [H1]
    · iexact H1
    iintro ⟨HB, H1⟩
    rw [wp_bind]
    iapply (phase3 c i arg1 harg1 arg2 harg2 arg3 harg3 arg4 harg4 arg5 harg5 arg6 harg6 arg8 harg8 T blk _)
    isplitl [HA]
    · iexact HA
    isplitl [HO]
    · iexists W
      iexact HO
    iintro ⟨HA, HO⟩
    imod (closeA c fullShare.left T blk 0) $$ [HA HTA] with ⟨HA, HTA, HSA⟩
    · isplitl [HA]
      · iexact HA
      · iexact HTA
    rw [wp_bind]
    iapply (phase4 c i arg1 harg1 arg2 harg2 arg3 harg3 arg4 harg4 arg5 harg5 arg6 harg6 arg8 harg8 T blk hb _)
    isplitl [HB]
    · iexact HB
    isplitl [H1]
    · iexact H1
    iintro ⟨HB, H1⟩
    icases (allB c fullShare.right T blk 8) $$ HB with ⟨HB, HTB⟩
    sl_exec
    imod (openA c fullShare.left T blk2 0) $$ [HA HTA HSA] with HA
    · isplitl [HA]
      · iexists _
        iexact HA
      · isplitl [HTA]
        · iexact HTA
        · iexact HSA
    rw [wp_bind]
    iapply (phase5 c i arg1 harg1 arg2 harg2 arg3 harg3 arg4 harg4 arg5 harg5 arg6 harg6 arg8 harg8 _ _ _ T blk2 hb2 _)
    isplitl [HA]
    · iexact HA
    isplitl [H2]
    · iexact H2
    iintro ⟨HA, H2⟩
    rw [wp_bind]
    iapply (phase6 c i arg1 harg1 arg2 harg2 arg3 harg3 arg4 harg4 arg5 harg5 arg6 harg6 arg8 harg8 _ _ _ T blk _)
    isplitl [HB]
    · iexact HB
    isplitl [HO]
    · iexact HO
    iintro ⟨HB, HO⟩
    imod (closeB c fullShare.right T blk 8) $$ [HB HTB] with ⟨HB, HTB, HSB⟩
    · isplitl [HB]
      · iexact HB
      · iexact HTB
    rw [wp_bind]
    iapply (phase7 c i arg1 harg1 arg2 harg2 arg3 harg3 arg4 harg4 arg5 harg5 arg6 harg6 arg8 harg8 _ _ _ T blk2 hb2 _)
    isplitl [HA]
    · iexact HA
    isplitl [H2]
    · iexact H2
    iintro ⟨HA, H2⟩
    icases (allA c fullShare.left T blk2 0) $$ HA with ⟨HA, HTA⟩
    sl_exec
    iapply (phase8 c i arg1 harg1 arg2 harg2 arg3 harg3 arg4 harg4 arg5 harg5 arg6 harg6 arg8 harg8 T blk2 _)
    isplitl [HA HTA]
    · unfold carryA
      isplitl [HA]
      · iexact HA
      · iexact HTA
    isplitl [HO]
    · iexact HO
    iintro ⟨HA, HO⟩
    iapply HK
    isplitl [HA]
    · iexact HA
    isplitl [HB HTB HSB]
    · isplitl [HB]
      · iexists _
        iexact HB
      · isplitl [HTB]
        · iexact HTB
        · iexact HSB
    isplitl [H1]
    · iexact H1
    isplitl [H2]
    · iexact H2
    isplitl [H3]
    · iexact H3
    isplitl [H4]
    · iexact H4
    isplitl [H5]
    · iexact H5
    isplitl [H6]
    · iexact H6
    isplitl [H8]
    · iexists _
      iexact H8
    · iexact HO

end Cert.KernelIdeal.Hand

end
-- ==== Proof.IdealFrame.lean ====
/-
  The gather kernel's launch: what lies between two grid points, each point's obligation, the run of the whole program
  and its frame.
-/
module

public import proofs.«01_k».proof.Proof.IdealRun
public import proofs.«01_k».proof.Proof.Gen.KernelIdeal.Frame
public import Idealize.ShloMosaic.Lib.Pipeline.ValueKit.Geometry

@[expose] public section

noncomputable section

namespace Cert.KernelIdeal.Hand

open Cert.KernelIdeal Cert.KernelIdeal.Gen Cert.Rows
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The blocks of indices -/

/-- The table of both rows, as the call finds it. -/
def table (c : Dev nD) : S16384x16x2x128.Idx → Elt F .bf16 := V m c main_v6
/-- The index words of point `t`, -/
def words (c : Dev nD) (t : Fin cfg0.N) : S16x128.Idx → BitVec 32 := iblk m c 0 t
/-- of the point after it. -/
def nextWords (c : Dev nD) (t : Fin cfg0.N) : S16x128.Idx → BitVec 32 := iblk m c 1 t

theorem index0 : ∀ t : Fin cfg0.N, win0_0.index t = ![t.val, 0] := (by decide +kernel : ∀ t : Fin grid0.N, _)
theorem index1 : ∀ t : Fin cfg0.N, win0_1.index t = ![min (t.val + 1) 1023, 0] := (by decide +kernel : ∀ t : Fin grid0.N, _)
theorem first_iff : ∀ t : Fin cfg0.N, k0_cond1 (grid0.coords t) = 1#1 ↔ t.val = 0 := (by decide +kernel : ∀ t : Fin grid0.N, _)
theorem last_iff : ∀ t : Fin cfg0.N, k0_cond2 (grid0.coords t) = 1#1 ↔ t.val = 1023 := (by decide +kernel : ∀ t : Fin grid0.N, _)

/-- The next point's words are the words of the next point. -/
theorem nextWords_eq (c : Dev nD) (t : Fin cfg0.N) (h : t.val + 1 < cfg0.N) : nextWords m c t = words m c ⟨t.val + 1, h⟩ := by
  funext y
  unfold nextWords words
  blk_simp [iblk]
  congr 1
  have hN : cfg0.N = 1024 := N_0
  blk_ext [index0, index1]

theorem words_lt (hw : ∀ (c : Dev nD) y, (m ((c : Thread nD τ).loc main_arg0) y).toNat < 16384) (c : Dev nD) (t : Fin cfg0.N) (y) :
    (words m c t y).toNat < 16384 := by
  unfold words iblk
  rw [View.read_apply, cast_eq]
  show (V m c main_arg0 _).toNat < 16384
  rw [V_main_arg0]
  exact hw c _

theorem nextWords_lt (hw : ∀ (c : Dev nD) y, (m ((c : Thread nD τ).loc main_arg0) y).toNat < 16384) (c : Dev nD) (t : Fin cfg0.N) (y) :
    (nextWords m c t y).toNat < 16384 := by
  unfold nextWords iblk
  rw [View.read_apply, cast_eq]
  show (V m c main_arg0 _).toNat < 16384
  rw [V_main_arg0]
  exact hw c _

/-! ## Between the points -/

/-- Before point `n`: group A's copies under way, except before the first point and after the last. -/
def between (c : Dev nD) (n : ℕ) : sProp 𝕄 :=
  if h : 0 < n ∧ n < cfg0.N then carryA c (table m c) (words m c ⟨n, h.2⟩) else idleA c (table m c)

theorem between_in (c : Dev nD) (t : Fin cfg0.N) :
    (if k0_cond1 (grid0.coords t) = 1#1 then idleA c (table m c) else carryA c (table m c) (words m c t) : sProp 𝕄) = between m c t.val := by
  unfold between
  by_cases h : t.val = 0
  · rw [if_pos ((first_iff t).mpr h), dif_neg (by omega)]
  · rw [if_neg (fun e => h ((first_iff t).mp e)), dif_pos ⟨by omega, t.isLt⟩]

theorem between_out (c : Dev nD) (t : Fin cfg0.N) :
    (if k0_cond2 (grid0.coords t) = 1#1 then idleA c (table m c) else carryA c (table m c) (nextWords m c t) : sProp 𝕄) = between m c (t.val + 1) := by
  unfold between
  have hN : cfg0.N = 1024 := N_0
  have ht := t.isLt
  by_cases h : t.val = 1023
  · rw [if_pos ((last_iff t).mpr h), dif_neg (by omega)]
  · rw [if_neg (fun e => h ((last_iff t).mp e)), dif_pos ⟨by omega, by omega⟩, nextWords_eq m c t (by omega)]

abbrev st0 (t : Fin cfg0.N) : Memref sig .tc .smem S16x128 .i32 := win0_0.stage (cfg0.slots t 0)
abbrev st1 (t : Fin cfg0.N) : Memref sig .tc .smem S16x128 .i32 := win0_1.stage (cfg0.slots t 1)
abbrev st2 (t : Fin cfg0.N) : Memref sig .tc .vmem S16x128 .f32 := win0_2.stage (cfg0.slots t 2)
abbrev st3 (t : Fin cfg0.N) : Memref sig .tc .vmem S16x2048 .bf16 := win0_3.stage (cfg0.slots t 3)
abbrev st4 (t : Fin cfg0.N) : Memref sig .tc .vmem S16x2048 .f32 := win0_4.stage (cfg0.slots t 4)
abbrev st5 (t : Fin cfg0.N) : Memref sig .tc .vmem S1x2048 .f32 := win0_5.stage (cfg0.slots t 5)
abbrev st6 (t : Fin cfg0.N) : Memref sig .tc .vmem S16x2048 .f32 := win0_6.stage (cfg0.slots t 6)
abbrev hs0 (t : Fin cfg0.N) : (st0 t).IsWhole := hstage0_0 ((cfg0.slots t 0).cast nbuf0_0)
abbrev hs1 (t : Fin cfg0.N) : (st1 t).IsWhole := hstage0_1 ((cfg0.slots t 1).cast nbuf0_1)
abbrev hs2 (t : Fin cfg0.N) : (st2 t).IsWhole := hstage0_2 ((cfg0.slots t 2).cast nbuf0_2)
abbrev hs3 (t : Fin cfg0.N) : (st3 t).IsWhole := hstage0_3 ((cfg0.slots t 3).cast nbuf0_3)
abbrev hs4 (t : Fin cfg0.N) : (st4 t).IsWhole := hstage0_4 ((cfg0.slots t 4).cast nbuf0_4)
abbrev hs5 (t : Fin cfg0.N) : (st5 t).IsWhole := hstage0_5 ((cfg0.slots t 5).cast nbuf0_5)
abbrev hs6 (t : Fin cfg0.N) : (st6 t).IsWhole := hstage0_6 ((cfg0.slots t 6).cast nbuf0_6)

/-- The run at point `t`. -/
abbrev runAt (c : Dev nD) (t : Fin cfg0.N) :=
  kernelRun c (grid0.coords t) (st0 t) (hs0 t) (st1 t) (hs1 t) (st2 t) (hs2 t) (st3 t) (hs3 t) (st4 t) (hs4 t) (st5 t) (hs5 t) (st6 t) (hs6 t)
    (table m c) (words m c t) (nextWords m c t) (iblk m c 2 t) (iblk m c 3 t) (iblk m c 4 t) (iblk m c 5 t)

/-- A view to state the result's contents through. -/
abbrev VO : View sig .tc .vmem S16x2048 .f32 := (Memref.whole cc0_stg6_0 : Memref sig .tc .vmem S16x2048 .f32).view

theorem cover (c : Dev nD) (t : Fin cfg0.N) (y : S16x2048.Idx) : ∃ pc ∈ (runAt m c t).1, y ∈ pc.1.set :=
  View.cover_of_tiledL (runAt m c t).1 S8x2048.size (by sl_kernel_rfl) y

/-- What point `t` stores. -/
def out (c : Dev nD) (t : Fin cfg0.N) : Vec F S16x2048 .f32 := VO.read (Elt F) (VO.writes (Elt F) VO.junk (runAt m c t).1)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c t
    | ⟨_ + 7, h⟩ => absurd h (Nat.not_lt.2 (Nat.le_add_left _ _))
  Φ t := iprop(between m c t.val ∗ idleB c (table m c) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

/-- Each point runs from what lies before it to what lies after it. -/
theorem sound_body (hw : ∀ (c : Dev nD) y, (m ((c : Thread nD τ).loc main_arg0) y).toNat < 16384) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = iprop(between m c t.val ∗ idleB c (table m c) ∗ (∃ r, prngReg c r)) from rfl,
    show (dats m 0 c).Φ t.succ = iprop(between m c (t.val + 1) ∗ idleB c (table m c) ∗ (∃ r, prngReg c r)) from rfl,
    after_0, after_1, after_2, after_3, after_4, after_5, after_6, ← between_in, ← between_out]
  simp only [before_0, before_1, before_2, before_3, before_4, before_5]
  unfold Dat.owesAt Pipeline.owesWithin
  rw [show (dats m 0 c).owed t.castSucc = 0 from rfl, show (dats m 0 c).owed t.succ = 0 from rfl]
  unfold out owns
  iintro ⟨⟨HA, HB, Hg⟩, ⟨%W, -, HW⟩, ⟨%d0, H0⟩, ⟨%d1, H1⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩⟩
  obtain rfl := (hs2 t).eq_unread e2
  obtain rfl := (hs3 t).eq_unread e3
  obtain rfl := (hs4 t).eq_unread e4
  obtain rfl := (hs5 t).eq_unread e5
  iapply ((runAt m c t).2 (words_lt m hw c t) (nextWords_lt m hw c t) W _)
  isplitl [HA]; · iexact HA
  isplitl [HB]; · iexact HB
  isplitl [H0]; · unfold wordsAt; iexact H0
  isplitl [H1]; · unfold wordsAt; iexact H1
  isplitl [H2]; · iexact H2
  isplitl [H3]; · iexact H3
  isplitl [H4]; · iexact H4
  isplitl [H5]; · iexact H5
  isplitl [H6]; · iexists _; iexact H6
  isplitl [HW]; · iexact HW
  unfold wordsAt
  iintro ⟨HA, HB, H0, H1, H2, H3, H4, H5, ⟨%g6, H6⟩, ⟨%W', HW'⟩⟩
  isplitl [HA HB Hg]
  · isplitl [HA]; · iexact HA
    isplitl [HB]; · iexact HB
    iexact Hg
  isplitl [HW']
  · iexists W'; isplitr; · ipureintro; exact fun _ _ => Or.inl trivial
    iexact HW'
  isplitl [H0]; · iexact H0
  isplitl [H1]; · iexact H1
  isplitl [H2]
  · iexists _; isplitr; swap; · iexact H2
    ipureintro; exact (hs2 t).read_unread _
  isplitl [H3]
  · iexists _; isplitr; swap; · iexact H3
    ipureintro; exact (hs3 t).read_unread _
  isplitl [H4]
  · iexists _; isplitr; swap; · iexact H4
    ipureintro; exact (hs4 t).read_unread _
  isplitl [H5]
  · iexists _; isplitr; swap; · iexact H5
    ipureintro; exact (hs5 t).read_unread _
  iexists _; isplitr
  swap; · iexact H6
  ipureintro; exact View.read_writes_of_cover _ _ _ _ _ (cover m c t)

theorem defs₀_row (t : Fin cfg0.N) :
    defs₀ (F := F) .tc cfg0.body (cfg0.bodyArgs t (cfg0.slots t)) = bodyAt0 t := by
  unfold defs₀; rw [Defs.onTc_tc]

theorem body_obligation (hw : ∀ (c : Dev nD) y, (m ((c : Thread nD τ).loc main_arg0) y).toNat < 16384) (c : Dev nD) :
    BodyObligation (dats (F := F) m 0 c) (defs₀ (F := F)) Variants.none () Set.univ := fun t => by
  rw [bigSep_W0, bigSep_W0, defs₀_row]
  exact triple_restated (sound_body m hw c t) rfl .rfl fun _ => .rfl

/-! ## The launch -/

abbrev osem0 : Fin 2 → SemLoc sig := fun j => (![SemLoc.dma 13, SemLoc.dma 14] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0) := by
  rw [Pipeline.ownSems0_eq_of_list c osem0 [0, 1] (by decide) (by decide)]; rfl
/-- The table is read by the body's own copies. -/
def H0 : Finset (Ref sig .tc) := {main_v6}
theorem H0_sub : H0 ⊆ Pipeline.restRefs sig spec0 := by decide
theorem tablePt_eq (c : Dev nD) :
    (bigSep H0 (fun b => ((c : Thread nD τ).loc b) ↦{fullShare} V m c b) : sProp 𝕄)
      = iprop((mT.view.loc (c : Thread nD τ)) ↦{fullShare} table m c) := by
  rw [BI.bigSep_eq_bigSepL_of_eq [main_v6] (by decide) (by decide)]; rfl

theorem PhiD0_eq (c : Dev nD) :
    (Pipeline.ΦD osem0 spec0 H0 (V m) c : sProp 𝕄)
      = iprop(iprop((∃ f, mA.view.loc (c : Thread nD τ) ↦{fullShare} f) ∗ (∃ f, mB.view.loc (c : Thread nD τ) ↦{fullShare} f))
          ∗ (∃ r, prngReg c r)
          ∗ iprop(semVal ((c : Thread nD τ), SemLoc.dma 13) 0 ∗ semVal ((c : Thread nD τ), SemLoc.dma 14) 0)
          ∗ ((mT.view.loc (c : Thread nD τ)) ↦{fullShare} table m c)) := by
  rw [Pipeline.ΦD_eq, scopedRest0_eq, ownSems00_eq, tablePt_eq]

theorem start_in (c : Dev nD) : Pipeline.ΦD osem0 spec0 H0 (V m) c ⊢ (dats m 0 c).Φ 0 := by
  rw [PhiD0_eq, show (dats m 0 c).Φ 0 = iprop(between m c 0 ∗ idleB c (table m c) ∗ (∃ r, prngReg c r)) from rfl]
  unfold between
  rw [dif_neg (by omega)]
  unfold idleA idleB
  iintro ⟨⟨HA, HB⟩, Hg, ⟨HSA, HSB⟩, ⟨HTA, HTB⟩⟩
  isplitl [HA HSA HTA]
  · isplitl [HA]; · iexact HA
    isplitl [HTA]; · iexact HTA
    iexact HSA
  isplitl [HB HSB HTB]
  · isplitl [HB]; · iexact HB
    isplitl [HTB]; · iexact HTB
    iexact HSB
  iexact Hg

theorem end_out (c : Dev nD) : (dats m 0 c).Φ (Fin.last cfg0.N) ⊢ Pipeline.ΦD osem0 spec0 H0 (V m) c := by
  rw [PhiD0_eq, show (dats m 0 c).Φ (Fin.last cfg0.N) = iprop(between m c cfg0.N ∗ idleB c (table m c) ∗ (∃ r, prngReg c r)) from rfl]
  unfold between
  rw [dif_neg (by omega)]
  unfold idleA idleB
  iintro ⟨⟨HA, HTA, HSA⟩, ⟨HB, HTB, HSB⟩, Hg⟩
  isplitl [HA HB]
  · isplitl [HA]; · iexact HA
    iexact HB
  isplitl [Hg]; · iexact Hg
  isplitl [HSA HSB]
  · isplitl [HSA]; · iexact HSA
    iexact HSB
  icombine HTA HTB as HT
  iexact HT

theorem mainRun (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The program runs, to every array as the pipeline leaves it and every counter at zero. -/
theorem run_main (hw : ∀ (c : Dev nD) y, (m ((c : Thread nD τ).loc main_arg0) y).toNat < 16384) :
    θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hw c).loose) (hq := fun _ _ _ => rfl)
    (howed := fun _ _ => rfl) (V := V m) (hmain := mainRun m Variants.none) (hA := A_eq m)
    (hin := start_in m) (hout := end_out m)

/-- The arguments come back as launched, and every counter stands at zero. -/
theorem frame (hw : ∀ (c : Dev nD) y, (m ((c : Thread nD τ).loc main_arg0) y).toNat < 16384) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ hw)

end Cert.KernelIdeal.Hand

end
-- ==== Proof.IdealPure.lean ====
/-
  What one half of the gather kernel computes for its eight tokens, read element by element.
-/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- Column `d` of row `r` of a load. -/
abbrev rawAt (p : Fin 2) (r : Fin 1024) (d : Fin 2048) : S128x1x8x2x128.Idx :=
  ix5 (⟨r.val / 8, by omega⟩ : Fin 128) (0 : Fin 1) (⟨r.val % 8, by omega⟩ : Fin 8) p (⟨d.val % 128, by omega⟩ : Fin 128)

/-- One load as rows of 128 lanes: the words' low halves (`p = 0`) or high halves (`p = 1`). -/
def piece (p : Fin 2) (raw : Vec F S128x1x8x2x128 .bf16) : FVec F S1024x128 .bf16 :=
  shapeCast S1024x128 (shapeCast S128x8x128 (shapeCast S128x1x8x128
    (rowsOfParity p S128x1x8x1x128 raw bitcasts_S128x1x8x2x128_w16_S128x1x8x1x128_w32) shapeCasts_S128x1x8x1x128_S128x1x8x128)
    shapeCasts_S128x1x8x128_S128x8x128) shapeCasts_S128x8x128_S1024x128

/-- Sixteen pieces side by side. -/
def joined (x : Fin 16 → FVec F S1024x128 .bf16) : FVec F S1024x2048 .bf16 :=
  concatenate S1024x2048 1 [⟨S1024x128, x 0⟩, ⟨S1024x128, x 1⟩, ⟨S1024x128, x 2⟩, ⟨S1024x128, x 3⟩, ⟨S1024x128, x 4⟩, ⟨S1024x128, x 5⟩,
    ⟨S1024x128, x 6⟩, ⟨S1024x128, x 7⟩, ⟨S1024x128, x 8⟩, ⟨S1024x128, x 9⟩, ⟨S1024x128, x 10⟩, ⟨S1024x128, x 11⟩, ⟨S1024x128, x 12⟩,
    ⟨S1024x128, x 13⟩, ⟨S1024x128, x 14⟩, ⟨S1024x128, x 15⟩]
    concatenates_S1024x128_S1024x128_S1024x128_S1024x128_S1024x128_S1024x128_S1024x128_S1024x128_S1024x128_S1024x128_S1024x128_S1024x128_S1024x128_S1024x128_S1024x128_S1024x128_S1024x2048_d1

theorem piece_at (p : Fin 2) (raw : Vec Ideal S128x1x8x2x128 .bf16) (r : Fin 1024) (l : Fin 128) :
    piece p raw (ix2 r l) = raw (ix5 (⟨r.val / 8, by omega⟩ : Fin 128) (0 : Fin 1) (⟨r.val % 8, by omega⟩ : Fin 8) p l) := by
  pointwise [piece]

theorem joined_at (x : Fin 16 → FVec F S1024x128 .bf16) (r : Fin 1024) (d : Fin 2048) :
    joined x (ix2 r d) = x ⟨d.val / 128, by omega⟩ (ix2 r ⟨d.val % 128, by omega⟩) :=
  concatenate_ofFn_apply (t := S1024x2048) (s₁ := S1024x128) 1 x concatenates_S1024x128_S1024x128_S1024x128_S1024x128_S1024x128_S1024x128_S1024x128_S1024x128_S1024x128_S1024x128_S1024x128_S1024x128_S1024x128_S1024x128_S1024x128_S1024x128_S1024x2048_d1 rfl 128 rfl (ix2 r d)
    ⟨d.val / 128, by omega⟩ rfl (ix2 r ⟨d.val % 128, by omega⟩) rfl
    (fun b hb => by
      have h0 : b = 0 := by
        rcases b with ⟨_ | _ | n, hn⟩
        · rfl
        · exact absurd rfl hb
        · exact absurd hn (by show ¬ n + 2 < 2; omega)
      subst h0; rfl)

/-- The gathered rows, one half of the words of each. -/
def rowsOf (p : Fin 2) (raw : Fin 16 → Vec F S128x1x8x2x128 .bf16) : FVec F S1024x2048 .bf16 :=
  truncf .bf16 (extf .f32 (joined fun s => piece p (raw s)) bitsLt_bf16_f32) bitsLt_bf16_f32

/-- What is stored for the eight tokens. -/
def halfOut (g : Vec F S8x128 .f32) (h : Vec F S8x2048 .bf16) (x : Vec F S8x2048 .f32) (gf : Vec F S1x2048 .f32)
    (raw : Fin 16 → Vec F S128x1x8x2x128 .bf16) : FVec F S8x2048 .f32 :=
  k0_pay1 g x (k0_pay38 gf) (rowsOf 1 raw) k0_pay64 (k0_pay66 h (rowsOf 0 raw)) (k0_pay67 h (rowsOf 0 raw))

theorem rowsOf_at (p : Fin 2) (raw : Fin 16 → Vec Ideal S128x1x8x2x128 .bf16) (r : Fin 1024) (d : Fin 2048) :
    rowsOf p raw (ix2 r d) = raw ⟨d.val / 128, by omega⟩ (rawAt p r d) := by
  pointwise [rowsOf, joined_at, piece_at]

/-- The mask: token `p` against the column of a row gathered for it. -/
theorem mask_at (p : Fin 8) (r : Fin 1024) : k0_pay64 (ix2 p r) = if r.val / 128 = p.val then 1#1 else 0#1 := by
  have h : ∀ (p : Fin 8) (r : Fin 1024), k0_pay64 (ix2 p r) = if r.val / 128 = p.val then 1#1 else 0#1 := by
    decide +kernel
  exact h p r

theorem own_at (h : FVec Ideal S8x2048 .bf16) (w : FVec Ideal S1024x2048 .bf16) (p : Fin 8) (k : Fin 128) :
    k0_pay65 h w (ix2 p k) = ∑ d : Fin 2048, h (ix2 p d) * w (ix2 ⟨128 * p.val + k.val, by omega⟩ d) := by
  pointwise [k0_pay65, mask_at]
  have hk := k.isLt
  have e0 : k.val / 128 = 0 := by omega
  have e1 : (128 + k.val) / 128 = 1 := by omega
  have e2 : (256 + k.val) / 128 = 2 := by omega
  have e3 : (384 + k.val) / 128 = 3 := by omega
  have e4 : (512 + k.val) / 128 = 4 := by omega
  have e5 : (640 + k.val) / 128 = 5 := by omega
  have e6 : (768 + k.val) / 128 = 6 := by omega
  have e7 : (896 + k.val) / 128 = 7 := by omega
  simp only [e0, e1, e2, e3, e4, e5, e6, e7]
  fin_cases p <;> simp [Scalar.select]

/-- The experts' coefficients. -/
def coefs (g a b : FVec F S8x128 .f32) : FVec F S8x128 .f32 :=
  mulf g (mulf a (addf (broadcast S8x128 (Scalar.ofBits .f32 0x3F800000#32)) (erf b)))

/-- Eight copies side by side. -/
def spread (c : FVec F S8x128 .f32) : FVec F S8x1024 .f32 :=
  concatenate S8x1024 1 [⟨S8x128, c⟩, ⟨S8x128, c⟩, ⟨S8x128, c⟩, ⟨S8x128, c⟩, ⟨S8x128, c⟩, ⟨S8x128, c⟩, ⟨S8x128, c⟩, ⟨S8x128, c⟩]
    concatenates_S8x128_S8x128_S8x128_S8x128_S8x128_S8x128_S8x128_S8x128_S8x1024_d1

theorem spread_at (c : FVec F S8x128 .f32) (p : Fin 8) (r : Fin 1024) : spread c (ix2 p r) = c (ix2 p ⟨r.val % 128, by omega⟩) :=
  concatenate_replicate_apply (t := S8x1024) (s₁ := S8x128) 1 8 c
    concatenates_S8x128_S8x128_S8x128_S8x128_S8x128_S8x128_S8x128_S8x128_S8x1024_d1 rfl (ix2 p r) (ix2 p ⟨r.val % 128, by omega⟩) rfl
    (fun b hb => by
      have h0 : b = 0 := by
        rcases b with ⟨_ | _ | n, hn⟩
        · rfl
        · exact absurd rfl hb
        · exact absurd hn (by show ¬ n + 2 < 2; omega)
      subst h0; rfl)

/-- The tokens with their experts' contribution added. -/
def added (x : FVec F S8x2048 .f32) (c : FVec F S8x128 .f32) (vals : FVec F S1024x2048 .bf16) : FVec F S8x2048 .f32 :=
  addf x (matmul (φ₁ := .bf16) (φ₂ := .bf16) dot_S8x1024_S1024x2048_S8x2048_1_0_0_1_n_n none
    (truncf .bf16 (select k0_pay64 (spread c) (broadcast S8x1024 (Scalar.ofBits .f32 0x00000000#32))) bitsLt_bf16_f32) vals
    (constant S8x2048 .f32 0x00000000#32))

theorem added_at (x : FVec Ideal S8x2048 .f32) (c : FVec Ideal S8x128 .f32) (vals : FVec Ideal S1024x2048 .bf16) (p : Fin 8) (d : Fin 2048) :
    added x c vals (ix2 p d) = x (ix2 p d) + ∑ k : Fin 128, c (ix2 p k) * vals (ix2 ⟨128 * p.val + k.val, by omega⟩ d) := by
  pointwise [added, spread_at, mask_at]
  refine congrArg (x (ix2 p d) + ·) ?_
  rw [Fin.sum_univ_tiles 8 128 rfl, Finset.sum_eq_single p]
  · refine Finset.sum_congr rfl fun k _ => ?_
    have hk := k.isLt
    have e1 : (p.val * 128 + k.val) / 128 = p.val := by omega
    have e2 : (⟨(p.val * 128 + k.val) % 128, by omega⟩ : Fin 128) = k := Fin.ext (by show (p.val * 128 + k.val) % 128 = k.val; omega)
    have e3 : (⟨p.val * 128 + k.val, by omega⟩ : Fin 1024) = ⟨128 * p.val + k.val, by omega⟩ := Fin.ext (by show p.val * 128 + k.val = 128 * p.val + k.val; omega)
    simp only [e1, if_true, Scalar.select]
    rw [e2, e3]
    simp
  · intro j _ hj
    refine Finset.sum_eq_zero fun k _ => ?_
    have hk := k.isLt
    have e1 : ¬ (j.val * 128 + k.val) / 128 = p.val := fun e => hj (Fin.ext (by omega))
    simp [e1, Scalar.select]
  · intro hp; exact absurd (Finset.mem_univ p) hp

/-- The last normalisation. -/
def normed (y : FVec F S8x2048 .f32) (gf : FVec F S1x2048 .f32) : FVec F S8x2048 .f32 :=
  mulf (mulf y (broadcastTo S8x2048 (rsqrt (addf (divf (shapeCast S8x1
    (multiReduction .add [1] S8 (mulf y y) 0x00000000#32 reduces_S8x2048_S8 (.inl rfl) rfl) shapeCasts_S8_S8x1)
    (broadcast S8x1 (Scalar.ofBits .f32 0x45000000#32))) (broadcast S8x1 (Scalar.ofBits .f32 0x358637BD#32)))) broadcasts_S8x1_S8x2048))
    (broadcastTo S8x2048 gf broadcasts_S1x2048_S8x2048)

theorem pay_eq (g : FVec F S8x128 .f32) (x : FVec F S8x2048 .f32) (gf : FVec F S1x2048 .f32) (vals : FVec F S1024x2048 .bf16)
    (a b : FVec F S8x128 .f32) : k0_pay1 g x gf vals k0_pay64 a b = normed (added x (coefs g a b) vals) gf := rfl

/-- One token's result: from its gathered key and value rows, its gates, its normalised activation and its residual. -/
def tokenOut (u v : Fin 128 → Fin 2048 → EReal) (g : Fin 128 → EReal) (h x gf : Fin 2048 → EReal) (d : Fin 2048) : EReal :=
  let a k := ∑ e, h e * u k e
  let c k := g k * (Ideal.ofBits .f32 0x3F000000#32 * a k * (1 + FloatOps.erf (F := Ideal) (φ := .f32) (a k * Ideal.ofBits .f32 0x3F3504F3#32)))
  let y e := x e + ∑ k, c k * v k e
  y d * Ideal.rsqrt (Ideal.div (∑ e, y e * y e) (Ideal.ofBits .f32 0x45000000#32) + Ideal.ofBits .f32 0x358637BD#32) * gf d

theorem half_at (g : FVec Ideal S8x128 .f32) (h : FVec Ideal S8x2048 .bf16) (x : FVec Ideal S8x2048 .f32) (gf : FVec Ideal S1x2048 .f32)
    (raw : Fin 16 → Vec Ideal S128x1x8x2x128 .bf16) (p : Fin 8) (d : Fin 2048) :
    halfOut g h x gf raw (ix2 p d)
      = tokenOut (fun k e => raw ⟨e.val / 128, by omega⟩ (rawAt 0 ⟨128 * p.val + k.val, by omega⟩ e))
          (fun k e => raw ⟨e.val / 128, by omega⟩ (rawAt 1 ⟨128 * p.val + k.val, by omega⟩ e))
          (fun k => g (ix2 p k)) (fun e => h (ix2 p e)) (fun e => x (ix2 p e)) (fun e => gf (ix2 0 e)) d := by
  unfold halfOut
  rw [pay_eq]
  pointwise [normed, added_at, coefs, k0_pay66, k0_pay67, own_at, rowsOf_at, k0_pay38, tokenOut]

end Cert.KernelIdeal.Hand
-- ==== Proof.IdealValue.lean ====
/-
  What the gather kernel leaves in its result array.
-/
module

public import proofs.«01_k».proof.Proof.IdealFrame
public import proofs.«01_k».proof.Proof.IdealPure
public import Idealize.ShloMosaic.Lib.Pipeline.ValueKit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

section Pieces

theorem slab_fits (s : Fin 16) : ∀ a, (![0, s.val, 0, 0, 0] : Fin 5 → ℕ) a + S128x1x8x2x128.size a ≤ S128x16x8x2x128.size a := by
  revert s; decide

variable {F : FTy → Type} [FloatOps F]

/-- The sixteen loads of buffer A, -/
def rawsA (X : S128x16x8x2x128.Idx → Elt F .bf16) (s : Fin 16) : Vec F S128x1x8x2x128 .bf16 :=
  View.readAt (Elt F) mA.view (Rect.unit (s := S128x16x8x2x128) ![0, s.val, 0, 0, 0] S128x1x8x2x128.size (slab_fits s)).toLoadRect X
/-- and of buffer B. -/
def rawsB (X : S128x16x8x2x128.Idx → Elt F .bf16) (s : Fin 16) : Vec F S128x1x8x2x128 .bf16 :=
  View.readAt (Elt F) mB.view (Rect.unit (s := S128x16x8x2x128) ![0, s.val, 0, 0, 0] S128x1x8x2x128.size (slab_fits s)).toLoadRect X

/-- The slab of a buffer at lane block `s`. -/
def slab (X : S128x16x8x2x128.Idx → Elt F .bf16) (s : Fin 16) : Vec F S128x1x8x2x128 .bf16 := fun y => X (ix5 (y 0) s (y 2) (y 3) (y 4))

theorem slab_emb (s : Fin 16) (y : S128x1x8x2x128.Idx) :
    (Rect.unit (s := S128x16x8x2x128) ![0, s.val, 0, 0, 0] S128x1x8x2x128.size (slab_fits s)).emb y = ix5 (y 0) s (y 2) (y 3) (y 4) := by
  refine Rect.emb_eq_of_coords _ _ _ fun b => ?_
  fin_cases b
  · show (y 0).val = 0 + 1 * (y 0).val; omega
  · have h : (y 1).val < 1 := (y 1).isLt
    show s.val = s.val + 1 * (y 1).val; omega
  · show (y 2).val = 0 + 1 * (y 2).val; omega
  · show (y 3).val = 0 + 1 * (y 3).val; omega
  · show (y 4).val = 0 + 1 * (y 4).val; omega

theorem rawsA_eq (X : S128x16x8x2x128.Idx → Elt F .bf16) : rawsA X = slab X := by
  funext s y
  exact congrArg X (slab_emb s y)
theorem rawsB_eq (X : S128x16x8x2x128.Idx → Elt F .bf16) : rawsB X = slab X := by
  funext s y
  exact congrArg X (slab_emb s y)

/-- Eight rows of a block, from row `b` on. -/
def rowsFrom8 {α : Type} {n : ℕ} (b : ℕ) (hb : b ≤ 8) (X : (⟨2, ![16, n]⟩ : Shape).Idx → α) : (⟨2, ![8, n]⟩ : Shape).Idx → α :=
  fun y => X (ix2 (⟨b + (y 0).val, by have h : (y 0).val < 8 := (y 0).isLt; omega⟩ : Fin 16) (y 1 : Fin n))

theorem load_rows {n : ℕ} {e : EltTy} {sp : Space} (a : Memref sig .tc sp (⟨2, ![16, n]⟩ : Shape) e) (ha : a.IsWhole) (b : ℕ) (hb : b ≤ 8)
    (inb : ∀ i, (![b, 0] : Fin 2 → ℕ) i + (⟨2, ![8, n]⟩ : Shape).size i ≤ (⟨2, ![16, n]⟩ : Shape).size i) (X : (⟨2, ![16, n]⟩ : Shape).Idx → Elt F e) :
    View.readAt (Elt F) a.view (Rect.unit (s := (⟨2, ![16, n]⟩ : Shape)) ![b, 0] (⟨2, ![8, n]⟩ : Shape).size inb).toLoadRect (ha.unread X)
      = rowsFrom8 b hb X := by
  funext y
  refine (Memref.IsWhole.readAt_unread ha X _ y).trans (congrArg X ?_)
  refine Rect.emb_eq_of_coords (Rect.unit (s := (⟨2, ![16, n]⟩ : Shape)) ![b, 0] (⟨2, ![8, n]⟩ : Shape).size inb) y _ fun i => ?_
  fin_cases i
  · show b + (y 0).val = b + 1 * (y 0).val; omega
  · show (y 1).val = 0 + 1 * (y 1).val; omega

theorem load_gf (a : Memref sig .tc .vmem S1x2048 .f32) (ha : a.IsWhole) (X : S1x2048.Idx → Elt F .f32) :
    View.readAt (Elt F) a.view (Rect.unit (s := S1x2048) ![0, 0] S1x2048.size inb_S1x2048_S1x2048_0_0).toLoadRect (ha.unread X) = X := by
  funext y
  refine (Memref.IsWhole.readAt_unread ha X _ y).trans (congrArg X ?_)
  refine Rect.emb_eq_of_coords (Rect.unit (s := S1x2048) ![0, 0] S1x2048.size inb_S1x2048_S1x2048_0_0) y _ fun i => ?_
  fin_cases i
  · show (y 0).val = 0 + 1 * (y 0).val; omega
  · show (y 1).val = 0 + 1 * (y 1).val; omega

variable (m : (ℓ : Loc nD τ sig) → Buf (Elt F) ℓ)

/-- The loads of the operands' blocks. -/
abbrev gAt (c : Dev nD) (t : Fin cfg0.N) (b : ℕ) (inb) := View.readAt (Elt F) (st2 t).view (Rect.unit (s := S16x128) ![b, 0] S8x128.size inb).toLoadRect ((hs2 t).unread (iblk m c 2 t))
abbrev hAt (c : Dev nD) (t : Fin cfg0.N) (b : ℕ) (inb) := View.readAt (Elt F) (st3 t).view (Rect.unit (s := S16x2048) ![b, 0] S8x2048.size inb).toLoadRect ((hs3 t).unread (iblk m c 3 t))
abbrev xAt (c : Dev nD) (t : Fin cfg0.N) (b : ℕ) (inb) := View.readAt (Elt F) (st4 t).view (Rect.unit (s := S16x2048) ![b, 0] S8x2048.size inb).toLoadRect ((hs4 t).unread (iblk m c 4 t))
abbrev gfAt (c : Dev nD) (t : Fin cfg0.N) := View.readAt (Elt F) (st5 t).view (Rect.unit (s := S1x2048) ![0, 0] S1x2048.size inb_S1x2048_S1x2048_0_0).toLoadRect ((hs5 t).unread (iblk m c 5 t))

theorem pieces_eq (c : Dev nD) (t : Fin cfg0.N) : (runAt m c t).1 =
    [⟨Rect.unit (s := S16x2048) ![8, 0] S8x2048.size inb_S16x2048_S8x2048_8_0,
        halfOut (gAt m c t 8 inb_S16x128_S8x128_8_0) (hAt m c t 8 inb_S16x2048_S8x2048_8_0) (xAt m c t 8 inb_S16x2048_S8x2048_8_0) (gfAt m c t)
          (rawsB (gathered (table m c) (words m c t) 8))⟩,
     ⟨Rect.unit (s := S16x2048) ![0, 0] S8x2048.size inb_S16x2048_S8x2048_0_0,
        halfOut (gAt m c t 0 inb_S16x128_S8x128_0_0) (hAt m c t 0 inb_S16x2048_S8x2048_0_0) (xAt m c t 0 inb_S16x2048_S8x2048_0_0) (gfAt m c t)
          (rawsA (gathered (table m c) (words m c t) 0))⟩] := by
  unfold runAt kernelRun
  rfl

end Pieces

variable (m : (ℓ : Loc nD τ sig) → Buf (Elt Ideal) ℓ)

/-- A gathered row read at a column. -/
theorem slab_row (T : S16384x16x2x128.Idx → EReal) (blk : S16x128.Idx → BitVec 32) (b : ℕ) (hb : b ≤ 8) (q : Fin 2) (p : Fin 8) (k : Fin 128) (e : Fin 2048) :
    slab (F := Ideal) (gathered T blk b) ⟨e.val / 128, by omega⟩ (rawAt q ⟨128 * p.val + k.val, by omega⟩ e)
      = T (ix4 (⟨(blk (ix2 ⟨b + p.val, by omega⟩ k)).toNat % 16384, by omega⟩ : Fin 16384) (⟨e.val / 128, by omega⟩ : Fin 16) q (⟨e.val % 128, by omega⟩ : Fin 128)) := by
  have hp := p.isLt
  have hk := k.isLt
  have e1 : 8 * ((128 * p.val + k.val) / 8) + (128 * p.val + k.val) % 8 = 128 * p.val + k.val := by omega
  have e2 : wordAt b (8 * ((128 * p.val + k.val) / 8) + (128 * p.val + k.val) % 8) = ix2 (⟨b + p.val, by omega⟩ : Fin 16) k := by
    rw [e1]
    show ix2 (⟨(b + (128 * p.val + k.val) / 128) % 16, _⟩ : Fin 16) (⟨(128 * p.val + k.val) % 128, _⟩ : Fin 128) = _
    have e3 : (b + (128 * p.val + k.val) / 128) % 16 = b + p.val := by omega
    have e4 : (128 * p.val + k.val) % 128 = k.val := by omega
    congr 1 <;> exact Fin.ext (by assumption)
  exact congrArg (fun i => T (tableAt (blk i) (ix5 (⟨(128 * p.val + k.val) / 8, by omega⟩ : Fin 128) (⟨e.val / 128, by omega⟩ : Fin 16)
    (⟨(128 * p.val + k.val) % 8, by omega⟩ : Fin 8) q (⟨e.val % 128, by omega⟩ : Fin 128)))) e2

theorem tokenOut_congr {u u' v v' : Fin 128 → Fin 2048 → EReal} {g g' : Fin 128 → EReal} {h h' x x' gf gf' : Fin 2048 → EReal}
    (hu : ∀ k e, u k e = u' k e) (hv : ∀ k e, v k e = v' k e) (hg : ∀ k, g k = g' k) (hh : ∀ e, h e = h' e) (hx : ∀ e, x e = x' e)
    (hgf : ∀ e, gf e = gf' e) (d : Fin 2048) : tokenOut u v g h x gf d = tokenOut u' v' g' h' x' gf' d := by
  obtain rfl : u = u' := funext fun k => funext fun e => hu k e
  obtain rfl : v = v' := funext fun k => funext fun e => hv k e
  obtain rfl : g = g' := funext hg
  obtain rfl : h = h' := funext hh
  obtain rfl : x = x' := funext hx
  obtain rfl : gf = gf' := funext hgf
  rfl

/-- What point `t` stores for its token `p` at column `d`. -/
def atPoint (c : Dev nD) (t : Fin cfg0.N) : S16x2048.Idx → EReal := fun y =>
  tokenOut (fun k e => table m c (ix4 (⟨(words m c t (ix2 (y 0 : Fin 16) k)).toNat % 16384, by omega⟩ : Fin 16384) (⟨e.val / 128, by omega⟩ : Fin 16) 0 (⟨e.val % 128, by omega⟩ : Fin 128)))
    (fun k e => table m c (ix4 (⟨(words m c t (ix2 (y 0 : Fin 16) k)).toNat % 16384, by omega⟩ : Fin 16384) (⟨e.val / 128, by omega⟩ : Fin 16) 1 (⟨e.val % 128, by omega⟩ : Fin 128)))
    (fun k => iblk m c 2 t (ix2 (y 0 : Fin 16) k)) (fun e => iblk m c 3 t (ix2 (y 0 : Fin 16) e)) (fun e => iblk m c 4 t (ix2 (y 0 : Fin 16) e))
    (fun e => iblk m c 5 t (ix2 (0 : Fin 1) e)) (y 1)

theorem congrArg₃ {α β γ δ : Sort _} (f : α → β → γ → δ) {a a' : α} {b b' : β} {c c' : γ} (ha : a = a') (hb : b = b') (hc : c = c') :
    f a b c = f a' b' c' := by
  subst ha hb hc; rfl

theorem half_point (c : Dev nD) (t : Fin cfg0.N) (b : ℕ) (hb : b ≤ 8) (inb : ∀ i, (![b, 0] : Fin 2 → ℕ) i + S8x2048.size i ≤ S16x2048.size i) (x : S8x2048.Idx) :
    halfOut (F := Ideal) (rowsFrom8 b hb (iblk m c 2 t)) (rowsFrom8 b hb (iblk m c 3 t)) (rowsFrom8 b hb (iblk m c 4 t)) (iblk m c 5 t)
        (slab (gathered (table m c) (words m c t) b)) x
      = atPoint m c t ((Rect.unit (s := S16x2048) ![b, 0] S8x2048.size inb).emb x) := by
  have hx : (Rect.unit (s := S16x2048) ![b, 0] S8x2048.size inb).emb x = ix2 (⟨b + (x 0).val, by have h : (x 0).val < 8 := (x 0).isLt; omega⟩ : Fin 16) (x 1 : Fin 2048) := by
    refine Rect.emb_eq_of_coords _ _ _ fun i => ?_
    fin_cases i
    · show b + (x 0).val = b + 1 * (x 0).val; omega
    · show (x 1).val = 0 + 1 * (x 1).val; omega
  rw [hx]
  refine (congrArg _ (eq_ix2 (n0 := 8) (n1 := 2048) x)).trans ((half_at _ _ _ _ _ (x 0) (x 1)).trans ?_)
  exact tokenOut_congr (fun k e => slab_row _ _ b hb 0 (x 0) k e) (fun k e => slab_row _ _ b hb 1 (x 0) k e) (fun k => rfl)
    (fun e => rfl) (fun e => rfl) (fun e => rfl) (x 1)

theorem out_eq (c : Dev nD) (t : Fin cfg0.N) (y : S16x2048.Idx) : out m c t y = atPoint m c t y := by
  unfold out
  refine View.read_writes_apply_of_pieces VO _ (atPoint m c t) (runAt m c t).1 ?_ y (cover m c t y)
  rw [pieces_eq]
  intro p hp x
  simp only [List.mem_cons, List.not_mem_nil, or_false] at hp
  rcases hp with rfl | rfl
  · refine Eq.trans ?_ (half_point m c t 8 (Nat.le_refl 8) inb_S16x2048_S8x2048_8_0 x)
    show halfOut (F := Ideal) _ _ _ _ _ x = _
    refine congrFun ?_ x
    rw [rawsB_eq, gfAt, load_gf (st5 t) (hs5 t)]
    exact congrArg₃ (fun g h y => halfOut g h y (iblk m c 5 t) _) (load_rows (n := 128) (st2 t) (hs2 t) 8 (Nat.le_refl 8) inb_S16x128_S8x128_8_0 _)
      (load_rows (n := 2048) (st3 t) (hs3 t) 8 (Nat.le_refl 8) inb_S16x2048_S8x2048_8_0 _)
      (load_rows (n := 2048) (st4 t) (hs4 t) 8 (Nat.le_refl 8) inb_S16x2048_S8x2048_8_0 _)
  · refine Eq.trans ?_ (half_point m c t 0 (Nat.zero_le 8) inb_S16x2048_S8x2048_0_0 x)
    refine congrFun ?_ x
    rw [rawsA_eq, gfAt, load_gf (st5 t) (hs5 t)]
    exact congrArg₃ (fun g h y => halfOut g h y (iblk m c 5 t) _) (load_rows (n := 128) (st2 t) (hs2 t) 0 (Nat.zero_le 8) inb_S16x128_S8x128_0_0 _)
      (load_rows (n := 2048) (st3 t) (hs3 t) 0 (Nat.zero_le 8) inb_S16x2048_S8x2048_0_0 _)
      (load_rows (n := 2048) (st4 t) (hs4 t) 0 (Nat.zero_le 8) inb_S16x2048_S8x2048_0_0 _)

end Cert.KernelIdeal.Hand
-- ==== Proof.IdealResult.lean ====
/-
  The gather kernel's result array after the run: every token's output, from the arguments.
-/
module

public import proofs.«01_k».proof.Proof.IdealValue
public import Idealize.ShloMosaic.Lib.Pointwise

@[expose] public section

set_option maxRecDepth 16384

noncomputable section

namespace Cert.KernelIdeal.Hand

open Cert.KernelIdeal Cert.KernelIdeal.Gen Cert.Rows
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)

/-! ## What the host prepares -/

/-- Both tables side by side, as one array of row pairs. -/
def paired (u v : FVec Ideal S1x16384x2048 .f32) : FVec Ideal S16384x16x2x128 .bf16 :=
  concatenate S16384x16x2x128 2
    [⟨S16384x16x1x128, shapeCast S16384x16x1x128 (truncf .bf16 (shapeCast S16384x2048 u shapeCasts_S1x16384x2048_S16384x2048) bitsLt_bf16_f32) shapeCasts_S16384x2048_S16384x16x1x128⟩,
     ⟨S16384x16x1x128, shapeCast S16384x16x1x128 (truncf .bf16 (shapeCast S16384x2048 v shapeCasts_S1x16384x2048_S16384x2048) bitsLt_bf16_f32) shapeCasts_S16384x2048_S16384x16x1x128⟩]
    concatenates_S16384x16x1x128_S16384x16x1x128_S16384x16x2x128_d2

theorem table_eq (c : Dev nD) : table m c = paired (m ((c : Thread nD τ).loc main_arg5)) (m ((c : Thread nD τ).loc main_arg6)) := rfl
theorem gains_eq (c : Dev nD) : V m c main_v7 = broadcastInDim S1x2048 ![1] bcast_S2048_S1x2048_1 (m ((c : Thread nD τ).loc main_arg4)) := rfl

theorem paired_u (u v : FVec Ideal S1x16384x2048 .f32) (r : Fin 16384) (s : Fin 16) (l : Fin 128) :
    paired u v (ix4 r s 0 l) = u (ix3 0 r (⟨s.val * 128 + l.val, by omega⟩ : Fin 2048)) := by
  pointwise [paired]
theorem paired_v (u v : FVec Ideal S1x16384x2048 .f32) (r : Fin 16384) (s : Fin 16) (l : Fin 128) :
    paired u v (ix4 r s 1 l) = v (ix3 0 r (⟨s.val * 128 + l.val, by omega⟩ : Fin 2048)) := by
  pointwise [paired]

/-! ## The result -/

/-- Every token's output, from the arguments. -/
def result (idx : IVec S16384x128 32) (g : FVec Ideal S16384x128 .f32) (h : FVec Ideal S16384x2048 .bf16)
    (x : FVec Ideal S16384x2048 .f32) (gf : FVec Ideal S2048 .f32) (u v : FVec Ideal S1x16384x2048 .f32) : S16384x2048.Idx → EReal := fun y =>
  tokenOut (fun k e => u (ix3 0 (⟨(idx (ix2 (y 0 : Fin 16384) k)).toNat % 16384, by omega⟩ : Fin 16384) e))
    (fun k e => v (ix3 0 (⟨(idx (ix2 (y 0 : Fin 16384) k)).toNat % 16384, by omega⟩ : Fin 16384) e))
    (fun k => g (ix2 (y 0 : Fin 16384) k)) (fun e => h (ix2 (y 0 : Fin 16384) e)) (fun e => x (ix2 (y 0 : Fin 16384) e)) (fun e => gf (ix1 e)) (y 1)

/-- The result of the launch on core `c`. -/
def resultOf (c : Dev nD) : S16384x2048.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem row_lt (t : Fin cfg0.N) (p : Fin 16) : 16 * t.val + p.val < 16384 := by
  have h := t.isLt; have hN : cfg0.N = 1024 := N_0; omega

/-- Token `p` of point `t`, among all tokens. -/
def tok (t : Fin cfg0.N) (p : Fin 16) : Fin 16384 := ⟨16 * t.val + p.val, row_lt t p⟩

theorem words_at (c : Dev nD) (t : Fin cfg0.N) (p : Fin 16) (k : Fin 128) :
    words m c t (ix2 p k) = m ((c : Thread nD τ).loc main_arg0) (ix2 (tok t p) k) := by
  rw [← V_main_arg0 m c]; unfold words tok
  blk_simp [iblk]
  congr 1
  blk_ext [index0]
theorem gates_at (c : Dev nD) (t : Fin cfg0.N) (p : Fin 16) (k : Fin 128) :
    iblk m c 2 t (ix2 p k) = m ((c : Thread nD τ).loc main_arg1) (ix2 (tok t p) k) := by
  rw [← V_main_arg1 m c]; unfold tok
  blk_simp [iblk]
  congr 1
  blk_ext [index2]
theorem acts_at (c : Dev nD) (t : Fin cfg0.N) (p : Fin 16) (k : Fin 2048) :
    iblk m c 3 t (ix2 p k) = m ((c : Thread nD τ).loc main_arg2) (ix2 (tok t p) k) := by
  rw [← V_main_arg2 m c]; unfold tok
  blk_simp [iblk]
  congr 1
  blk_ext [index3]
theorem resid_at (c : Dev nD) (t : Fin cfg0.N) (p : Fin 16) (k : Fin 2048) :
    iblk m c 4 t (ix2 p k) = m ((c : Thread nD τ).loc main_arg3) (ix2 (tok t p) k) := by
  rw [← V_main_arg3 m c]; unfold tok
  blk_simp [iblk]
  congr 1
  blk_ext [index4]
theorem gain_at (c : Dev nD) (t : Fin cfg0.N) (k : Fin 2048) :
    iblk m c 5 t (ix2 0 k) = m ((c : Thread nD τ).loc main_arg4) (ix1 k) := by
  have e : iblk m c 5 t (ix2 0 k) = V m c main_v7 (ix2 0 k) := by
    blk_simp [iblk]
    congr 1
    blk_ext [index5]
  rw [e, gains_eq]
  pointwise []

theorem pair_split (e : Fin 2048) : (⟨e.val / 128 * 128 + e.val % 128, by omega⟩ : Fin 2048) = e := Fin.ext (by show e.val / 128 * 128 + e.val % 128 = e.val; omega)

theorem atPoint_eq (c : Dev nD) (t : Fin cfg0.N) (p : Fin 16) (d : Fin 2048) :
    atPoint m c t (ix2 p d) = resultOf m c (ix2 (tok t p) d) := by
  unfold atPoint resultOf result
  refine tokenOut_congr (fun k e => ?_) (fun k e => ?_) (fun k => ?_) (fun e => ?_) (fun e => ?_) (fun e => ?_) d
  · rw [table_eq, paired_u]
    refine congrArg₂ (fun (w : BitVec 32) (e : Fin 2048) => m ((c : Thread nD τ).loc main_arg5) (ix3 0 (⟨w.toNat % 16384, by omega⟩ : Fin 16384) e)) ?_ (pair_split e)
    exact words_at m c t p k
  · rw [table_eq, paired_v]
    refine congrArg₂ (fun (w : BitVec 32) (e : Fin 2048) => m ((c : Thread nD τ).loc main_arg6) (ix3 0 (⟨w.toNat % 16384, by omega⟩ : Fin 16384) e)) ?_ (pair_split e)
    exact words_at m c t p k
  · exact gates_at m c t p k
  · exact acts_at m c t p e
  · exact resid_at m c t p e
  · exact gain_at m c t e

theorem final (c : Dev nD) : (dats m 0 c).arrAt 6 (cfgs 0).N = resultOf m c := by
  refine (dats m 0 c).arrAt_eq_of_covers 6 (resultOf m c) (by decide +kernel) fun t hf y => ?_
  have e : ((cfg0.win 6).blk t).view.emb y = ix2 (tok t (y 0 : Fin 16)) (y 1 : Fin 2048) := by
    blk_ext [index6, tok]
  refine Eq.trans ?_ ((atPoint_eq m c t (y 0) (y 1)).trans (congrArg (resultOf m c) e.symm))
  show (dats m 0 c).after 6 t _ = _
  rw [after_6, out_eq]
  exact congrArg (atPoint m c t) (eq_ix2 (n0 := 16) (n1 := 2048) _)

/-- The program runs, to every token's output with the arguments as launched. -/
theorem run_result (hw : ∀ (c : Dev nD) y, (m ((c : Thread nD τ).loc main_arg0) y).toNat < 16384) :
    θ_run defs (onTc (τ := τ) (main (F := Ideal))) ⟨m, fun _ => 0, ρ⟩ (fun r => ∀ c : Dev nD,
      r.2.mem ((c.tc : Thread nD τ).loc main_v8) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).1 6).trans (final m c), h.2.1 c⟩)
    (θ_run_and (run_main m ρ hw) (frame m ρ hw))

end Cert.KernelIdeal.Hand
-- ==== Proof.RefValue.lean ====
/-
  The reference's result, read element by element.
-/
module

public import proofs.«01_k».proof.Proof.Gen.ReferenceIdeal.Run
public import proofs.«01_k».proof.Proof.IdealPure
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.KernelIdeal.Hand (tokenOut)

/-- The indices as the reference looks them up, -/
def looked (idx : IVec S16384x128 32) : IVec S16384x128x1 32 :=
  broadcastInDim S16384x128x1 ![0, 1] bcast_S16384x128_S16384x128x1_0_1
    (select (cmpi .slt idx (broadcastInDim S16384x128 ![] bcast_S_S16384x128 (constantI S_ 32 0#32)))
      (addi idx (broadcastInDim S16384x128 ![] bcast_S_S16384x128 (constantI S_ 32 16384#32))) idx)
/-- the rows of a table, -/
def rowsAt (idx : IVec S16384x128 32) (tab : FVec Ideal S1x16384x2048 .f32) : FVec Ideal S16384x128x2048 .f32 :=
  Host.gather gather_S16384x2048_S16384x128x1_S16384x128x2048_2_0_n_n_0_2_12048
    (shapeCast S16384x2048 tab shapeCasts_S1x16384x2048_S16384x2048) (looked idx)
/-- the products with the keys, -/
def prods (idx : IVec S16384x128 32) (h : FVec Ideal S16384x2048 .bf16) (u : FVec Ideal S1x16384x2048 .f32) : FVec Ideal S16384x128 .f32 :=
  Host.dotGeneral dot_S16384x128x2048_S16384x2048_S16384x128_2_1_1_n_0_0 none (rowsAt idx u) (extf .f32 h bitsLt_bf16_f32)
/-- the coefficients, -/
def coefs (g : FVec Ideal S16384x128 .f32) (a : FVec Ideal S16384x128 .f32) : FVec Ideal S16384x128 .f32 :=
  mulf g (mulf (mulf (broadcastInDim S16384x128 ![] bcast_S_S16384x128 (constant S_ .f32 0x3F000000#32)) a)
    (addf (broadcastInDim S16384x128 ![] bcast_S_S16384x128 (constant S_ .f32 0x3F800000#32))
      (Host.erf (mulf a (broadcastInDim S16384x128 ![] bcast_S_S16384x128 (constant S_ .f32 0x3F3504F3#32))))))
/-- the residual with the experts' contribution, -/
def summed (x : FVec Ideal S16384x2048 .f32) (c : FVec Ideal S16384x128 .f32) (v : FVec Ideal S16384x128x2048 .f32) : FVec Ideal S16384x2048 .f32 :=
  addf x (Host.dotGeneral dot_S16384x128_S16384x128x2048_S16384x2048_1_1_n_2_0_0 none c v)
/-- and its normalisation. -/
def normed (y : FVec Ideal S16384x2048 .f32) (gf : FVec Ideal S2048 .f32) : FVec Ideal S16384x2048 .f32 :=
  mulf (mulf y (broadcastInDim S16384x2048 ![0, 1] bcast_S16384x1_S16384x2048_0_1
    (Host.rsqrt (addf (Host.divf (broadcastInDim S16384x1 ![0] bcast_S16384_S16384x1_0
      (Host.reduceAdd (mulf y y) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 gf))

theorem res_eq (m : (ℓ : Loc nD τ sig) → Buf (Elt Ideal) ℓ) (c : Dev nD) : Cert.ReferenceIdeal.Value.res_main_v41 m c
    = normed (summed (m ((c.tc : Thread nD τ).loc main_arg3))
        (coefs (m ((c.tc : Thread nD τ).loc main_arg1)) (prods (m ((c.tc : Thread nD τ).loc main_arg0)) (m ((c.tc : Thread nD τ).loc main_arg2)) (m ((c.tc : Thread nD τ).loc main_arg5))))
        (rowsAt (m ((c.tc : Thread nD τ).loc main_arg0)) (m ((c.tc : Thread nD τ).loc main_arg6)))) (m ((c.tc : Thread nD τ).loc main_arg4)) := rfl

theorem toInt_of_lt (w : BitVec 32) (h : w.toNat < 16384) : w.toInt = w.toNat := by
  rw [BitVec.toInt_eq_toNat_cond, if_pos (by omega)]

theorem looked_at (idx : IVec S16384x128 32) (hw : ∀ y, (idx y).toNat < 16384) (t : Fin 16384) (k : Fin 128) : looked idx (ix3 t k 0) = idx (ix2 t k) := by
  pointwise [looked]
  have e : IntOp.cmpi CmpIPredicate.slt (idx (ix2 t k)) 0#32 = 0#1 := by
    have h := toInt_of_lt _ (hw (ix2 t k))
    have h' : (idx (ix2 t k)).slt 0#32 = false := by
      simp only [BitVec.slt, decide_eq_false_iff_not, h, BitVec.toInt_zero]; omega
    show BitVec.ofBool _ = _
    rw [h']; rfl
  rw [e]; rfl

theorem operand_at (I : IVec S16384x128x1 32) (t : Fin 16384) (k : Fin 128) (d : Fin 2048) :
    gather_S16384x2048_S16384x128x1_S16384x128x2048_2_0_n_n_0_2_12048.operandIdx (ix3 t k d) I
      = ix2 (⟨min (I (ix3 t k 0)).toInt.toNat 16383, by omega⟩ : Fin 16384) d := by
  have es : ∀ l, gather_S16384x2048_S16384x128x1_S16384x128x2048_2_0_n_n_0_2_12048.siIdx (ix3 t k d) l = (ix3 t k (0 : Fin 1) : S16384x128x1.Idx) := by
    intro l
    funext b
    fin_cases b
    · exact Fin.ext rfl
    · exact Fin.ext rfl
    · exact Subsingleton.elim (α := Fin 1) _ _
  funext a
  fin_cases a
  · refine Fin.ext ?_
    show GatherDims.start _ _ _ (0 : Fin S16384x2048.rank) + GatherDims.batchCoord _ _ (0 : Fin S16384x2048.rank) + GatherDims.offCoord _ _ (0 : Fin S16384x2048.rank) = _
    rw [GatherDims.batchCoord_eq_zero _ _ _ (by decide), GatherDims.offCoord_eq_zero _ _ _ (by decide)]
    unfold GatherDims.start
    rw [dif_pos (by decide), es]
    rfl
  · refine Fin.ext ?_
    show GatherDims.start _ _ _ (1 : Fin S16384x2048.rank) + GatherDims.batchCoord _ _ (1 : Fin S16384x2048.rank) + GatherDims.offCoord _ _ (1 : Fin S16384x2048.rank) = _
    rw [GatherDims.batchCoord_eq_zero _ _ _ (by decide)]
    unfold GatherDims.start
    rw [dif_neg (by decide)]
    simp only [Nat.zero_add]
    rfl

theorem rowsAt_at (idx : IVec S16384x128 32) (hw : ∀ y, (idx y).toNat < 16384) (tab : FVec Ideal S1x16384x2048 .f32) (t : Fin 16384) (k : Fin 128) (d : Fin 2048) :
    rowsAt idx tab (ix3 t k d) = tab (ix3 0 (⟨(idx (ix2 t k)).toNat % 16384, by omega⟩ : Fin 16384) d) := by
  unfold rowsAt Host.gather
  rw [operand_at]
  have e : (⟨min (looked idx (ix3 t k 0)).toInt.toNat 16383, by omega⟩ : Fin 16384) = ⟨(idx (ix2 t k)).toNat % 16384, by omega⟩ := by
    refine Fin.ext ?_
    show min (looked idx (ix3 t k 0)).toInt.toNat 16383 = _ % _
    have h := hw (ix2 t k)
    rw [looked_at idx hw, toInt_of_lt _ h, Int.toNat_natCast, Nat.mod_eq_of_lt h]
    omega
  rw [e]
  pointwise []

theorem res_at (idx : IVec S16384x128 32) (hw : ∀ y, (idx y).toNat < 16384) (g : FVec Ideal S16384x128 .f32) (h : FVec Ideal S16384x2048 .bf16)
    (x : FVec Ideal S16384x2048 .f32) (gf : FVec Ideal S2048 .f32) (u v : FVec Ideal S1x16384x2048 .f32) (t : Fin 16384) (d : Fin 2048) :
    normed (summed x (coefs g (prods idx h u)) (rowsAt idx v)) gf (ix2 t d)
      = tokenOut (fun k e => u (ix3 0 (⟨(idx (ix2 t k)).toNat % 16384, by omega⟩ : Fin 16384) e))
          (fun k e => v (ix3 0 (⟨(idx (ix2 t k)).toNat % 16384, by omega⟩ : Fin 16384) e))
          (fun k => g (ix2 t k)) (fun e => h (ix2 t e)) (fun e => x (ix2 t e)) (fun e => gf (ix1 e)) d := by
  pointwise [normed, summed, coefs, prods, rowsAt_at idx hw, tokenOut]
  have e : ∀ k : Fin 128, (∑ j : Fin 2048, u (ix3 0 (⟨(idx (ix2 t k)).toNat % 16384, by omega⟩ : Fin 16384) j) * h (ix2 t j))
      = ∑ j : Fin 2048, h (ix2 t j) * u (ix3 0 (⟨(idx (ix2 t k)).toNat % 16384, by omega⟩ : Fin 16384) j) :=
    fun k => Finset.sum_congr rfl fun j _ => mul_comm _ _
  simp only [e]
  rfl

end Cert.ReferenceIdeal.Hand
-- ==== Proof.Claims.lean ====
/-
  The claims, one by one: the three frames, the statements of the rules that read words as pairs of bf16 values, and the
  value claim.
-/
module

public import proofs.«01_k».proof.Defs
public import proofs.«01_k».proof.Proof.BitsFrame
public import proofs.«01_k».proof.Proof.IdealResult
public import proofs.«01_k».proof.Proof.RefValue
public import Idealize.ShloMosaic.Lib.Bf16PairInverse
public import Idealize.ShloMosaic.Lib.Bf16Pair
public import Idealize.ShloMosaic.Lib.Quiescent
public import Idealize.ShloMosaic.Lib.StableHlo.Predicate

@[expose] public section

noncomputable section

open Idealize.ShloMosaic Idealize.SL.Sem

namespace Cert.Pre_experts_exist

theorem facts : Facts where
  bcast_S_S16384x128 := Cert.ReferenceIdeal.Gen.facts.toFacts₀.bcast_S_S16384x128

attribute [local instance] facts

/-- Two conditions hold together where the conjunction of their bits is one. -/
theorem both_of_andi (p q : Bool) (h : IntOp.andi (BitVec.ofBool p) (BitVec.ofBool q) = 1#1) : p = true ∧ q = true := by
  cases p <;> cases q <;> revert h <;> decide

/-- Where the predicate holds, every index word names one of the 16384 experts. -/
theorem word_lt {F : FTy → Type} [FloatOps F] {a0 a1 a2 a3 a4 a5 a6}
    (h : fn (F := F) a0 a1 a2 a3 a4 a5 a6 = fun _ => 1#1) (y : S16384x128.Idx) : (a0 y).toNat < 16384 := by
  have e := congrFun h y
  simp only [fn, andi, cmpi, broadcastInDim, constantI, IntOp.cmpi] at e
  obtain ⟨hge, hlt⟩ := both_of_andi _ _ e
  simp only [BitVec.sle, BitVec.slt, decide_eq_true_eq, BitVec.toInt, BitVec.toNat_ofNat] at hge hlt
  omega

end Cert.Pre_experts_exist

namespace Cert.Proof

attribute [local instance] Cert.Pre_experts_exist.facts

theorem frame_p : Cert.quiescent_Kernel := fun m ρ h =>
  Cert.Kernel.Hand.frame m ρ fun c y => Cert.Pre_experts_exist.word_lt (h c) y

theorem frame_pi : Cert.quiescent_KernelIdeal := fun m ρ h =>
  Cert.KernelIdeal.Hand.frame m ρ fun c y => Cert.Pre_experts_exist.word_lt (h c) y

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  open Cert.KernelIdeal IdealRules.bf16_pair in
  ⟨bufferStatement S128x16x8x2x128 S128x16x8x1x128, statement S16x2x128 S16x1x128, statement S128x1x8x2x128 S128x1x8x1x128,
    statement S2048x2048 S1024x2048⟩

theorem algebraic : Cert.algebraic_KernelIdeal_ReferenceIdeal := by
  intro m g m' g' h ha
  have hw : ∀ (c : Dev Cert.KernelIdeal.nD) y, (m ((c.tc : Thread Cert.KernelIdeal.nD Cert.KernelIdeal.τ).loc Cert.KernelIdeal.main_arg0) y).toNat < 16384 :=
    fun c y => Cert.Pre_experts_exist.word_lt (h c) y
  refine ⟨fun c => Cert.KernelIdeal.Hand.resultOf m c, ?_, ?_⟩
  · refine (θ_run _ _ _).mono (fun r hr c => ?_) (Cert.KernelIdeal.Hand.run_result m g hw)
    exact hr c
  · refine (θ_run _ _ _).mono (fun r hr c => ⟨?_, (hr c).2⟩) (Cert.ReferenceIdeal.Value.run (F := Ideal) m' g')
    obtain ⟨h0, h1, h2, h3, h4, h5, h6⟩ := ha c
    refine (hr c).1.trans ((Cert.ReferenceIdeal.Hand.res_eq m' c).trans ?_)
    rw [h0, h1, h2, h3, h4, h5, h6]
    have hw' := hw c
    funext y
    refine (congrArg _ (eq_ix2 (n0 := 16384) (n1 := 2048) y)).trans ?_
    exact Cert.ReferenceIdeal.Hand.res_at _ hw' _ _ _ _ _ _ (y 0) (y 1)

end Cert.Proof

end
-- ==== Proof.InprojValue.lean ====
/-
  The input projection of the normed rows: the launch keeps a block's normed rows while it goes through the columns, and
  what it leaves in its result array is the reference's own term.
-/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Reference2Ideal.Hand

open Cert.Reference2Ideal Cert.Reference2Ideal.Gen

/-- Rows divided by the root of their mean square, times the gains. -/
def normed (x : FVec Ideal S8x2048x2048 .f32) (g : FVec Ideal S1x2048 .f32) : FVec Ideal S16384x2048 .f32 :=
  shapeCast S16384x2048 (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048)))) shapeCasts_S8x2048x2048_S16384x2048

/-- Rows projected. -/
def projected (n : FVec Ideal S16384x2048 .f32) (w : FVec Ideal S1x2048x7568 .f32) : FVec Ideal S16384x7568 .f32 :=
  Host.dotGeneral dot_S16384x2048_S2048x7568_S16384x7568_1_0_0_1_n_n none n (shapeCast _ w shapeCasts_S1x2048x7568_S2048x7568)

/-- The pieces of projected rows in their new order. -/
def ordered (d : FVec Ideal S16384x7568 .f32) : FVec Ideal S16384x7680 .f32 :=
  concatenate S16384x7680 1
    [⟨S16384x4096, (extractStridedSlice S16384x4096 ![0, 3472] d slices_S16384x7568_S16384x4096_0_3472)⟩,
     ⟨S16384x1024, (extractStridedSlice S16384x1024 ![0, 832] d slices_S16384x7568_S16384x1024_0_832)⟩,
     ⟨S16384x1024, (extractStridedSlice S16384x1024 ![0, 2368] d slices_S16384x7568_S16384x1024_0_2368)⟩,
     ⟨S16384x512, (extractStridedSlice S16384x512 ![0, 0] d slices_S16384x7568_S16384x512_0_0)⟩,
     ⟨S16384x256, (extractStridedSlice S16384x256 ![0, 512] d slices_S16384x7568_S16384x256_0_512)⟩,
     ⟨S16384x256, (extractStridedSlice S16384x256 ![0, 1856] d slices_S16384x7568_S16384x256_0_1856)⟩,
     ⟨S16384x256, (extractStridedSlice S16384x256 ![0, 2112] d slices_S16384x7568_S16384x256_0_2112)⟩,
     ⟨S16384x64, (extractStridedSlice S16384x64 ![0, 768] d slices_S16384x7568_S16384x64_0_768)⟩,
     ⟨S16384x64, (broadcastInDim S16384x64 ![] bcast_S_S16384x64 (constant S_ .f32 0x00000000#32))⟩,
     ⟨S16384x64, (extractStridedSlice S16384x64 ![0, 3392] d slices_S16384x7568_S16384x64_0_3392)⟩,
     ⟨S16384x16, (extractStridedSlice S16384x16 ![0, 3456] d slices_S16384x7568_S16384x16_0_3456)⟩,
     ⟨S16384x48, (broadcastInDim S16384x48 ![] bcast_S_S16384x48 (constant S_ .f32 0x00000000#32))⟩]
    concatenates_S16384x4096_S16384x1024_S16384x1024_S16384x512_S16384x256_S16384x256_S16384x256_S16384x64_S16384x64_S16384x64_S16384x16_S16384x48_S16384x7680_d1

theorem res_eq (m : (ℓ : Loc nD τ sig) → Buf (Elt Ideal) ℓ) (c : Dev nD) : Value.res_main_v29 m c =
    ordered (projected (normed (m ((c.tc : Thread nD τ).loc main_arg0)) (m ((c.tc : Thread nD τ).loc main_arg1))) (m ((c.tc : Thread nD τ).loc main_arg2))) := by
  unfold Value.res_main_v29 ordered projected normed
  rfl

end Cert.Reference2Ideal.Hand

namespace Cert.Kernel2Ideal.Hand

open Cert.Kernel2Ideal Cert.Kernel2Ideal.Gen Cert.Reference2Ideal.Hand

variable (m : (ℓ : Loc nD τ sig) → Buf (Elt Ideal) ℓ) (ρ : Dev nD → PrngReg)

theorem idx : ∀ t : Fin cfg0.N, win0_0.index t = ![t.val / 4, 0] ∧ win0_1.index t = ![0, 0] ∧ win0_2.index t = ![0, t.val % 4] ∧ win0_3.index t = ![t.val / 4, t.val % 4] :=
  (by decide +kernel : ∀ t : Fin grid0.N, _)

/-! ## The weight's columns in their new order -/

/-- The pieces of the weight's columns in their new order. -/
def columns (w : FVec Ideal S2048x7568 .f32) : FVec Ideal S2048x7680 .f32 :=
  concatenate S2048x7680 1
    [⟨S2048x4096, (extractStridedSlice S2048x4096 ![0, 3472] w slices_S2048x7568_S2048x4096_0_3472)⟩,
     ⟨S2048x1024, (extractStridedSlice S2048x1024 ![0, 832] w slices_S2048x7568_S2048x1024_0_832)⟩,
     ⟨S2048x1024, (extractStridedSlice S2048x1024 ![0, 2368] w slices_S2048x7568_S2048x1024_0_2368)⟩,
     ⟨S2048x512, (extractStridedSlice S2048x512 ![0, 0] w slices_S2048x7568_S2048x512_0_0)⟩,
     ⟨S2048x256, (extractStridedSlice S2048x256 ![0, 512] w slices_S2048x7568_S2048x256_0_512)⟩,
     ⟨S2048x256, (extractStridedSlice S2048x256 ![0, 1856] w slices_S2048x7568_S2048x256_0_1856)⟩,
     ⟨S2048x256, (extractStridedSlice S2048x256 ![0, 2112] w slices_S2048x7568_S2048x256_0_2112)⟩,
     ⟨S2048x64, (extractStridedSlice S2048x64 ![0, 768] w slices_S2048x7568_S2048x64_0_768)⟩,
     ⟨S2048x64, (broadcastInDim S2048x64 ![] bcast_S_S2048x64 (constant S_ .f32 0x00000000#32))⟩,
     ⟨S2048x64, (extractStridedSlice S2048x64 ![0, 3392] w slices_S2048x7568_S2048x64_0_3392)⟩,
     ⟨S2048x16, (extractStridedSlice S2048x16 ![0, 3456] w slices_S2048x7568_S2048x16_0_3456)⟩,
     ⟨S2048x48, (broadcastInDim S2048x48 ![] bcast_S_S2048x48 (constant S_ .f32 0x00000000#32))⟩]
    concatenates_S2048x4096_S2048x1024_S2048x1024_S2048x512_S2048x256_S2048x256_S2048x256_S2048x64_S2048x64_S2048x64_S2048x16_S2048x48_S2048x7680_d1

theorem weight_eq (c : Dev nD) : V m c main_v15 = truncf .bf16 (columns (shapeCast _ (m ((c : Thread nD τ).loc main_arg2)) shapeCasts_S1x2048x7568_S2048x7568)) bitsLt_bf16_f32 := rfl

/-- A sum of products with a choice that doesn't depend on the place is the choice of the sums. -/
theorem sum_dite {n : ℕ} (P : Prop) [Decidable P] (f : Fin n → EReal) (g : P → Fin n → EReal) (h : ¬P → Fin n → EReal) :
    (∑ k : Fin n, f k * if q : P then g q k else h q k) = if q : P then ∑ k : Fin n, f k * g q k else ∑ k : Fin n, f k * h q k := by
  by_cases q : P <;> simp only [q, ↓reduceDIte]

/-- Projecting with the reordered columns is reordering the projection. -/
theorem ordered_at (n : FVec Ideal S16384x2048 .f32) (w : FVec Ideal S1x2048x7568 .f32) (r : Fin 16384) (j : Fin 7680) :
    ordered (projected n w) (ix2 r j)
      = ∑ k : Fin 2048, n (ix2 r k) * columns (shapeCast _ w shapeCasts_S1x2048x7568_S2048x7568) (ix2 k j) := by
  pointwise [ordered, projected, columns]
  simp only [sum_dite, mul_zero, Finset.sum_const_zero]

theorem row_lt (t : Fin cfg0.N) (p : Fin 512) : 512 * (t.val / 4) + p.val < 16384 := by
  have h := t.isLt; have hN : cfg0.N = 128 := N_0; omega

/-- Row `p` of point `t`, among all rows. -/
def row (t : Fin cfg0.N) (p : Fin 512) : Fin 16384 := ⟨512 * (t.val / 4) + p.val, row_lt t p⟩

/-- Column `e` of point `t`, among all columns. -/
def col (t : Fin cfg0.N) (e : Fin 1920) : Fin 7680 := ⟨1920 * (t.val % 4) + e.val, by omega⟩

/-- The normed rows on core `c`. -/
def rows (c : Dev nD) : FVec Ideal S16384x2048 .f32 := normed (m ((c : Thread nD τ).loc main_arg0)) (m ((c : Thread nD τ).loc main_arg1))

/-- The result on core `c`. -/
def out3 (c : Dev nD) : FVec Ideal S16384x7680 .f32 := ordered (projected (rows m c) (m ((c : Thread nD τ).loc main_arg2)))

/-! ## One point -/

theorem pay1_at (c : Dev nD) (t : Fin cfg0.N) (p : Fin 512) (k : Fin 2048) :
    k0_pay1 (F := Ideal) (iblk m c 0 t) (iblk m c 1 t) (ix2 p k) = rows m c (ix2 (row t p) k) := by
  pointwise [k0_pay1, rows, normed]
  blk_point [iblk, V, idx t, row]

theorem weight_at (c : Dev nD) (t : Fin cfg0.N) (k : Fin 2048) (e : Fin 1920) :
    iblk m c 2 t (ix2 k e) = columns (shapeCast S2048x7568 (m ((c : Thread nD τ).loc main_arg2)) shapeCasts_S1x2048x7568_S2048x7568) (ix2 k (col t e)) := by
  have e : iblk m c 2 t (ix2 k e) = V m c main_v15 (ix2 k (col t e)) := by
    blk_simp [iblk]
    congr 1
    blk_ext [idx t, col]
  rw [e, weight_eq]
  rfl

theorem pay2_at (c : Dev nD) (t : Fin cfg0.N) (h : FVec Ideal S512x2048 .bf16) (hh : ∀ p k, h (ix2 p k) = rows m c (ix2 (row t p) k))
    (p : Fin 512) (e : Fin 1920) : k0_pay2 (F := Ideal) h (iblk m c 2 t) (ix2 p e) = out3 m c (ix2 (row t p) (col t e)) := by
  refine Eq.trans ?_ (ordered_at _ _ _ _).symm
  pointwise [k0_pay2]
  simp only [hh, weight_at]

/-- A point that isn't a block's first keeps what the point before left. -/
theorem kept_step (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]; unfold sout0_B_0; rfl

theorem kept_first (c : Dev nD) (t : Fin cfg0.N) (h0 : t.val % 4 = 0) (p : Fin 512) (k : Fin 2048) :
    (outsAt0 m c t.val t.isLt).2 (ix2 p k) = rows m c (ix2 (row t p) k) := by
  rw [outsAt0_A m c t h0]; frame_out
  exact pay1_at m c t p k

theorem row_pred (t : Fin cfg0.N) (h0 : ¬t.val % 4 = 0) (h : t.val - 1 < cfg0.N) (p : Fin 512) : row ⟨t.val - 1, h⟩ p = row t p := by
  refine Fin.ext ?_
  show 512 * ((t.val - 1) / 4) + p.val = 512 * (t.val / 4) + p.val
  omega

/-- The kept rows, at every point. -/
theorem kept (c : Dev nD) : ∀ (n : ℕ) (hn : n < cfg0.N) (p : Fin 512) (k : Fin 2048),
    (outsAt0 m c n hn).2 (ix2 p k) = rows m c (ix2 (row ⟨n, hn⟩ p) k) := by
  intro n
  induction n with
  | zero => intro hn p k; exact kept_first m c ⟨0, hn⟩ rfl p k
  | succ n ih =>
    intro hn p k
    by_cases h0 : (n + 1) % 4 = 0
    · exact kept_first m c ⟨n + 1, hn⟩ h0 p k
    · exact (congrFun (kept_step m c ⟨n + 1, hn⟩ h0) (ix2 p k)).trans ((ih (Nat.lt_of_succ_lt hn) p k).trans
        (congrArg (fun q => rows m c (ix2 q k)) (row_pred ⟨n + 1, hn⟩ h0 (Nat.lt_of_succ_lt hn) p)))

theorem left_at (c : Dev nD) (t : Fin cfg0.N) (p : Fin 512) (e : Fin 1920) :
    (outsAt0 m c t.val t.isLt).1 (ix2 p e) = out3 m c (ix2 (row t p) (col t e)) := by
  by_cases h0 : t.val % 4 = 0
  · rw [outsAt0_A m c t h0]; frame_out
    exact pay2_at m c t _ (pay1_at m c t) p e
  · have hk : ∀ p k, (outsAt0 m c (t.val - 1) (Nat.lt_of_le_of_lt (Nat.sub_le _ _) t.isLt)).2 (ix2 p k) = rows m c (ix2 (row t p) k) := by
      intro p k
      rw [kept m c, row_pred t h0]
    rw [outsAt0_B m c t h0]; frame_out
    rw [read_unread_whole]
    exact pay2_at m c t _ hk p e

theorem final (c : Dev nD) : (dats m 0 c).arrAt 3 (cfgs 0).N = out3 m c := by
  refine (dats m 0 c).arrAt_eq_of_covers 3 _ (by decide +kernel) fun t _ y => ?_
  have e : ((cfg0.win 3).blk t).view.emb y = ix2 (row t (y 0 : Fin 512)) (col t (y 1 : Fin 1920)) := by blk_ext [idx t, row, col]
  rw [e]
  blk_simp
  rw [after0_3]
  exact (congrArg _ (eq_ix2 (n0 := 512) (n1 := 1920) y)).trans (left_at m c t (y 0) (y 1))

end Cert.Kernel2Ideal.Hand

end
-- ==== Proof.MergeValue.lean ====
/-
  The two attention outputs projected up, gated and added: what the launch leaves in its result array is the reference's
  own term.
-/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference3Ideal.Hand

open Cert.Reference3Ideal Cert.Reference3Ideal.Gen

/-- A gate's activation. -/
def gate (z : FVec Ideal S16384x2048 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf z)))

/-- Rows projected up. -/
def up (a : FVec Ideal S16384x1024 .bf16) (w : FVec Ideal S1x1024x2048 .f32) : FVec Ideal S16384x2048 .f32 :=
  Host.dotGeneral dot_S16384x1024_S1024x2048_S16384x2048_1_0_0_1_n_n none (extf .f32 a bitsLt_bf16_f32) (shapeCast _ w shapeCasts_S1x1024x2048_S1024x2048)

/-- Both, gated and added. -/
def merged (a b : FVec Ideal S16384x1024 .bf16) (z : FVec Ideal S16384x7680 .f32) (u v : FVec Ideal S1x1024x2048 .f32) : FVec Ideal S16384x2048 .bf16 :=
  truncf .bf16 (addf (mulf (gate (extractStridedSlice S16384x2048 ![0, 0] z slices_S16384x7680_S16384x2048_0_0)) (up a u)) (mulf (gate (extractStridedSlice S16384x2048 ![0, 2048] z slices_S16384x7680_S16384x2048_0_2048)) (up b v))) bitsLt_bf16_f32

end Cert.Reference3Ideal.Hand

namespace Cert.Kernel3Ideal.Hand

open Cert.Kernel3Ideal Cert.Kernel3Ideal.Gen Cert.Reference3Ideal.Hand

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧ win0_3.index t = ![t.val, 1]
    ∧ win0_4.index t = ![0, 0] ∧ win0_5.index t = ![0, 0] ∧ win0_6.index t = ![t.val, 0] :=
  (by decide +kernel : ∀ t : Fin grid0.N, _)

theorem row_lt (t : Fin cfg0.N) (p : Fin 256) : 256 * t.val + p.val < 16384 := by
  have h := t.isLt; have hN : cfg0.N = 64 := N_0; omega

/-- Row `p` of point `t`, among all rows. -/
def row (t : Fin cfg0.N) (p : Fin 256) : Fin 16384 := ⟨256 * t.val + p.val, row_lt t p⟩

/-- The result on core `c`. -/
def out6 (c : Dev nD) : FVec Ideal S16384x2048 .bf16 :=
  merged (m ((c : Thread nD τ).loc main_arg0)) (m ((c : Thread nD τ).loc main_arg1)) (m ((c : Thread nD τ).loc main_arg2))
    (m ((c : Thread nD τ).loc main_arg3)) (m ((c : Thread nD τ).loc main_arg4))

theorem left_gate (c : Dev nD) (t : Fin cfg0.N) (p : Fin 256) (e : Fin 2048) :
    X0_2 m c t (ix2 p e) = m ((c : Thread nD τ).loc main_arg2) (ix2 (row t p) (⟨e.val, by omega⟩ : Fin 7680)) := by
  unfold X0_2 Pipeline.Window.fill
  rw [dif_pos (moved0_2 t _), ← V_main_arg2 m c]
  blk_simp [iblk]
  congr 1
  blk_ext [idx t, row]

theorem right_gate (c : Dev nD) (t : Fin cfg0.N) (p : Fin 256) (e : Fin 2048) :
    X0_3 m c t (ix2 p e) = m ((c : Thread nD τ).loc main_arg2) (ix2 (row t p) (⟨2048 + e.val, by omega⟩ : Fin 7680)) := by
  unfold X0_3 Pipeline.Window.fill
  rw [dif_pos (moved0_3 t _), ← V_main_arg2 m c]
  blk_simp [iblk]
  congr 1
  blk_ext [idx t, row]

theorem pay_at (c : Dev nD) (t : Fin cfg0.N) (p : Fin 256) (e : Fin 2048) :
    k0_pay1 (F := Ideal) (iblk m c 0 t) (iblk m c 4 t) (iblk m c 1 t) (iblk m c 5 t) (X0_2 m c t) (X0_3 m c t) (ix2 p e)
      = out6 m c (ix2 (row t p) e) := by
  pointwise [k0_pay1, out6, merged, gate, up]
  simp only [left_gate, right_gate, Ideal.logistic]
  blk_point [iblk, V, idx t, row]

theorem final (c : Dev nD) : (dats m 0 c).arrAt 6 (cfgs 0).N = out6 m c := by
  refine (dats m 0 c).arrAt_eq_of_covers 6 _ (by decide +kernel) fun t _ y => ?_
  have e : ((cfg0.win 6).blk t).view.emb y = ix2 (row t (y 0 : Fin 256)) (y 1 : Fin 2048) := by blk_ext [idx t, row]
  rw [e]
  blk_simp
  rw [after0_6]; unfold outsAt0; frame_out
  exact (congrArg _ (eq_ix2 (n0 := 256) (n1 := 2048) y)).trans (pay_at m c t (y 0) (y 1))

end Cert.Kernel3Ideal.Hand

end
-- ==== Proof.OutprojValue.lean ====
/-
  The output projection with the residual, the normed rows and the query: what the launch leaves in its three result
  arrays is the reference's own three terms.
-/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference4Ideal.Hand

open Cert.Reference4Ideal Cert.Reference4Ideal.Gen

/-- The residual and the projected rows added. -/
def resid (x : FVec Ideal S8x2048x2048 .f32) (a : FVec Ideal S16384x2048 .bf16) (w : FVec Ideal S1x2048x2048 .f32) : FVec Ideal S16384x2048 .f32 :=
  addf (shapeCast _ x shapeCasts_S8x2048x2048_S16384x2048) (Host.dotGeneral dot_S16384x2048_S2048x2048_S16384x2048_1_0_0_1_n_n none (extf .f32 a bitsLt_bf16_f32) (shapeCast _ w shapeCasts_S1x2048x2048_S2048x2048))

/-- Rows divided by the root of their mean square, times the gains. -/
def normed (r : FVec Ideal S16384x2048 .f32) (g : FVec Ideal S1x2048 .f32) : FVec Ideal S16384x2048 .f32 :=
  mulf (mulf r (broadcastInDim S16384x2048 ![0, 1] bcast_S16384x1_S16384x2048_0_1 (Host.rsqrt (addf (Host.divf (broadcastInDim S16384x1 ![0] bcast_S16384_S16384x1_0 (Host.reduceAdd (mulf r r) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ g shapeCasts_S1x2048_S2048)))

/-- The query of rows. -/
def query (n : FVec Ideal S16384x2048 .f32) (w : FVec Ideal S1x2048x8x128 .f32) : FVec Ideal S16384x1024 .bf16 :=
  truncf .bf16 (Host.dotGeneral dot_S16384x2048_S2048x1024_S16384x1024_1_0_0_1_n_n none n (shapeCast _ (shapeCast _ w shapeCasts_S1x2048x8x128_S2048x8x128) shapeCasts_S2048x8x128_S2048x1024)) bitsLt_bf16_f32

end Cert.Reference4Ideal.Hand

namespace Cert.Kernel4Ideal.Hand

open Cert.Kernel4Ideal Cert.Kernel4Ideal.Gen Cert.Reference4Ideal.Hand

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem row_lt (t : Fin cfg0.N) (p : Fin 256) : 256 * t.val + p.val < 16384 := by
  have h := t.isLt; have hN : cfg0.N = 64 := N_0; omega

/-- Row `p` of point `t`, among all rows. -/
def row (t : Fin cfg0.N) (p : Fin 256) : Fin 16384 := ⟨256 * t.val + p.val, row_lt t p⟩

/-- The first result on core `c`. -/
def out5 (c : Dev nD) : FVec Ideal S16384x2048 .f32 :=
  resid (m ((c : Thread nD τ).loc main_arg0)) (m ((c : Thread nD τ).loc main_arg1)) (m ((c : Thread nD τ).loc main_arg2))
/-- The second result on core `c`, before its change of format. -/
def out6 (c : Dev nD) : FVec Ideal S16384x2048 .f32 := normed (out5 m c) (m ((c : Thread nD τ).loc main_arg3))
/-- The third result on core `c`. -/
def out7 (c : Dev nD) : FVec Ideal S16384x1024 .bf16 := query (out6 m c) (m ((c : Thread nD τ).loc main_arg4))

/-! ## One point's rows -/

theorem pay1_at (c : Dev nD) (t : Fin cfg0.N) (p : Fin 256) (e : Fin 2048) :
    k0_pay1 (F := Ideal) (iblk m c 0 t) (iblk m c 1 t) (iblk m c 2 t) (ix2 p e) = out5 m c (ix2 (row t p) e) := by
  pointwise [k0_pay1, out5, resid]
  blk_point [iblk, V, idx t, row]

theorem pay2_at (c : Dev nD) (t : Fin cfg0.N) (p : Fin 256) (e : Fin 2048) :
    k0_pay2 (F := Ideal) (iblk m c 0 t) (iblk m c 1 t) (iblk m c 2 t) (iblk m c 3 t) (ix2 p e) = out6 m c (ix2 (row t p) e) := by
  pointwise [k0_pay2, out6, normed]
  simp only [pay1_at m c t]
  blk_point [iblk, V, idx t, row]

theorem pay3_at (c : Dev nD) (t : Fin cfg0.N) (p : Fin 256) (e : Fin 1024) :
    k0_pay3 (F := Ideal) (iblk m c 0 t) (iblk m c 1 t) (iblk m c 2 t) (iblk m c 3 t) (iblk m c 4 t) (ix2 p e) = out7 m c (ix2 (row t p) e) := by
  pointwise [k0_pay3, out7, query]
  simp only [pay2_at m c t]
  blk_point [iblk, V, idx t, row]

/-! ## The result arrays -/

theorem final5 (c : Dev nD) : (dats m 0 c).arrAt 5 (cfgs 0).N = out5 m c := by
  refine (dats m 0 c).arrAt_eq_of_covers 5 _ (by decide +kernel) fun t _ y => ?_
  have e : ((cfg0.win 5).blk t).view.emb y = ix2 (row t (y 0 : Fin 256)) (y 1 : Fin 2048) := by blk_ext [idx t, row]
  rw [e]
  blk_simp
  rw [after0_5]; frame_out
  exact (congrArg _ (eq_ix2 (n0 := 256) (n1 := 2048) y)).trans (pay1_at m c t (y 0) (y 1))

theorem final6 (c : Dev nD) : (dats m 0 c).arrAt 6 (cfgs 0).N = truncf .bf16 (out6 m c) bitsLt_bf16_f32 := by
  refine (dats m 0 c).arrAt_eq_of_covers 6 _ (by decide +kernel) fun t _ y => ?_
  have e : ((cfg0.win 6).blk t).view.emb y = ix2 (row t (y 0 : Fin 256)) (y 1 : Fin 2048) := by blk_ext [idx t, row]
  rw [e]
  blk_simp
  rw [after0_6]; frame_out
  exact (congrArg _ (eq_ix2 (n0 := 256) (n1 := 2048) y)).trans (pay2_at m c t (y 0) (y 1))

theorem final7 (c : Dev nD) : (dats m 0 c).arrAt 7 (cfgs 0).N = out7 m c := by
  refine (dats m 0 c).arrAt_eq_of_covers 7 _ (by decide +kernel) fun t _ y => ?_
  have e : ((cfg0.win 7).blk t).view.emb y = ix2 (row t (y 0 : Fin 256)) (y 1 : Fin 1024) := by blk_ext [idx t, row]
  rw [e]
  blk_simp
  rw [after0_7]; frame_out
  exact (congrArg _ (eq_ix2 (n0 := 256) (n1 := 1024) y)).trans (pay3_at m c t (y 0) (y 1))

end Cert.Kernel4Ideal.Hand

end
-- ==== Proof.DenseClaims.lean ====
/-
  The claims of the three dense launches: the input projection, the merge of the attention outputs and the output
  projection.
-/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.InprojValue
public import proofs.«01_k».proof.Proof.MergeValue
public import proofs.«01_k».proof.Proof.OutprojValue
public import Idealize.ShloMosaic.Lib.Quiescent

@[expose] public section

noncomputable section

open Idealize.ShloMosaic Idealize.SL.Sem

namespace Cert.Proof

/-! ## The input projection -/

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m g m' g' _ ha
  refine ⟨fun c => Cert.Kernel2Ideal.Hand.out3 m c, ?_, ?_⟩
  · exact (θ_run _ _ _).mono (fun r hr c => ⟨((hr.1 c).1 3).trans (Cert.Kernel2Ideal.Hand.final m c), hr.2.1 c⟩)
      (θ_run_and (Cert.Kernel2Ideal.Gen.run_main m g) (Cert.Kernel2Ideal.Gen.frame m g))
  · refine (θ_run _ _ _).mono (fun r hr c => ⟨?_, (hr c).2⟩) (Cert.Reference2Ideal.Value.run (F := Ideal) m' g')
    obtain ⟨h0, h1, h2⟩ := ha c
    refine (hr c).1.trans ((Cert.Reference2Ideal.Hand.res_eq m' c).trans ?_)
    rw [h0, h1, h2]
    rfl

/-! ## The merge -/

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m g m' g' _ ha
  refine ⟨fun c => Cert.Kernel3Ideal.Hand.out6 m c, ?_, ?_⟩
  · exact (θ_run _ _ _).mono (fun r hr c => ⟨((hr.1 c).1 6).trans (Cert.Kernel3Ideal.Hand.final m c), hr.2.1 c⟩)
      (θ_run_and (Cert.Kernel3Ideal.Gen.run_main m g) (Cert.Kernel3Ideal.Gen.frame m g))
  · refine (θ_run _ _ _).mono (fun r hr c => ⟨?_, (hr c).2⟩) (Cert.Reference3Ideal.Value.run (F := Ideal) m' g')
    obtain ⟨h0, h1, h2, h3, h4⟩ := ha c
    refine (hr c).1.trans ?_
    rw [h0, h1, h2, h3, h4]
    rfl

/-! ## The output projection -/

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem algebraic4 : Cert.algebraic_Kernel4Ideal_Reference4Ideal := by
  intro m g m' g' _ ha
  refine ⟨fun c => Cert.Kernel4Ideal.Hand.out5 m c, fun c => truncf .bf16 (Cert.Kernel4Ideal.Hand.out6 m c) Cert.Kernel4Ideal.Gen.bitsLt_bf16_f32,
    fun c => Cert.Kernel4Ideal.Hand.out7 m c, ?_, ?_⟩
  · exact (θ_run _ _ _).mono (fun r hr c => ⟨((hr.1 c).1 5).trans (Cert.Kernel4Ideal.Hand.final5 m c),
        ((hr.1 c).1 6).trans (Cert.Kernel4Ideal.Hand.final6 m c), ((hr.1 c).1 7).trans (Cert.Kernel4Ideal.Hand.final7 m c), hr.2.1 c⟩)
      (θ_run_and (Cert.Kernel4Ideal.Gen.run_main m g) (Cert.Kernel4Ideal.Gen.frame m g))
  · refine (θ_run _ _ _).mono (fun r hr c => ⟨?_, ?_, ?_, (hr c).2.2.2⟩) (Cert.Reference4Ideal.Value.run (F := Ideal) m' g')
    all_goals obtain ⟨h0, h1, h2, h3, h4⟩ := ha c
    · refine (hr c).1.trans ?_
      rw [h0, h1, h2]
      rfl
    · refine (hr c).2.1.trans ?_
      rw [h0, h1, h2, h3]
      rfl
    · refine (hr c).2.2.1.trans ?_
      rw [h0, h1, h2, h3, h4]
      rfl

end Cert.Proof

end
-- ==== Proof.AttnMath.lean ====
/-
  A softmax-weighted average over the extended reals: the keys whose score is −∞ may be left out, and the division by the
  sum of the weights may be done after the weighted sum.
-/
module

public import Idealize.ShloMosaic.Lib.Pipeline.ValueKit
public import Idealize.ShloMosaic.Lib.Pointwise

@[expose] public section

noncomputable section

open Idealize.ShloMosaic

namespace Cert.Attn

/-- The greatest of the scores. -/
abbrev top {n : ℕ} (s : Fin n → EReal) : EReal := Finset.univ.fold max ⊥ s

/-- Scores that are −∞ do not change the greatest. -/
theorem top_prefix {n N : ℕ} (h : n ≤ N) (s : Fin N → EReal) (ht : ∀ k, n ≤ k.val → s k = ⊥) :
    top (fun k : Fin n => s (Fin.castLE h k)) = top s := by
  apply le_antisymm
  · refine (Finset.fold_max_le _).mpr ⟨bot_le, fun k _ => (Finset.le_fold_max _).mpr (Or.inr ⟨Fin.castLE h k, Finset.mem_univ _, le_rfl⟩)⟩
  · refine (Finset.fold_max_le _).mpr ⟨bot_le, fun k _ => ?_⟩
    by_cases hk : k.val < n
    · exact (Finset.le_fold_max _).mpr (Or.inr ⟨⟨k.val, hk⟩, Finset.mem_univ _, le_rfl⟩)
    · rw [ht k (by omega)]; exact bot_le

/-- A sum whose terms vanish from `n` on. -/
theorem sum_prefix {n N : ℕ} (h : n ≤ N) (f : Fin N → EReal) (ht : ∀ k, n ≤ k.val → f k = 0) :
    ∑ k : Fin n, f (Fin.castLE h k) = ∑ k, f k := by
  refine Finset.sum_of_injOn (Fin.castLE h) (fun a _ b _ e => Fin.castLE_injective h e) (fun _ _ => Finset.mem_coe.mpr (Finset.mem_univ _))
    (fun k _ hk => ht k ?_) (fun _ _ => rfl)
  by_contra hn
  exact hk ⟨⟨k.val, by omega⟩, Finset.mem_coe.mpr (Finset.mem_univ _), rfl⟩

/-- A nonnegative real factor, taken into a sum. -/
theorem sum_mul_real {ι : Type} (A : Finset ι) (f : ι → EReal) (c : ℝ) (hc : 0 ≤ c) : (∑ k ∈ A, f k) * (c : EReal) = ∑ k ∈ A, f k * (c : EReal) := by
  classical
  induction A using Finset.induction_on with
  | empty => simp
  | insert a A ha ih =>
    rw [Finset.sum_insert ha, Finset.sum_insert ha, EReal.right_distrib_of_nonneg_of_ne_top (by exact_mod_cast hc) (EReal.coe_ne_top c), ih]

/-- A sum of reals is a real. -/
theorem sum_coe {ι : Type} (A : Finset ι) (f : ι → ℝ) : ∑ k ∈ A, (f k : EReal) = ((∑ k ∈ A, f k : ℝ) : EReal) := by
  classical
  induction A using Finset.induction_on with
  | empty => simp
  | insert a A ha ih => rw [Finset.sum_insert ha, Finset.sum_insert ha, ih, EReal.coe_add]

/-- The weights' sum is a positive real when the scores are reals or −∞ and not all −∞. -/
theorem weights_pos {N : ℕ} (s : Fin N → EReal) (hr : ∀ k, s k ≠ ⊤) (k0 : Fin N) (h0 : s k0 ≠ ⊥) :
    ∃ L : ℝ, 0 < L ∧ ∑ k, Ideal.exp (s k - top s) = (L : EReal) := by
  have hb : top s ≠ ⊥ := fun e => h0 (le_bot_iff.mp (e ▸ (Finset.le_fold_max _).mpr (Or.inr ⟨k0, Finset.mem_univ _, le_rfl⟩)))
  have hT : top s ≠ ⊤ := (ne_of_lt ((Finset.fold_max_lt _).mpr ⟨bot_lt_top, fun k _ => lt_top_iff_ne_top.mpr (hr k)⟩))
  obtain ⟨M, hM⟩ : ∃ M : ℝ, top s = (M : EReal) := ⟨(top s).toReal, (EReal.coe_toReal hT hb).symm⟩
  have hw : ∀ k, ∃ w : ℝ, 0 ≤ w ∧ Ideal.exp (s k - top s) = (w : EReal) ∧ (s k ≠ ⊥ → 0 < w) := by
    intro k
    by_cases hk : s k = ⊥
    · exact ⟨0, le_rfl, by rw [hk, hM]; rfl, fun h => absurd hk h⟩
    · obtain ⟨r, h⟩ : ∃ r : ℝ, s k = (r : EReal) := ⟨(s k).toReal, (EReal.coe_toReal (hr k) hk).symm⟩
      exact ⟨Real.exp (r - M), (Real.exp_pos _).le, by rw [h, hM, ← EReal.coe_sub]; rfl, fun _ => Real.exp_pos _⟩
  choose w hw0 hwe hwp using hw
  refine ⟨∑ k, w k, lt_of_lt_of_le (hwp k0 h0) (Finset.single_le_sum (fun k _ => hw0 k) (Finset.mem_univ k0)), ?_⟩
  rw [← sum_coe]
  exact Finset.sum_congr rfl fun k _ => hwe k

/-- The average over the first keys, divided at the end, is the average over all keys with divided weights. -/
theorem average {n N : ℕ} (h : n ≤ N) (s v : Fin N → EReal) (hr : ∀ k, s k ≠ ⊤) (k0 : Fin N) (h0 : s k0 ≠ ⊥) (ht : ∀ k, n ≤ k.val → s k = ⊥)
    (s' v' : Fin n → EReal) (hs : ∀ k, s' k = s (Fin.castLE h k)) (hv : ∀ k, v' k = v (Fin.castLE h k)) :
    Ideal.div (∑ k, Ideal.exp (s' k - top s') * v' k) (∑ k, Ideal.exp (s' k - top s'))
      = ∑ k, v k * Ideal.div (Ideal.exp (s k - top s)) (∑ k, Ideal.exp (s k - top s)) := by
  obtain rfl : s' = fun k => s (Fin.castLE h k) := funext hs
  obtain rfl : v' = fun k => v (Fin.castLE h k) := funext hv
  obtain ⟨L, hL, eL⟩ := weights_pos s hr k0 h0
  have hz : ∀ k : Fin N, n ≤ k.val → Ideal.exp (s k - top s) = 0 := by
    intro k hk
    rw [ht k hk, sub_eq_add_neg, EReal.bot_add]; rfl
  rw [top_prefix h s ht, sum_prefix h (fun k => Ideal.exp (s k - top s)) hz,
    sum_prefix h (fun k => Ideal.exp (s k - top s) * v k) (fun k hk => by rw [hz k hk, zero_mul]), eL, Ideal.div_coe hL.ne',
    sum_mul_real _ _ _ (by positivity)]
  refine Finset.sum_congr rfl fun k _ => ?_
  rw [Ideal.div_coe hL.ne', mul_comm (v k), mul_assoc, mul_assoc, mul_comm (v k)]

/-- A sum of products of reals is a real. -/
theorem dot_real {n : ℕ} (a b : Fin n → EReal) (ha : ∀ k, a k ≠ ⊤ ∧ a k ≠ ⊥) (hb : ∀ k, b k ≠ ⊤ ∧ b k ≠ ⊥) :
    ∃ r : ℝ, ∑ k, a k * b k = (r : EReal) := by
  refine ⟨∑ k, (a k).toReal * (b k).toReal, ?_⟩
  rw [← sum_coe]
  refine Finset.sum_congr rfl fun k _ => ?_
  rw [EReal.coe_mul, EReal.coe_toReal (ha k).1 (ha k).2, EReal.coe_toReal (hb k).1 (hb k).2]

end Cert.Attn

end
-- ==== Proof.AttnReference.lean ====
/-
  The reference's chunk-causal attention, read at an entry.
-/
module

public import proofs.«01_k».proof.Proof.Gen.Reference5Ideal.Run
public import proofs.«01_k».proof.Proof.AttnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference5Ideal.Hand

open Cert.Reference5Ideal Cert.Reference5Ideal.Gen

/-- Each position's chunk. -/
def chunks : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- Which key each query may see. -/
def allowed : IVec S2048x2048 1 :=
  cmpi .sle (broadcastInDim S2048x2048 ![0, 1] bcast_S1x2048_S2048x2048_0_1 (broadcastInDim S1x2048 ![1] bcast_S2048_S1x2048_1 chunks)) (broadcastInDim S2048x2048 ![0, 1] bcast_S2048x1_S2048x2048_0_1 (broadcastInDim S2048x1 ![0] bcast_S2048_S2048x1_0 chunks))

/-- The scores, before the mask. -/
def dots (q k : FVec Ideal S16384x2048 .bf16) : FVec Ideal S8x8x2048x2048 .f32 :=
  Host.divf (Host.dotGeneral dot_S8x2048x8x256_S8x2048x8x256_S8x8x2048x2048_3_3_1_1_02_02 none (shapeCast _ (extf .f32 q bitsLt_bf16_f32) shapeCasts_S16384x2048_S8x2048x8x256) (shapeCast _ (extf .f32 k bitsLt_bf16_f32) shapeCasts_S16384x2048_S8x2048x8x256)) (broadcastInDim S8x8x2048x2048 ![] bcast_S_S8x8x2048x2048 (Host.sqrt (constant S_ .f32 0x43400000#32)))

/-- The masked scores. -/
def scores (q k : FVec Ideal S16384x2048 .bf16) : FVec Ideal S8x8x2048x2048 .f32 :=
  select (broadcastInDim S8x8x2048x2048 ![0, 1, 2, 3] bcast_S1x1x2048x2048_S8x8x2048x2048_0_1_2_3 (broadcastInDim S1x1x2048x2048 ![2, 3] bcast_S2048x2048_S1x1x2048x2048_2_3 allowed)) (dots q k) (broadcastInDim S8x8x2048x2048 ![] bcast_S_S8x8x2048x2048 (id (constant S_ .f32 0xFF800000#32)))

/-- The exponentials. -/
def exps (s : FVec Ideal S8x8x2048x2048 .f32) : FVec Ideal S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduce FloatOps.maximumf s (constant S_ .f32 0xFF800000#32) reducesTo_S8x8x2048x2048_S8x8x2048_d3 h_S_))))

/-- Each row divided by its sum. -/
def divided (p : FVec Ideal S8x8x2048x2048 .f32) : FVec Ideal S8x8x2048x2048 .f32 :=
  Host.divf p (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd p (constant S_ .f32 0x00000000#32) reducesTo_S8x8x2048x2048_S8x8x2048_d3 h_S_)))

/-- The values averaged with given weights. -/
def mixed (w : FVec Ideal S8x8x2048x2048 .f32) (v : FVec Ideal S16384x1024 .bf16) : FVec Ideal S16384x1024 .bf16 :=
  truncf .bf16 (shapeCast _ (transpose S8x2048x8x128 [0, 3, 1, 2] (Host.dotGeneral dot_S8x2048x8x128_S8x8x2048x2048_S8x8x128x2048_1_3_3_2_02_01 none (shapeCast _ (extf .f32 v bitsLt_bf16_f32) shapeCasts_S16384x1024_S8x2048x8x128) w) transposes_S8x8x128x2048_S8x2048x8x128_0_3_1_2) shapeCasts_S8x2048x8x128_S16384x1024) bitsLt_bf16_f32

/-- The attention. -/
def attention (q k : FVec Ideal S16384x2048 .bf16) (v : FVec Ideal S16384x1024 .bf16) : FVec Ideal S16384x1024 .bf16 :=
  mixed (divided (exps (scores q k))) v

theorem res_eq (m : (ℓ : Loc nD τ sig) → Buf (Elt Ideal) ℓ) (c : Dev nD) :
    Value.res_out0 (F := Ideal) m c = attention (m ((c.tc : Thread nD τ).loc main_arg0)) (m ((c.tc : Thread nD τ).loc main_arg1)) (m ((c.tc : Thread nD τ).loc main_arg2)) := rfl

/-! ## The constants -/

theorem ofBits_192 : Ideal.ofBits .f32 0x43400000#32 = ((192 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-! ## The reference at an entry -/

theorem mixed_at (w : FVec Ideal S8x8x2048x2048 .f32) (v : FVec Ideal S16384x1024 .bf16) (r : Fin 16384) (e : Fin 1024) :
    mixed w v (ix2 r e) = ∑ x : Fin 2048, v (ix2 ⟨r.val / 2048 * 2048 + x.val, by omega⟩ e) * w (ix4 ⟨r.val / 2048, by omega⟩ ⟨e.val / 128, by omega⟩ ⟨r.val % 2048, by omega⟩ x) := by
  pointwise [mixed]

theorem divided_at (p : FVec Ideal S8x8x2048x2048 .f32) (b h : Fin 8) (i j : Fin 2048) :
    divided p (ix4 b h i j) = Ideal.div (p (ix4 b h i j)) (∑ x : Fin 2048, p (ix4 b h i x)) := by
  pointwise [divided]

theorem exps_at (p : FVec Ideal S8x8x2048x2048 .f32) (b h : Fin 8) (i j : Fin 2048) :
    exps p (ix4 b h i j) = Ideal.exp (p (ix4 b h i j) - Cert.Attn.top fun x => p (ix4 b h i x)) := by
  pointwise [exps]
  rw [ofBits_bot]

theorem chunks_at (i : Fin 2048) : chunks (ix1 i) = BitVec.ofNat 32 (i.val / 64) := by
  pointwise [chunks]
  revert i
  decide +kernel

theorem words_le : ∀ a b : Fin 32, IntOp.cmpi .sle (BitVec.ofNat 32 a.val) (BitVec.ofNat 32 b.val) = if a.val ≤ b.val then 1#1 else 0#1 := by
  decide +kernel

theorem allowed_at (i j : Fin 2048) : allowed (ix2 i j) = if j.val / 64 ≤ i.val / 64 then 1#1 else 0#1 := by
  have h : allowed (ix2 i j) = IntOp.cmpi .sle (chunks (ix1 j)) (chunks (ix1 i)) := by
    pointwise [allowed]
  rw [h, chunks_at, chunks_at]
  exact words_le ⟨j.val / 64, by omega⟩ ⟨i.val / 64, by omega⟩

/-- The product of a query and of a key of one head, over the root of the width. -/
def dotOf (q k : FVec Ideal S16384x2048 .bf16) (r r' : Fin 16384) (h : Fin 8) : EReal :=
  (∑ x : Fin 256, q (ix2 r ⟨h.val * 256 + x.val, by omega⟩) * k (ix2 r' ⟨h.val * 256 + x.val, by omega⟩)) * (((Real.sqrt 192)⁻¹ : ℝ) : EReal)

theorem dots_at (q k : FVec Ideal S16384x2048 .bf16) (b h : Fin 8) (i j : Fin 2048) :
    dots q k (ix4 b h i j) = dotOf q k ⟨b.val * 2048 + i.val, by omega⟩ ⟨b.val * 2048 + j.val, by omega⟩ h := by
  pointwise [dots]
  rw [ofBits_192, Ideal.sqrt_coe, if_neg (by norm_num), Ideal.div_coe (by positivity)]
  simp only [dotOf, one_div]

/-- The row of key `x` among those of the sequence of row `r`. -/
def keyRow (r : Fin 16384) (x : Fin 2048) : Fin 16384 := ⟨r.val / 2048 * 2048 + x.val, by omega⟩

/-- The masked score of the query in row `r` with key `x` of its sequence, in one head. -/
def score (q k : FVec Ideal S16384x2048 .bf16) (r : Fin 16384) (h : Fin 8) (x : Fin 2048) : EReal :=
  if x.val / 64 ≤ r.val % 2048 / 64 then dotOf q k r (keyRow r x) h else ⊥

theorem scores_at (q k : FVec Ideal S16384x2048 .bf16) (r : Fin 16384) (h : Fin 8) (j : Fin 2048) :
    scores q k (ix4 ⟨r.val / 2048, by omega⟩ h ⟨r.val % 2048, by omega⟩ j) = score q k r h j := by
  have h' : ∀ b i, scores q k (ix4 b h i j) = Scalar.select (allowed (ix2 i j)) (dots q k (ix4 b h i j)) (Ideal.ofBits .f32 0xFF800000#32) := by
    intro b i
    pointwise [scores]
    rfl
  rw [h', ofBits_bot, allowed_at, dots_at]
  have e : (⟨r.val / 2048 * 2048 + r.val % 2048, by omega⟩ : Fin 16384) = r := Fin.ext (Nat.div_add_mod' r.val 2048)
  simp only [e, score, keyRow]
  split <;> rfl

/-- The attention, at an entry. -/
theorem attention_at (q k : FVec Ideal S16384x2048 .bf16) (v : FVec Ideal S16384x1024 .bf16) (r : Fin 16384) (e : Fin 1024) :
    attention q k v (ix2 r e) = ∑ x : Fin 2048, v (ix2 (keyRow r x) e)
      * Ideal.div (Ideal.exp (score q k r ⟨e.val / 128, by omega⟩ x - Cert.Attn.top (score q k r ⟨e.val / 128, by omega⟩)))
          (∑ y : Fin 2048, Ideal.exp (score q k r ⟨e.val / 128, by omega⟩ y - Cert.Attn.top (score q k r ⟨e.val / 128, by omega⟩))) := by
  rw [attention, mixed_at]
  simp only [divided_at, exps_at, scores_at]
  rfl

end Cert.Reference5Ideal.Hand

end
-- ==== Proof.AttnValue.lean ====
/-
  The chunk-causal attention: what the launch leaves in its result is the reference's own attention, when the queries
  and the keys are finite.
-/
module

public import proofs.«01_k».proof.Proof.Gen.Kernel5Ideal.Frame
public import proofs.«01_k».proof.Proof.AttnReference

@[expose] public section

set_option maxRecDepth 16384

noncomputable section

open Idealize.ShloMosaic Idealize.ShloMosaic.TcCoe Idealize.SL.Sem

namespace Cert.Kernel5Ideal.Hand

open Cert.Kernel5Ideal Cert.Kernel5Ideal.Gen Cert.Reference5Ideal.Hand

/-! ## The mask -/

/-- A word divided by 64 and rounded down, as the kernel spells it. -/
def floorWord (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem floorWord_ofNat : ∀ i : Fin 2048, floorWord (BitVec.ofNat 32 i.val) = BitVec.ofNat 32 (i.val / 64) := by
  decide +kernel

/-- The mask of key `j` and of row `i` of the block of queries that begins at `o`. -/
theorem mask_word (o i j : ℕ) (hi : o + i < 2048) (hj : j < 2048) :
    IntOp.cmpi .sle (floorWord (BitVec.ofNat 32 j)) (floorWord (IntOp.addi (BitVec.ofNat 32 o) (BitVec.ofNat 32 i)))
      = if j / 64 ≤ (o + i) / 64 then 1#1 else 0#1 := by
  have e : IntOp.addi (BitVec.ofNat 32 o) (BitVec.ofNat 32 i) = BitVec.ofNat 32 (o + i) := (BitVec.ofNat_add o i).symm
  rw [e, floorWord_ofNat ⟨j, hj⟩, floorWord_ofNat ⟨o + i, hi⟩]
  exact words_le ⟨j / 64, by omega⟩ ⟨(o + i) / 64, by omega⟩

/-! ## One head -/

theorem inv_root : Named.named (F := Ideal) (φ := .f32) κ "inv_sqrt_width" 0x3D93CD3A#32 = (((Real.sqrt 192)⁻¹ : ℝ) : EReal) :=
  IdealRules.named_const.ideal_named_scalar _ _ _ _ rfl
theorem neg_inf : Named.named (F := Ideal) (φ := .f32) κ "neg_inf" 0xF149F2CA#32 = (⊥ : EReal) :=
  IdealRules.named_const.ideal_named_scalar _ _ _ _ rfl

/-- The kernel's masked score. -/
def cell {n : ℕ} (w : Fin n → BitVec 1) (q : Fin 256 → EReal) (k : Fin n → Fin 256 → EReal) (x : Fin n) : EReal :=
  Scalar.select (w x) ((∑ d, q d * k x d) * Named.named (F := Ideal) (φ := .f32) κ "inv_sqrt_width" 0x3D93CD3A#32)
    (Named.named (F := Ideal) (φ := .f32) κ "neg_inf" 0xF149F2CA#32)

/-- No entry is infinite. -/
def Finite {S : Shape} (X : FVec Ideal S .bf16) : Prop := ∀ i, X i ≠ (⊤ : EReal) ∧ X i ≠ (⊥ : EReal)

theorem dotOf_real {Q K : FVec Ideal S16384x2048 .bf16} (hQ : Finite Q) (hK : Finite K) (r r' : Fin 16384) (h : Fin 8) :
    ∃ a : ℝ, dotOf Q K r r' h = (a : EReal) := by
  obtain ⟨a, ha⟩ := Cert.Attn.dot_real (fun x : Fin 256 => Q (ix2 r ⟨h.val * 256 + x.val, by omega⟩))
    (fun x : Fin 256 => K (ix2 r' ⟨h.val * 256 + x.val, by omega⟩)) (fun _ => hQ _) (fun _ => hK _)
  refine ⟨a * (Real.sqrt 192)⁻¹, ?_⟩
  rw [dotOf]
  refine (congrArg (fun z : EReal => z * (((Real.sqrt 192)⁻¹ : ℝ) : EReal)) ha).trans ?_
  exact (EReal.coe_mul _ _).symm

/-- One head's average over the first `n` keys is the reference's over all of them, when the rest are masked. -/
theorem head {n : ℕ} (hn : n ≤ 2048) (h64 : n % 64 = 0) {Q K : FVec Ideal S16384x2048 .bf16} (V : FVec Ideal S16384x1024 .bf16)
    (hQ : Finite Q) (hK : Finite K) (r : Fin 16384) (E : Fin 1024) (hr : r.val % 2048 < n)
    (w : Fin n → BitVec 1) (q : Fin 256 → EReal) (k : Fin n → Fin 256 → EReal) (v : Fin n → EReal)
    (hw : ∀ x, w x = if x.val / 64 ≤ r.val % 2048 / 64 then 1#1 else 0#1)
    (hq : ∀ d, q d = Q (ix2 r ⟨E.val / 128 * 256 + d.val, by omega⟩))
    (hk : ∀ x d, k x d = K (ix2 (keyRow r (Fin.castLE hn x)) ⟨E.val / 128 * 256 + d.val, by omega⟩))
    (hv : ∀ x, v x = V (ix2 (keyRow r (Fin.castLE hn x)) E)) :
    Ideal.div (∑ x, Ideal.exp (cell w q k x - Finset.fold max (Ideal.ofBits .f32 0xFF800000#32) (fun x => cell w q k x) Finset.univ) * v x)
        (∑ x, Ideal.exp (cell w q k x - Finset.fold max (Ideal.ofBits .f32 0xFF800000#32) (fun x => cell w q k x) Finset.univ))
      = attention Q K V (ix2 r E) := by
  have hS : ∀ x, cell w q k x = score Q K r ⟨E.val / 128, by omega⟩ (Fin.castLE hn x) := by
    intro x
    rw [cell, hw, inv_root, neg_inf]
    simp only [hq, hk, score, dotOf, Fin.val_castLE]
    split <;> rfl
  rw [ofBits_bot, attention_at]
  refine Cert.Attn.average hn (score Q K r ⟨E.val / 128, by omega⟩) (fun x => V (ix2 (keyRow r x) E)) ?_
    ⟨r.val % 2048, Nat.mod_lt _ (by norm_num)⟩ ?_ ?_ (cell w q k) v hS hv
  · intro x
    rw [score]
    split
    · obtain ⟨a, ha⟩ := dotOf_real hQ hK r (keyRow r x) ⟨E.val / 128, by omega⟩
      rw [ha]; exact EReal.coe_ne_top a
    · exact bot_ne_top
  · obtain ⟨a, ha⟩ := dotOf_real hQ hK r (keyRow r ⟨r.val % 2048, Nat.mod_lt _ (by norm_num)⟩) ⟨E.val / 128, by omega⟩
    rw [score, if_pos (le_refl _), ha]; exact EReal.coe_ne_bot a
  · intro x hx
    rw [score, if_neg (by omega)]

/-- A head of a block of queries 0 blocks into its sequence. -/
theorem core_A {Q K : FVec Ideal S16384x2048 .bf16} {V : FVec Ideal S16384x1024 .bf16} (hQ : Finite Q) (hK : Finite K)
    (w : IVec S256x256 1) (q : FVec Ideal S256x256 .bf16) (k : FVec Ideal S256x256 .bf16) (v : FVec Ideal S256x128 .bf16)
    (x : S256x128.Idx) (r : Fin 16384) (E : Fin 1024) (hr : r.val % 2048 = 0 + (x 0).val)
    (hw : ∀ j, w (ix2 (x 0) j) = if j.val / 64 ≤ (0 + (x 0).val) / 64 then 1#1 else 0#1)
    (hq : ∀ d : Fin 256, q (ix2 (x 0) d) = Q (ix2 r ⟨E.val / 128 * 256 + d.val, by omega⟩))
    (hk : ∀ (j : Fin 256) (d : Fin 256), k (ix2 j d) = K (ix2 (keyRow r ⟨j.val, by omega⟩) ⟨E.val / 128 * 256 + d.val, by omega⟩))
    (hv : ∀ j : Fin 256, v (ix2 j (x 1)) = V (ix2 (keyRow r ⟨j.val, by omega⟩) E)) :
    k0_pay10 (F := Ideal) w q k v x = attention Q K V (ix2 r E) := by
  pointwise [k0_pay10]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-- A head of a block of queries 1 blocks into its sequence. -/
theorem core_B {Q K : FVec Ideal S16384x2048 .bf16} {V : FVec Ideal S16384x1024 .bf16} (hQ : Finite Q) (hK : Finite K)
    (w : IVec S256x512 1) (q : FVec Ideal S256x256 .bf16) (k : FVec Ideal S512x256 .bf16) (v : FVec Ideal S512x128 .bf16)
    (x : S256x128.Idx) (r : Fin 16384) (E : Fin 1024) (hr : r.val % 2048 = 256 + (x 0).val)
    (hw : ∀ j, w (ix2 (x 0) j) = if j.val / 64 ≤ (256 + (x 0).val) / 64 then 1#1 else 0#1)
    (hq : ∀ d : Fin 256, q (ix2 (x 0) d) = Q (ix2 r ⟨E.val / 128 * 256 + d.val, by omega⟩))
    (hk : ∀ (j : Fin 512) (d : Fin 256), k (ix2 j d) = K (ix2 (keyRow r ⟨j.val, by omega⟩) ⟨E.val / 128 * 256 + d.val, by omega⟩))
    (hv : ∀ j : Fin 512, v (ix2 j (x 1)) = V (ix2 (keyRow r ⟨j.val, by omega⟩) E)) :
    k0_pay30 (F := Ideal) w q k v x = attention Q K V (ix2 r E) := by
  pointwise [k0_pay30]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-- A head of a block of queries 2 blocks into its sequence. -/
theorem core_C {Q K : FVec Ideal S16384x2048 .bf16} {V : FVec Ideal S16384x1024 .bf16} (hQ : Finite Q) (hK : Finite K)
    (w : IVec S256x768 1) (q : FVec Ideal S256x256 .bf16) (k : FVec Ideal S768x256 .bf16) (v : FVec Ideal S768x128 .bf16)
    (x : S256x128.Idx) (r : Fin 16384) (E : Fin 1024) (hr : r.val % 2048 = 512 + (x 0).val)
    (hw : ∀ j, w (ix2 (x 0) j) = if j.val / 64 ≤ (512 + (x 0).val) / 64 then 1#1 else 0#1)
    (hq : ∀ d : Fin 256, q (ix2 (x 0) d) = Q (ix2 r ⟨E.val / 128 * 256 + d.val, by omega⟩))
    (hk : ∀ (j : Fin 768) (d : Fin 256), k (ix2 j d) = K (ix2 (keyRow r ⟨j.val, by omega⟩) ⟨E.val / 128 * 256 + d.val, by omega⟩))
    (hv : ∀ j : Fin 768, v (ix2 j (x 1)) = V (ix2 (keyRow r ⟨j.val, by omega⟩) E)) :
    k0_pay50 (F := Ideal) w q k v x = attention Q K V (ix2 r E) := by
  pointwise [k0_pay50]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-- A head of a block of queries 3 blocks into its sequence. -/
theorem core_D {Q K : FVec Ideal S16384x2048 .bf16} {V : FVec Ideal S16384x1024 .bf16} (hQ : Finite Q) (hK : Finite K)
    (w : IVec S256x1024 1) (q : FVec Ideal S256x256 .bf16) (k : FVec Ideal S1024x256 .bf16) (v : FVec Ideal S1024x128 .bf16)
    (x : S256x128.Idx) (r : Fin 16384) (E : Fin 1024) (hr : r.val % 2048 = 768 + (x 0).val)
    (hw : ∀ j, w (ix2 (x 0) j) = if j.val / 64 ≤ (768 + (x 0).val) / 64 then 1#1 else 0#1)
    (hq : ∀ d : Fin 256, q (ix2 (x 0) d) = Q (ix2 r ⟨E.val / 128 * 256 + d.val, by omega⟩))
    (hk : ∀ (j : Fin 1024) (d : Fin 256), k (ix2 j d) = K (ix2 (keyRow r ⟨j.val, by omega⟩) ⟨E.val / 128 * 256 + d.val, by omega⟩))
    (hv : ∀ j : Fin 1024, v (ix2 j (x 1)) = V (ix2 (keyRow r ⟨j.val, by omega⟩) E)) :
    k0_pay70 (F := Ideal) w q k v x = attention Q K V (ix2 r E) := by
  pointwise [k0_pay70]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-- A head of a block of queries 4 blocks into its sequence. -/
theorem core_E {Q K : FVec Ideal S16384x2048 .bf16} {V : FVec Ideal S16384x1024 .bf16} (hQ : Finite Q) (hK : Finite K)
    (w : IVec S256x1280 1) (q : FVec Ideal S256x256 .bf16) (k : FVec Ideal S1280x256 .bf16) (v : FVec Ideal S1280x128 .bf16)
    (x : S256x128.Idx) (r : Fin 16384) (E : Fin 1024) (hr : r.val % 2048 = 1024 + (x 0).val)
    (hw : ∀ j, w (ix2 (x 0) j) = if j.val / 64 ≤ (1024 + (x 0).val) / 64 then 1#1 else 0#1)
    (hq : ∀ d : Fin 256, q (ix2 (x 0) d) = Q (ix2 r ⟨E.val / 128 * 256 + d.val, by omega⟩))
    (hk : ∀ (j : Fin 1280) (d : Fin 256), k (ix2 j d) = K (ix2 (keyRow r ⟨j.val, by omega⟩) ⟨E.val / 128 * 256 + d.val, by omega⟩))
    (hv : ∀ j : Fin 1280, v (ix2 j (x 1)) = V (ix2 (keyRow r ⟨j.val, by omega⟩) E)) :
    k0_pay90 (F := Ideal) w q k v x = attention Q K V (ix2 r E) := by
  pointwise [k0_pay90]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-- A head of a block of queries 5 blocks into its sequence. -/
theorem core_F {Q K : FVec Ideal S16384x2048 .bf16} {V : FVec Ideal S16384x1024 .bf16} (hQ : Finite Q) (hK : Finite K)
    (w : IVec S256x1536 1) (q : FVec Ideal S256x256 .bf16) (k : FVec Ideal S1536x256 .bf16) (v : FVec Ideal S1536x128 .bf16)
    (x : S256x128.Idx) (r : Fin 16384) (E : Fin 1024) (hr : r.val % 2048 = 1280 + (x 0).val)
    (hw : ∀ j, w (ix2 (x 0) j) = if j.val / 64 ≤ (1280 + (x 0).val) / 64 then 1#1 else 0#1)
    (hq : ∀ d : Fin 256, q (ix2 (x 0) d) = Q (ix2 r ⟨E.val / 128 * 256 + d.val, by omega⟩))
    (hk : ∀ (j : Fin 1536) (d : Fin 256), k (ix2 j d) = K (ix2 (keyRow r ⟨j.val, by omega⟩) ⟨E.val / 128 * 256 + d.val, by omega⟩))
    (hv : ∀ j : Fin 1536, v (ix2 j (x 1)) = V (ix2 (keyRow r ⟨j.val, by omega⟩) E)) :
    k0_pay110 (F := Ideal) w q k v x = attention Q K V (ix2 r E) := by
  pointwise [k0_pay110]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-- A head of a block of queries 6 blocks into its sequence. -/
theorem core_G {Q K : FVec Ideal S16384x2048 .bf16} {V : FVec Ideal S16384x1024 .bf16} (hQ : Finite Q) (hK : Finite K)
    (w : IVec S256x1792 1) (q : FVec Ideal S256x256 .bf16) (k : FVec Ideal S1792x256 .bf16) (v : FVec Ideal S1792x128 .bf16)
    (x : S256x128.Idx) (r : Fin 16384) (E : Fin 1024) (hr : r.val % 2048 = 1536 + (x 0).val)
    (hw : ∀ j, w (ix2 (x 0) j) = if j.val / 64 ≤ (1536 + (x 0).val) / 64 then 1#1 else 0#1)
    (hq : ∀ d : Fin 256, q (ix2 (x 0) d) = Q (ix2 r ⟨E.val / 128 * 256 + d.val, by omega⟩))
    (hk : ∀ (j : Fin 1792) (d : Fin 256), k (ix2 j d) = K (ix2 (keyRow r ⟨j.val, by omega⟩) ⟨E.val / 128 * 256 + d.val, by omega⟩))
    (hv : ∀ j : Fin 1792, v (ix2 j (x 1)) = V (ix2 (keyRow r ⟨j.val, by omega⟩) E)) :
    k0_pay130 (F := Ideal) w q k v x = attention Q K V (ix2 r E) := by
  pointwise [k0_pay130]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-- A head of a block of queries 7 blocks into its sequence. -/
theorem core_H {Q K : FVec Ideal S16384x2048 .bf16} {V : FVec Ideal S16384x1024 .bf16} (hQ : Finite Q) (hK : Finite K)
    (w : IVec S256x2048 1) (q : FVec Ideal S256x256 .bf16) (k : FVec Ideal S2048x256 .bf16) (v : FVec Ideal S2048x128 .bf16)
    (x : S256x128.Idx) (r : Fin 16384) (E : Fin 1024) (hr : r.val % 2048 = 1792 + (x 0).val)
    (hw : ∀ j, w (ix2 (x 0) j) = if j.val / 64 ≤ (1792 + (x 0).val) / 64 then 1#1 else 0#1)
    (hq : ∀ d : Fin 256, q (ix2 (x 0) d) = Q (ix2 r ⟨E.val / 128 * 256 + d.val, by omega⟩))
    (hk : ∀ (j : Fin 2048) (d : Fin 256), k (ix2 j d) = K (ix2 (keyRow r ⟨j.val, by omega⟩) ⟨E.val / 128 * 256 + d.val, by omega⟩))
    (hv : ∀ j : Fin 2048, v (ix2 j (x 1)) = V (ix2 (keyRow r ⟨j.val, by omega⟩) E)) :
    k0_pay150 (F := Ideal) w q k v x = attention Q K V (ix2 r E) := by
  pointwise [k0_pay150]
  exact head (by norm_num) (by norm_num) V hQ hK r E (by have := (x 0).isLt; change _ < 256 at this; omega) (fun j => w (ix2 (x 0) j)) (fun d => q (ix2 (x 0) d)) (fun j d => k (ix2 j d))
    (fun j => v (ix2 j (x 1))) (by rw [hr]; exact hw) hq hk hv

/-! ## The launch -/

variable (m : (ℓ : Loc nD τ sig) → Buf (Elt Ideal) ℓ)

theorem idx : ∀ t : Fin cfg0.N, win0_0.index t = ![t.val, 0] ∧ win0_1.index t = ![t.val / 8, 0] ∧ win0_2.index t = ![t.val / 8, 0]
    ∧ win0_3.index t = ![t.val, 0] :=
  (by decide +kernel : ∀ t : Fin grid0.N, _)

theorem row_lt (t : Fin cfg0.N) (p : Fin 256) : 256 * t.val + p.val < 16384 := by
  have h := t.isLt; have hN : cfg0.N = 64 := N_0; omega

/-- Row `p` of point `t`, among all rows. -/
def row (t : Fin cfg0.N) (p : Fin 256) : Fin 16384 := ⟨256 * t.val + p.val, row_lt t p⟩

/-- The result on core `c`. -/
def out3 (c : Dev nD) : FVec Ideal S16384x1024 .bf16 :=
  attention (m ((c : Thread nD τ).loc main_arg0)) (m ((c : Thread nD τ).loc main_arg1)) (m ((c : Thread nD τ).loc main_arg2))

end Cert.Kernel5Ideal.Hand

end
-- ==== Proof.AttnFinite.lean ====
/-
  Where the condition on the scores holds, no query and no key is infinite.
-/
module

public import proofs.«01_k».proof.Pre_scores_finite
public import proofs.«01_k».proof.Proof.AttnValue

@[expose] public section

noncomputable section

open Idealize.ShloMosaic Idealize.ShloMosaic.TcCoe Idealize.SL.Sem

namespace Cert.Pre_scores_finite

theorem facts : Facts where
  bitsLt_bf16_f32 := Cert.Kernel5Ideal.Gen.bitsLt_bf16_f32
  bcast_S_S16384x2048 := by decide

attribute [local instance] facts

/-- Two conditions hold together where the conjunction of their bits is one. -/
theorem both_of_andi (p q : Bool) (h : IntOp.andi (BitVec.ofBool p) (BitVec.ofBool q) = 1#1) : p = true ∧ q = true := by
  cases p <;> cases q <;> revert h <;> decide

/-- A number whose absolute value is below infinity is not infinite. -/
theorem not_infinite (x : EReal) (h : max x (-x) < ⊤) : x ≠ ⊤ ∧ x ≠ ⊥ := by
  constructor <;> rintro rfl <;> simp at h

/-- Where the predicate holds, every entry of the queries and of the keys is finite. -/
theorem finite {a0 a1 : FVec Ideal S16384x2048 .bf16} {a2 : FVec Ideal S16384x1024 .bf16}
    (h : fn (F := Ideal) a0 a1 a2 = fun _ => 1#1) : Cert.Kernel5Ideal.Hand.Finite a0 ∧ Cert.Kernel5Ideal.Hand.Finite a1 := by
  have e : ∀ y, max (a0 y : EReal) (-(a0 y : EReal)) < ⊤ ∧ max (a1 y : EReal) (-(a1 y : EReal)) < ⊤ := by
    intro y
    have e := congrFun h y
    have e' : fn (F := Ideal) a0 a1 a2 y = IntOp.andi (BitVec.ofBool (decide (max (a0 y : EReal) (-(a0 y : EReal)) < Ideal.ofBits .f32 0x7F800000#32)))
        (BitVec.ofBool (decide (max (a1 y : EReal) (-(a1 y : EReal)) < Ideal.ofBits .f32 0x7F800000#32))) := by
      pointwise [fn]
      rfl
    obtain ⟨p, q⟩ := both_of_andi _ _ (e'.symm.trans e)
    rw [Cert.Reference5Ideal.Hand.ofBits_top] at p q
    exact ⟨of_decide_eq_true p, of_decide_eq_true q⟩
  exact ⟨fun y => not_infinite _ (e y).1, fun y => not_infinite _ (e y).2⟩

end Cert.Pre_scores_finite

end
-- ==== Proof.AttnPoints.lean ====
/-
  The chunk-causal attention at one point of the launch.
-/
module

public import proofs.«01_k».proof.Proof.AttnValue

@[expose] public section

set_option maxRecDepth 16384

noncomputable section

open Idealize.ShloMosaic Idealize.ShloMosaic.TcCoe Idealize.SL.Sem

namespace Cert.Kernel5Ideal.Hand

open Cert.Kernel5Ideal Cert.Kernel5Ideal.Gen Cert.Reference5Ideal.Hand

variable (m : (ℓ : Loc nD τ sig) → Buf (Elt Ideal) ℓ)

set_option maxHeartbeats 4000000 in
/-- What a point leaves in its block of the result. -/
theorem point (c : Dev nD) (hQ : Finite (m ((c : Thread nD τ).loc main_arg0))) (hK : Finite (m ((c : Thread nD τ).loc main_arg1)))
    (t : Fin cfg0.N) (y : S256x1024.Idx) :
    outsAt0 m c t.val t.isLt y = out3 m c (ix2 (row t (y 0)) (y 1)) := by
  have h8 : t.val % 8 = 0 ∨ t.val % 8 = 1 ∨ t.val % 8 = 2 ∨ t.val % 8 = 3 ∨ t.val % 8 = 4 ∨ t.val % 8 = 5 ∨ t.val % 8 = 6 ∨ t.val % 8 = 7 := by omega
  obtain hc | hc | hc | hc | hc | hc | hc | hc := h8
  case' inl =>
    rw [outsAt0_A m c t (by omega) (by omega) (by omega) (by omega) (by omega) (by omega) (by omega) (by omega)]
    frame_out
    canon_tiles x h
    all_goals refine core_A hQ hK _ _ _ _ x _ _ ?_ ?_ ?_ ?_ ?_
  case' inr.inl =>
    rw [outsAt0_B m c t (by omega) (by omega) (by omega) (by omega) (by omega) (by omega) (by omega) (by omega)]
    frame_out
    canon_tiles x h
    all_goals refine core_B hQ hK _ _ _ _ x _ _ ?_ ?_ ?_ ?_ ?_
  case' inr.inr.inl =>
    rw [outsAt0_C m c t (by omega) (by omega) (by omega) (by omega) (by omega) (by omega) (by omega) (by omega)]
    frame_out
    canon_tiles x h
    all_goals refine core_C hQ hK _ _ _ _ x _ _ ?_ ?_ ?_ ?_ ?_
  case' inr.inr.inr.inl =>
    rw [outsAt0_D m c t (by omega) (by omega) (by omega) (by omega) (by omega) (by omega) (by omega) (by omega)]
    frame_out
    canon_tiles x h
    all_goals refine core_D hQ hK _ _ _ _ x _ _ ?_ ?_ ?_ ?_ ?_
  case' inr.inr.inr.inr.inl =>
    rw [outsAt0_E m c t (by omega) (by omega) (by omega) (by omega) (by omega) (by omega) (by omega) (by omega)]
    frame_out
    canon_tiles x h
    all_goals refine core_E hQ hK _ _ _ _ x _ _ ?_ ?_ ?_ ?_ ?_
  case' inr.inr.inr.inr.inr.inl =>
    rw [outsAt0_F m c t (by omega) (by omega) (by omega) (by omega) (by omega) (by omega) (by omega) (by omega)]
    frame_out
    canon_tiles x h
    all_goals refine core_F hQ hK _ _ _ _ x _ _ ?_ ?_ ?_ ?_ ?_
  case' inr.inr.inr.inr.inr.inr.inl =>
    rw [outsAt0_G m c t (by omega) (by omega) (by omega) (by omega) (by omega) (by omega) (by omega) (by omega)]
    frame_out
    canon_tiles x h
    all_goals refine core_G hQ hK _ _ _ _ x _ _ ?_ ?_ ?_ ?_ ?_
  case' inr.inr.inr.inr.inr.inr.inr =>
    rw [outsAt0_H m c t (by omega) (by omega) (by omega) (by omega) (by omega) (by omega) (by omega) (by omega)]
    frame_out
    canon_tiles x h
    all_goals refine core_H hQ hK _ _ _ _ x _ _ ?_ ?_ ?_ ?_ ?_
  all_goals first
    | (show (256 * t.val + _) % 2048 = _; omega)
    | (intro j; pointwise [k0_pay5, k0_pay25, k0_pay45, k0_pay65, k0_pay85, k0_pay105, k0_pay125, k0_pay145]
       refine (mask_word _ _ _ (by omega) (by omega)).trans ?_; simp only [Nat.zero_add])
    | (intro d; pointwise; blk_point [iblk, V, idx t, row, keyRow]; done)
    | (intro j d; pointwise; blk_point [iblk, V, idx t, row, keyRow]; done)

end Cert.Kernel5Ideal.Hand

end
-- ==== Proof.AttnClaims.lean ====
/-
  The claims of the chunk-causal attention.
-/
module

public import proofs.«01_k».proof.Defs
public import proofs.«01_k».proof.Proof.Gen.Kernel5.Frame
public import proofs.«01_k».proof.Proof.AttnFinite
public import proofs.«01_k».proof.Proof.AttnPoints
public import Idealize.ShloMosaic.Lib.Quiescent

@[expose] public section

set_option maxRecDepth 16384

noncomputable section

open Idealize.ShloMosaic Idealize.ShloMosaic.TcCoe Idealize.SL.Sem

namespace Cert.Kernel5Ideal.Hand

open Cert.Kernel5Ideal Cert.Kernel5Ideal.Gen

variable (m : (ℓ : Loc nD τ sig) → Buf (Elt Ideal) ℓ)

/-- What the launch leaves in the result array. -/
theorem final (c : Dev nD) (hQ : Finite (m ((c : Thread nD τ).loc main_arg0))) (hK : Finite (m ((c : Thread nD τ).loc main_arg1))) :
    (dats m 0 c).arrAt 3 (cfgs 0).N = out3 m c := by
  refine (dats m 0 c).arrAt_eq_of_covers 3 _ (by decide +kernel) fun t _ y => ?_
  have e : ((cfg0.win 3).blk t).view.emb y = ix2 (row t (y 0 : Fin 256)) (y 1 : Fin 1024) := by blk_ext [idx t, row]
  rw [e]
  blk_simp
  rw [after0_3]
  exact point m c hQ hK t y

end Cert.Kernel5Ideal.Hand

namespace Cert.Proof

attribute [local instance] Cert.Pre_scores_finite.facts

theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_pi5_finite : Cert.quiescent_Kernel5Ideal_pre_scores_finite := fun m ρ _ => Cert.Kernel5Ideal.Gen.frame m ρ
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem frame_ri5_finite : Cert.quiescent_Reference5Ideal_pre_scores_finite := fun m ρ _ => frame_ri5 m ρ trivial

theorem preserves5 : Cert.preserves_Kernel5_Kernel5Ideal :=
  ⟨IdealRules.named_const.statement Cert.Kernel5Ideal.κ "inv_sqrt_width" .f32 0x3D93CD3A#32 _ rfl,
    IdealRules.named_const.statement Cert.Kernel5Ideal.κ "neg_inf" .f32 0xF149F2CA#32 _ rfl⟩

theorem algebraic5 : Cert.algebraic_Kernel5Ideal_Reference5Ideal_pre_scores_finite := by
  intro m g m' g' hp ha
  refine ⟨fun c => Cert.Kernel5Ideal.Hand.out3 m c, ?_, ?_⟩
  · refine (θ_run _ _ _).mono (fun r hr c => ⟨((hr.1 c).1 3).trans ?_, hr.2.1 c⟩)
      (θ_run_and (Cert.Kernel5Ideal.Gen.run_main m g) (Cert.Kernel5Ideal.Gen.frame m g))
    obtain ⟨hQ, hK⟩ := Cert.Pre_scores_finite.finite (hp c)
    exact Cert.Kernel5Ideal.Hand.final m c hQ hK
  · refine (θ_run _ _ _).mono (fun r hr c => ⟨?_, (hr c).2⟩) (Cert.Reference5Ideal.Value.run (F := Ideal) m' g')
    obtain ⟨h0, h1, h2⟩ := ha c
    refine (hr c).1.trans ((Cert.Reference5Ideal.Hand.res_eq m' c).trans ?_)
    rw [h0, h1, h2]
    rfl

end Cert.Proof

end
-- ==== Proof.lean ====
/-
  The certificate's claim, put together from the frames, the rules' statements and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.DenseClaims
public import proofs.«01_k».proof.Proof.AttnClaims

@[expose] public section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_experts_exist.facts, Cert.Pre_scores_finite.facts,
  frame_p, frame_pi, frame_ri, frame_p2, frame_pi2, frame_ri2, frame_p3, frame_pi3, frame_ri3, frame_p4, frame_pi4, frame_ri4,
  frame_p5, frame_pi5, frame_pi5_finite, frame_ri5, frame_ri5_finite,
  preserves, algebraic, trivial, algebraic2, trivial, algebraic3, trivial, algebraic4, preserves5, algebraic5⟩

end Cert.Proof

end
